-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4x4096x3 : Shape := ⟨3, ![4, 4096, 3]⟩
abbrev S4x3x4096 : Shape := ⟨3, ![4, 3, 4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x17 : Shape := ⟨3, ![4, 4096, 17]⟩
abbrev S4x4096x16 : Shape := ⟨3, ![4, 4096, 16]⟩

class Facts : Prop where
  transposes_S4x4096x3_S4x3x4096_0_2_1 : S4x4096x3.Transposes [0, 2, 1] S4x3x4096
  bcast_S_S4x4096x4096 : S_.BroadcastsInDim S4x4096x4096 (![] : Fin 0 → Fin S4x4096x4096.rank)
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  transposes_S4x4096x1_S4x1x4096_0_2_1 : S4x4096x1.Transposes [0, 2, 1] S4x1x4096
  bcast_S4x1x4096_S4x4096x4096_0_1_2 : S4x1x4096.BroadcastsInDim S4x4096x4096 (![0, 1, 2] : Fin 3 → Fin S4x4096x4096.rank)
  sliceFits_S4x4096x4096_S4x4096x17 : S4x4096x4096.Slices (fun _ => 0) S4x4096x17
  slices_S4x4096x17_S4x4096x16_0_0_0 : S4x4096x17.Slices ![0, 0, 0] S4x4096x16
  slices_S4x4096x17_S4x4096x16_0_0_1 : S4x4096x17.Slices ![0, 0, 1] S4x4096x16
  reducesTo_S4x4096x16_S_d0_1_2 : S4x4096x16.ReducesTo [0, 1, 2] S_
  dot_S4x4096x3_S4x3x4096_S4x4096x4096_2_1_1_2_0_0_wf : DotDims.WF S4x4096x3 S4x3x4096 S4x4096x4096 [2] [1] [1] [2] [0] [0]

variable [Facts]

def dot_S4x4096x3_S4x3x4096_S4x4096x4096_2_1_1_2_0_0 : DotDims S4x4096x3 S4x3x4096 S4x4096x4096 where
  lhsContracting := [2]
  rhsContracting := [1]
  lhsNonContracting := [1]
  rhsNonContracting := [2]
  lhsBatch := [0]
  rhsBatch := [0]
  wf := dot_S4x4096x3_S4x3x4096_S4x4096x4096_2_1_1_2_0_0_wf
def fn_where {F : FTy → Type} [FloatOps F] (arg0 : IVec S4x4096x4096 1) (arg1 : FVec F S_ .f32) (arg2 : FVec F S4x4096x4096 .f32) : FVec F S4x4096x4096 .f32 :=
  let v0 : FVec F S_ .f32 := id arg1
  let v1 : FVec F S4x4096x4096 .f32 := broadcastInDim S4x4096x4096 ![] bcast_S_S4x4096x4096 v0
  let v2 : FVec F S4x4096x4096 .f32 := select arg0 v1 arg2
  v2

def fn_part1 {F : FTy → Type} [FloatOps F] (main_v16 : FVec F S4x4096x16 .f32) (main_v17 : FVec F S4x4096x16 .f32) : IVec S_ 1 :=
  let main_v18 : IVec S4x4096x16 1 := cmpf .ogt main_v16 main_v17
  let main_c : IVec S_ 1 := constantI S_ 1 1#1
  let main_v19 : IVec S_ 1 := (fun x v => Host.reduce IntOp.andi x v reducesTo_S4x4096x16_S_d0_1_2 h_S_) main_v18 main_c
  main_v19

def fn {F : FTy → Type} [FloatOps F] (main_arg0 : FVec F S4x4096x3 .f32) : IVec S_ 1 :=
  let main_v0 : FVec F S4x3x4096 .f32 := (transpose S4x3x4096 [0, 2, 1] · transposes_S4x4096x3_S4x3x4096_0_2_1) main_arg0
  let main_v1 : FVec F S4x4096x4096 .f32 := (fun l r => Host.dotGeneral dot_S4x4096x3_S4x3x4096_S4x4096x4096_2_1_1_2_0_0 none l r) main_arg0 main_v0
  let main_cst : FVec F S_ .f32 := constant S_ .f32 0xC0000000#32
  let main_v2 : FVec F S4x4096x4096 .f32 := broadcastInDim S4x4096x4096 ![] bcast_S_S4x4096x4096 main_cst
  let main_v3 : FVec F S4x4096x4096 .f32 := mulf main_v2 main_v1
  let main_v4 : FVec F S4x4096x3 .f32 := mulf main_arg0 main_arg0
  let main_cst_0 : FVec F S_ .f32 := constant S_ .f32 0x00000000#32
  let main_v5 : FVec F S4x4096 .f32 := (fun x v => Host.reduceAdd x v reducesTo_S4x4096x3_S4x4096_d2 h_S_) main_v4 main_cst_0
  let main_v6 : FVec F S4x4096x1 .f32 := broadcastInDim S4x4096x1 ![0, 1] bcast_S4x4096_S4x4096x1_0_1 main_v5
  let main_v7 : FVec F S4x4096x4096 .f32 := broadcastInDim S4x4096x4096 ![0, 1, 2] bcast_S4x4096x1_S4x4096x4096_0_1_2 main_v6
  let main_v8 : FVec F S4x4096x4096 .f32 := addf main_v7 main_v3
  let main_v9 : FVec F S4x1x4096 .f32 := (transpose S4x1x4096 [0, 2, 1] · transposes_S4x4096x1_S4x1x4096_0_2_1) main_v6
  let main_v10 : FVec F S4x4096x4096 .f32 := broadcastInDim S4x4096x4096 ![0, 1, 2] bcast_S4x1x4096_S4x4096x4096_0_1_2 main_v9
  let main_v11 : FVec F S4x4096x4096 .f32 := addf main_v8 main_v10
  let main_cst_1 : FVec F S_ .f32 := constant S_ .f32 0x3F000000#32
  let main_v12 : FVec F S4x4096x4096 .f32 := broadcastInDim S4x4096x4096 ![] bcast_S_S4x4096x4096 main_cst_1
  let main_v13 : IVec S4x4096x4096 1 := cmpf .ogt main_v11 main_v12
  let main_cst_2 : FVec F S_ .f32 := constant S_ .f32 0x7F800000#32
  let main_v14 : FVec F S4x4096x4096 .f32 := fn_where (F := F) main_v13 main_cst_2 main_v11
  let main_v15 : FVec F S4x4096x4096 .f32 := Host.negf main_v14
  let main_values : FVec F S4x4096x17 .f32 := (fun x => (Host.topK S4x4096x17 2 (FloatOps.cmpfTotal .gt) x sliceFits_S4x4096x4096_S4x4096x17).1) main_v15
  let main_indices : IVec S4x4096x17 32 := (fun x => (Host.topK S4x4096x17 2 (FloatOps.cmpfTotal .gt) x sliceFits_S4x4096x4096_S4x4096x17).2) main_v15
  let main_v16 : FVec F S4x4096x16 .f32 := (extractStridedSlice S4x4096x16 ![0, 0, 0] · slices_S4x4096x17_S4x4096x16_0_0_0) main_values
  let main_v17 : FVec F S4x4096x16 .f32 := (extractStridedSlice S4x4096x16 ![0, 0, 1] · slices_S4x4096x17_S4x4096x16_0_0_1) main_values
  fn_part1 (F := F) main_v16 main_v17
-- ==== Kernel.lean ====
abbrev S4x4096x3 : Shape := ⟨3, ![4, 4096, 3]⟩
abbrev S4x4096x1 : Shape := ⟨3, ![4, 4096, 1]⟩
abbrev S4x4096 : Shape := ⟨2, ![4, 4096]⟩
abbrev S16384 : Shape := ⟨1, ![16384]⟩
abbrev S262144 : Shape := ⟨1, ![262144]⟩
abbrev S4096 : Shape := ⟨1, ![4096]⟩
abbrev S224 : Shape := ⟨1, ![224]⟩
abbrev S8192 : Shape := ⟨1, ![8192]⟩
abbrev S16 : Shape := ⟨1, ![16]⟩
abbrev S_ : Shape := ⟨0, ![]⟩
abbrev S4x4096x16 : Shape := ⟨3, ![4, 4096, 16]⟩
abbrev S1x4096x1 : Shape := ⟨3, ![1, 4096, 1]⟩
abbrev S1x4x4096x16 : Shape := ⟨4, ![1, 4, 4096, 16]⟩
abbrev S2x4x4096x16 : Shape := ⟨4, ![2, 4, 4096, 16]⟩

abbrev nBuf : Table → Nat
  | .hbm => 18
  | .local .scVector .vmem => 12
  | _ => 0

abbrev bufTy : (tb : Table) → Fin (nBuf tb) → BufTy
  | .hbm, ⟨0, _⟩ => ⟨S4x4096x3, .f32⟩
  | .hbm, ⟨1, _⟩ => ⟨S4x4096x1, .f32⟩
  | .hbm, ⟨2, _⟩ => ⟨S4x4096, .f32⟩
  | .hbm, ⟨3, _⟩ => ⟨S16384, .f32⟩
  | .hbm, ⟨4, _⟩ => ⟨S4x4096x1, .f32⟩
  | .hbm, ⟨5, _⟩ => ⟨S4x4096, .f32⟩
  | .hbm, ⟨6, _⟩ => ⟨S16384, .f32⟩
  | .hbm, ⟨7, _⟩ => ⟨S4x4096x1, .f32⟩
  | .hbm, ⟨8, _⟩ => ⟨S4x4096, .f32⟩
  | .hbm, ⟨9, _⟩ => ⟨S16384, .f32⟩
  | .hbm, ⟨10, _⟩ => ⟨S262144, .i32⟩
  | .hbm, ⟨11, _⟩ => ⟨S4x4096x16, .i32⟩
  | .hbm, ⟨12, _⟩ => ⟨S4096, .i32⟩
  | .hbm, ⟨13, _⟩ => ⟨S1x4096x1, .i32⟩
  | .hbm, ⟨14, _⟩ => ⟨S4x4096x16, .i32⟩
  | .hbm, ⟨15, _⟩ => ⟨S1x4x4096x16, .i32⟩
  | .hbm, ⟨16, _⟩ => ⟨S1x4x4096x16, .i32⟩
  | .hbm, ⟨17, _⟩ => ⟨S2x4x4096x16, .i32⟩
  | .local .scVector .vmem, ⟨0, _⟩ => ⟨S4096, .f32⟩
  | .local .scVector .vmem, ⟨1, _⟩ => ⟨S4096, .f32⟩
  | .local .scVector .vmem, ⟨2, _⟩ => ⟨S4096, .f32⟩
  | .local .scVector .vmem, ⟨3, _⟩ => ⟨S4096, .f32⟩
  | .local .scVector .vmem, ⟨4, _⟩ => ⟨S4096, .f32⟩
  | .local .scVector .vmem, ⟨5, _⟩ => ⟨S4096, .f32⟩
  | .local .scVector .vmem, ⟨6, _⟩ => ⟨S4096, .f32⟩
  | .local .scVector .vmem, ⟨7, _⟩ => ⟨S224, .f32⟩
  | .local .scVector .vmem, ⟨8, _⟩ => ⟨S224, .i32⟩
  | .local .scVector .vmem, ⟨9, _⟩ => ⟨S8192, .i32⟩
  | .local .scVector .vmem, ⟨10, _⟩ => ⟨S16, .f32⟩
  | .local .scVector .vmem, ⟨11, _⟩ => ⟨S16, .i32⟩
  | _, _ => ⟨S4x4096x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v2_scv : Ref sig .scVector := ⟨.hbm, 3, rfl⟩
abbrev main_v5_scv : Ref sig .scVector := ⟨.hbm, 6, rfl⟩
abbrev main_v8_scv : Ref sig .scVector := ⟨.hbm, 9, rfl⟩
abbrev main_v9_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c4096_i32 : BitVec 32 := 4096#32
  let v30 : BitVec 32 := Scalar.muli v18 c4096_i32
  ![v30.toNat]
@[reducible] def k0_t1_loop : Scf.Loop 32 :=
  let c0_i32_13 : BitVec 32 := 0#32
  let c256_i32 : BitVec 32 := 256#32
  let v33 : BitVec 32 := Scalar.addi c0_i32_13 c256_i32
  let c1_i32_14 : BitVec 32 := 1#32
  ⟨c0_i32_13, v33, c1_i32_14⟩
def k0_off2 (k0_t1 : Fin k0_t1_loop.trips) : Fin 1 → Nat :=
  let c0_i32_13 : BitVec 32 := 0#32
  let c1_i32_14 : BitVec 32 := 1#32
  let arg18 : BitVec 32 := Scf.iv c0_i32_13 c1_i32_14 k0_t1
  let c16_i32_21 : BitVec 32 := 16#32
  let v39 : BitVec 32 := Scalar.muli arg18 c16_i32_21
  let v40 : Index := Scalar.indexCast v39
  ![v40.toNat]
@[reducible] def k0_t2_loop : Scf.Loop 32 :=
  let c0_i32_17 : BitVec 32 := 0#32
  let c32_i32 : BitVec 32 := 32#32
  let v35 : BitVec 32 := Scalar.addi c0_i32_17 c32_i32
  let c1_i32_18 : BitVec 32 := 1#32
  ⟨c0_i32_17, v35, c1_i32_18⟩
def k0_off3 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_17 : BitVec 32 := 0#32
  let c1_i32_18 : BitVec 32 := 1#32
  let arg18 : BitVec 32 := Scf.iv c0_i32_17 c1_i32_18 k0_t2
  let c16_i32_21 : BitVec 32 := 16#32
  let v39 : BitVec 32 := Scalar.muli arg18 c16_i32_21
  let v40 : BitVec 32 := Scalar.addi v29 v39
  let v41 : Index := Scalar.indexCast v40
  ![v41.toNat]
@[reducible] def k0_t3_loop : Scf.Loop 32 :=
  let c0_i32_23 : BitVec 32 := 0#32
  let c16_i32_24 : BitVec 32 := 16#32
  let v58 : BitVec 32 := Scalar.addi c0_i32_23 c16_i32_24
  let c1_i32_25 : BitVec 32 := 1#32
  ⟨c0_i32_23, v58, c1_i32_25⟩

def k0_chk1 (v59 : IVec S16 32) : Prop :=
  (∀ a x, ((![v59] : Fin 1 → IVec S16 32) a x).toNat < S16.size a)
theorem k0_idx1_inb : ∀ (v59 : IVec S16 32) (k0_hw1 : k0_chk1 v59), ∀ a x, ((![v59] : Fin 1 → IVec S16 32) a x).toNat < S16.size a := fun v59 k0_hw1 => k0_hw1

def k0_chk2 (v62 : IVec S16 32) : Prop :=
  (∀ a x, ((![v62] : Fin 1 → IVec S16 32) a x).toNat < S16.size a)
theorem k0_idx2_inb : ∀ (v62 : IVec S16 32) (k0_hw2 : k0_chk2 v62), ∀ a x, ((![v62] : Fin 1 → IVec S16 32) a x).toNat < S16.size a := fun v62 k0_hw2 => k0_hw2

def k0_chk3 (v65 : IVec S16 32) : Prop :=
  (∀ a x, ((![v65] : Fin 1 → IVec S16 32) a x).toNat < S16.size a)
theorem k0_idx3_inb : ∀ (v65 : IVec S16 32) (k0_hw3 : k0_chk3 v65), ∀ a x, ((![v65] : Fin 1 → IVec S16 32) a x).toNat < S16.size a := fun v65 k0_hw3 => k0_hw3

def k0_chk4 (v68 : IVec S16 32) : Prop :=
  (∀ a x, ((![v68] : Fin 1 → IVec S16 32) a x).toNat < S16.size a)
theorem k0_idx4_inb : ∀ (v68 : IVec S16 32) (k0_hw4 : k0_chk4 v68), ∀ a x, ((![v68] : Fin 1 → IVec S16 32) a x).toNat < S16.size a := fun v68 k0_hw4 => k0_hw4
@[reducible] def k0_t4_loop : Scf.Loop 32 :=
  let c0_i32_37 : BitVec 32 := 0#32
  let c32_i32_38 : BitVec 32 := 32#32
  let v77 : BitVec 32 := Scalar.addi c0_i32_37 c32_i32_38
  let c1_i32_39 : BitVec 32 := 1#32
  ⟨c0_i32_37, v77, c1_i32_39⟩
def k0_off4 (k0_t4 : Fin k0_t4_loop.trips) (c0_i32_323 : BitVec 32) : Fin 1 → Nat :=
  let c0_i32_37 : BitVec 32 := 0#32
  let c1_i32_39 : BitVec 32 := 1#32
  let arg20 : BitVec 32 := Scf.iv c0_i32_37 c1_i32_39 k0_t4
  let c128_i32_322 : BitVec 32 := 128#32
  let v511 : BitVec 32 := Scalar.muli arg20 c128_i32_322
  let v512 : BitVec 32 := Scalar.addi v511 c0_i32_323
  let v513 : Index := Scalar.indexCast v512
  ![v513.toNat]
def k0_cond1 (arg25 : BitVec 32) : BitVec 1 :=
  let c0_i32_347 : BitVec 32 := 0#32
  let v691 : BitVec 1 := Scalar.cmpi .sgt arg25 c0_i32_347
  let v692 : BitVec 32 := Scalar.extui v691
  let c0_i32_348 : BitVec 32 := 0#32
  let v693 : BitVec 1 := Scalar.cmpi .ne v692 c0_i32_348
  v693

def k0_chk5 (arg25 : BitVec 32) (v704 : IVec S16 32) : Prop :=
  (∀ (k0_h1 : k0_cond1 arg25 = 1#1), ∀ a x, ((![v704] : Fin 1 → IVec S16 32) a x).toNat < S224.size a)
theorem k0_idx5_inb : ∀ (arg25 : BitVec 32) (v704 : IVec S16 32) (k0_hw5 : k0_chk5 arg25 v704), ∀ (k0_h1 : k0_cond1 arg25 = 1#1), ∀ a x, ((![v704] : Fin 1 → IVec S16 32) a x).toNat < S224.size a := fun arg25 v704 k0_hw5 k0_h1 => k0_hw5 k0_h1

def k0_chk6 (arg25 : BitVec 32) (v713 : IVec S16 32) : Prop :=
  (∀ (k0_h1 : k0_cond1 arg25 = 1#1), ∀ a x, ((![v713] : Fin 1 → IVec S16 32) a x).toNat < S224.size a)
theorem k0_idx6_inb : ∀ (arg25 : BitVec 32) (v713 : IVec S16 32) (k0_hw6 : k0_chk6 arg25 v713), ∀ (k0_h1 : k0_cond1 arg25 = 1#1), ∀ a x, ((![v713] : Fin 1 → IVec S16 32) a x).toNat < S224.size a := fun arg25 v713 k0_hw6 k0_h1 => k0_hw6 k0_h1

def k0_chk7 (arg25 : BitVec 32) (v724 : IVec S16 32) : Prop :=
  (∀ (k0_h1 : k0_cond1 arg25 = 1#1), ∀ a x, ((![v724] : Fin 1 → IVec S16 32) a x).toNat < S224.size a)
theorem k0_idx7_inb : ∀ (arg25 : BitVec 32) (v724 : IVec S16 32) (k0_hw7 : k0_chk7 arg25 v724), ∀ (k0_h1 : k0_cond1 arg25 = 1#1), ∀ a x, ((![v724] : Fin 1 → IVec S16 32) a x).toNat < S224.size a := fun arg25 v724 k0_hw7 k0_h1 => k0_hw7 k0_h1

def k0_chk8 (arg25 : BitVec 32) (v733 : IVec S16 32) : Prop :=
  (∀ (k0_h1 : k0_cond1 arg25 = 1#1), ∀ a x, ((![v733] : Fin 1 → IVec S16 32) a x).toNat < S224.size a)
theorem k0_idx8_inb : ∀ (arg25 : BitVec 32) (v733 : IVec S16 32) (k0_hw8 : k0_chk8 arg25 v733), ∀ (k0_h1 : k0_cond1 arg25 = 1#1), ∀ a x, ((![v733] : Fin 1 → IVec S16 32) a x).toNat < S224.size a := fun arg25 v733 k0_hw8 k0_h1 => k0_hw8 k0_h1

def k0_chk9 (arg25 : BitVec 32) (v744 : IVec S16 32) : Prop :=
  (∀ (k0_h1 : k0_cond1 arg25 = 1#1), ∀ a x, ((![v744] : Fin 1 → IVec S16 32) a x).toNat < S224.size a)
theorem k0_idx9_inb : ∀ (arg25 : BitVec 32) (v744 : IVec S16 32) (k0_hw9 : k0_chk9 arg25 v744), ∀ (k0_h1 : k0_cond1 arg25 = 1#1), ∀ a x, ((![v744] : Fin 1 → IVec S16 32) a x).toNat < S224.size a := fun arg25 v744 k0_hw9 k0_h1 => k0_hw9 k0_h1

def k0_chk10 (arg25 : BitVec 32) (v753 : IVec S16 32) : Prop :=
  (∀ (k0_h1 : k0_cond1 arg25 = 1#1), ∀ a x, ((![v753] : Fin 1 → IVec S16 32) a x).toNat < S224.size a)
theorem k0_idx10_inb : ∀ (arg25 : BitVec 32) (v753 : IVec S16 32) (k0_hw10 : k0_chk10 arg25 v753), ∀ (k0_h1 : k0_cond1 arg25 = 1#1), ∀ a x, ((![v753] : Fin 1 → IVec S16 32) a x).toNat < S224.size a := fun arg25 v753 k0_hw10 k0_h1 => k0_hw10 k0_h1

def k0_chk11 (arg25 : BitVec 32) (v764 : IVec S16 32) : Prop :=
  (∀ (k0_h1 : k0_cond1 arg25 = 1#1), ∀ a x, ((![v764] : Fin 1 → IVec S16 32) a x).toNat < S224.size a)
theorem k0_idx11_inb : ∀ (arg25 : BitVec 32) (v764 : IVec S16 32) (k0_hw11 : k0_chk11 arg25 v764), ∀ (k0_h1 : k0_cond1 arg25 = 1#1), ∀ a x, ((![v764] : Fin 1 → IVec S16 32) a x).toNat < S224.size a := fun arg25 v764 k0_hw11 k0_h1 => k0_hw11 k0_h1

def k0_chk12 (arg25 : BitVec 32) (v773 : IVec S16 32) : Prop :=
  (∀ (k0_h1 : k0_cond1 arg25 = 1#1), ∀ a x, ((![v773] : Fin 1 → IVec S16 32) a x).toNat < S224.size a)
theorem k0_idx12_inb : ∀ (arg25 : BitVec 32) (v773 : IVec S16 32) (k0_hw12 : k0_chk12 arg25 v773), ∀ (k0_h1 : k0_cond1 arg25 = 1#1), ∀ a x, ((![v773] : Fin 1 → IVec S16 32) a x).toNat < S224.size a := fun arg25 v773 k0_hw12 k0_h1 => k0_hw12 k0_h1

def k0_chk13 (arg25 : BitVec 32) (v784 : IVec S16 32) : Prop :=
  (∀ (k0_h1 : k0_cond1 arg25 = 1#1), ∀ a x, ((![v784] : Fin 1 → IVec S16 32) a x).toNat < S224.size a)
theorem k0_idx13_inb : ∀ (arg25 : BitVec 32) (v784 : IVec S16 32) (k0_hw13 : k0_chk13 arg25 v784), ∀ (k0_h1 : k0_cond1 arg25 = 1#1), ∀ a x, ((![v784] : Fin 1 → IVec S16 32) a x).toNat < S224.size a := fun arg25 v784 k0_hw13 k0_h1 => k0_hw13 k0_h1

def k0_chk14 (arg25 : BitVec 32) (v793 : IVec S16 32) : Prop :=
  (∀ (k0_h1 : k0_cond1 arg25 = 1#1), ∀ a x, ((![v793] : Fin 1 → IVec S16 32) a x).toNat < S224.size a)
theorem k0_idx14_inb : ∀ (arg25 : BitVec 32) (v793 : IVec S16 32) (k0_hw14 : k0_chk14 arg25 v793), ∀ (k0_h1 : k0_cond1 arg25 = 1#1), ∀ a x, ((![v793] : Fin 1 → IVec S16 32) a x).toNat < S224.size a := fun arg25 v793 k0_hw14 k0_h1 => k0_hw14 k0_h1

def k0_chk15 (arg25 : BitVec 32) (v804 : IVec S16 32) : Prop :=
  (∀ (k0_h1 : k0_cond1 arg25 = 1#1), ∀ a x, ((![v804] : Fin 1 → IVec S16 32) a x).toNat < S224.size a)
theorem k0_idx15_inb : ∀ (arg25 : BitVec 32) (v804 : IVec S16 32) (k0_hw15 : k0_chk15 arg25 v804), ∀ (k0_h1 : k0_cond1 arg25 = 1#1), ∀ a x, ((![v804] : Fin 1 → IVec S16 32) a x).toNat < S224.size a := fun arg25 v804 k0_hw15 k0_h1 => k0_hw15 k0_h1

def k0_chk16 (arg25 : BitVec 32) (v813 : IVec S16 32) : Prop :=
  (∀ (k0_h1 : k0_cond1 arg25 = 1#1), ∀ a x, ((![v813] : Fin 1 → IVec S16 32) a x).toNat < S224.size a)
theorem k0_idx16_inb : ∀ (arg25 : BitVec 32) (v813 : IVec S16 32) (k0_hw16 : k0_chk16 arg25 v813), ∀ (k0_h1 : k0_cond1 arg25 = 1#1), ∀ a x, ((![v813] : Fin 1 → IVec S16 32) a x).toNat < S224.size a := fun arg25 v813 k0_hw16 k0_h1 => k0_hw16 k0_h1

def k0_chk17 (arg25 : BitVec 32) (v824 : IVec S16 32) : Prop :=
  (∀ (k0_h1 : k0_cond1 arg25 = 1#1), ∀ a x, ((![v824] : Fin 1 → IVec S16 32) a x).toNat < S224.size a)
theorem k0_idx17_inb : ∀ (arg25 : BitVec 32) (v824 : IVec S16 32) (k0_hw17 : k0_chk17 arg25 v824), ∀ (k0_h1 : k0_cond1 arg25 = 1#1), ∀ a x, ((![v824] : Fin 1 → IVec S16 32) a x).toNat < S224.size a := fun arg25 v824 k0_hw17 k0_h1 => k0_hw17 k0_h1

def k0_chk18 (arg25 : BitVec 32) (v833 : IVec S16 32) : Prop :=
  (∀ (k0_h1 : k0_cond1 arg25 = 1#1), ∀ a x, ((![v833] : Fin 1 → IVec S16 32) a x).toNat < S224.size a)
theorem k0_idx18_inb : ∀ (arg25 : BitVec 32) (v833 : IVec S16 32) (k0_hw18 : k0_chk18 arg25 v833), ∀ (k0_h1 : k0_cond1 arg25 = 1#1), ∀ a x, ((![v833] : Fin 1 → IVec S16 32) a x).toNat < S224.size a := fun arg25 v833 k0_hw18 k0_h1 => k0_hw18 k0_h1

def k0_chk19 (arg25 : BitVec 32) (v844 : IVec S16 32) : Prop :=
  (∀ (k0_h1 : k0_cond1 arg25 = 1#1), ∀ a x, ((![v844] : Fin 1 → IVec S16 32) a x).toNat < S224.size a)
theorem k0_idx19_inb : ∀ (arg25 : BitVec 32) (v844 : IVec S16 32) (k0_hw19 : k0_chk19 arg25 v844), ∀ (k0_h1 : k0_cond1 arg25 = 1#1), ∀ a x, ((![v844] : Fin 1 → IVec S16 32) a x).toNat < S224.size a := fun arg25 v844 k0_hw19 k0_h1 => k0_hw19 k0_h1

def k0_chk20 (arg25 : BitVec 32) (v853 : IVec S16 32) : Prop :=
  (∀ (k0_h1 : k0_cond1 arg25 = 1#1), ∀ a x, ((![v853] : Fin 1 → IVec S16 32) a x).toNat < S224.size a)
theorem k0_idx20_inb : ∀ (arg25 : BitVec 32) (v853 : IVec S16 32) (k0_hw20 : k0_chk20 arg25 v853), ∀ (k0_h1 : k0_cond1 arg25 = 1#1), ∀ a x, ((![v853] : Fin 1 → IVec S16 32) a x).toNat < S224.size a := fun arg25 v853 k0_hw20 k0_h1 => k0_hw20 k0_h1
@[reducible] def k0_t5_loop : Scf.Loop 32 :=
  let c0_i32_389 : BitVec 32 := 0#32
  let c16_i32_390 : BitVec 32 := 16#32
  let v870 : BitVec 32 := Scalar.addi c0_i32_389 c16_i32_390
  let c1_i32_391 : BitVec 32 := 1#32
  ⟨c0_i32_389, v870, c1_i32_391⟩
def k0_cond2 (arg24 : BitVec 32) (v698 : BitVec 32) (v718 : BitVec 32) (v738 : BitVec 32) (v758 : BitVec 32) (v778 : BitVec 32) (v798 : BitVec 32) (v818 : BitVec 32) (v838 : BitVec 32) : BitVec 1 :=
  let v714 : BitVec 32 := Scalar.addi arg24 v698
  let v734 : BitVec 32 := Scalar.addi v714 v718
  let v754 : BitVec 32 := Scalar.addi v734 v738
  let v774 : BitVec 32 := Scalar.addi v754 v758
  let v794 : BitVec 32 := Scalar.addi v774 v778
  let v814 : BitVec 32 := Scalar.addi v794 v798
  let v834 : BitVec 32 := Scalar.addi v814 v818
  let v854 : BitVec 32 := Scalar.addi v834 v838
  let c64_i32_381 : BitVec 32 := 64#32
  let v855 : BitVec 1 := Scalar.cmpi .sge v854 c64_i32_381
  let v856 : BitVec 32 := Scalar.extui v855
  let c0_i32_382 : BitVec 32 := 0#32
  let v857 : BitVec 1 := Scalar.cmpi .ne v856 c0_i32_382
  v857

def k0_chk21 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx21_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw21 : k0_chk21 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw21 k0_h1 k0_h2 => k0_hw21 k0_h1 k0_h2

def k0_chk22 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v871 : IVec S16 32) : Prop :=
  (∀ (k0_h1 : k0_cond1 arg25 = 1#1), ∀ (k0_h2 : k0_cond2 arg24 v698 v718 v738 v758 v778 v798 v818 v838 = 1#1), ∀ a x, ((![v871] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v871] : Fin 1 → IVec S16 32) a x).toNat < S16.size a)
theorem k0_idx22_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v871 : IVec S16 32) (k0_hw22 : k0_chk22 arg24 arg25 v698 v718 v738 v758 v778 v798 v818 v838 v871), ∀ (k0_h1 : k0_cond1 arg25 = 1#1), ∀ (k0_h2 : k0_cond2 arg24 v698 v718 v738 v758 v778 v798 v818 v838 = 1#1), ∀ a x, ((![v871] : Fin 1 → IVec S16 32) a x).toNat < S16.size a := fun arg24 arg25 v698 v718 v738 v758 v778 v798 v818 v838 v871 k0_hw22 k0_h1 k0_h2 => k0_hw22.1 k0_h1 k0_h2
theorem k0_idx23_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v871 : IVec S16 32) (k0_hw22 : k0_chk22 arg24 arg25 v698 v718 v738 v758 v778 v798 v818 v838 v871), ∀ (k0_h1 : k0_cond1 arg25 = 1#1), ∀ (k0_h2 : k0_cond2 arg24 v698 v718 v738 v758 v778 v798 v818 v838 = 1#1), ∀ a x, ((![v871] : Fin 1 → IVec S16 32) a x).toNat < S16.size a := fun arg24 arg25 v698 v718 v738 v758 v778 v798 v818 v838 v871 k0_hw22 k0_h1 k0_h2 => k0_hw22.2 k0_h1 k0_h2
@[reducible] def k0_t6_loop : Scf.Loop 32 :=
  let c0_i32_401 : BitVec 32 := 0#32
  let c16_i32_402 : BitVec 32 := 16#32
  let v885 : BitVec 32 := Scalar.addi c0_i32_401 c16_i32_402
  let c1_i32_403 : BitVec 32 := 1#32
  ⟨c0_i32_401, v885, c1_i32_403⟩

def k0_chk23 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx24_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw23 : k0_chk23 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw23 k0_h1 k0_h2 => k0_hw23 k0_h1 k0_h2

def k0_chk24 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v886 : IVec S16 32) : Prop :=
  (∀ (k0_h1 : k0_cond1 arg25 = 1#1), ∀ (k0_h2 : k0_cond2 arg24 v698 v718 v738 v758 v778 v798 v818 v838 = 1#1), ∀ a x, ((![v886] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v886] : Fin 1 → IVec S16 32) a x).toNat < S16.size a)
theorem k0_idx25_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v886 : IVec S16 32) (k0_hw24 : k0_chk24 arg24 arg25 v698 v718 v738 v758 v778 v798 v818 v838 v886), ∀ (k0_h1 : k0_cond1 arg25 = 1#1), ∀ (k0_h2 : k0_cond2 arg24 v698 v718 v738 v758 v778 v798 v818 v838 = 1#1), ∀ a x, ((![v886] : Fin 1 → IVec S16 32) a x).toNat < S16.size a := fun arg24 arg25 v698 v718 v738 v758 v778 v798 v818 v838 v886 k0_hw24 k0_h1 k0_h2 => k0_hw24.1 k0_h1 k0_h2
theorem k0_idx26_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v886 : IVec S16 32) (k0_hw24 : k0_chk24 arg24 arg25 v698 v718 v738 v758 v778 v798 v818 v838 v886), ∀ (k0_h1 : k0_cond1 arg25 = 1#1), ∀ (k0_h2 : k0_cond2 arg24 v698 v718 v738 v758 v778 v798 v818 v838 = 1#1), ∀ a x, ((![v886] : Fin 1 → IVec S16 32) a x).toNat < S16.size a := fun arg24 arg25 v698 v718 v738 v758 v778 v798 v818 v838 v886 k0_hw24 k0_h1 k0_h2 => k0_hw24.2 k0_h1 k0_h2
@[reducible] def k0_t7_loop : Scf.Loop 32 :=
  let c0_i32_413 : BitVec 32 := 0#32
  let c16_i32_414 : BitVec 32 := 16#32
  let v900 : BitVec 32 := Scalar.addi c0_i32_413 c16_i32_414
  let c1_i32_415 : BitVec 32 := 1#32
  ⟨c0_i32_413, v900, c1_i32_415⟩

def k0_chk25 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx27_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw25 : k0_chk25 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw25 k0_h1 k0_h2 => k0_hw25 k0_h1 k0_h2

def k0_chk26 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v901 : IVec S16 32) : Prop :=
  (∀ (k0_h1 : k0_cond1 arg25 = 1#1), ∀ (k0_h2 : k0_cond2 arg24 v698 v718 v738 v758 v778 v798 v818 v838 = 1#1), ∀ a x, ((![v901] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v901] : Fin 1 → IVec S16 32) a x).toNat < S16.size a)
theorem k0_idx28_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v901 : IVec S16 32) (k0_hw26 : k0_chk26 arg24 arg25 v698 v718 v738 v758 v778 v798 v818 v838 v901), ∀ (k0_h1 : k0_cond1 arg25 = 1#1), ∀ (k0_h2 : k0_cond2 arg24 v698 v718 v738 v758 v778 v798 v818 v838 = 1#1), ∀ a x, ((![v901] : Fin 1 → IVec S16 32) a x).toNat < S16.size a := fun arg24 arg25 v698 v718 v738 v758 v778 v798 v818 v838 v901 k0_hw26 k0_h1 k0_h2 => k0_hw26.1 k0_h1 k0_h2
theorem k0_idx29_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v901 : IVec S16 32) (k0_hw26 : k0_chk26 arg24 arg25 v698 v718 v738 v758 v778 v798 v818 v838 v901), ∀ (k0_h1 : k0_cond1 arg25 = 1#1), ∀ (k0_h2 : k0_cond2 arg24 v698 v718 v738 v758 v778 v798 v818 v838 = 1#1), ∀ a x, ((![v901] : Fin 1 → IVec S16 32) a x).toNat < S16.size a := fun arg24 arg25 v698 v718 v738 v758 v778 v798 v818 v838 v901 k0_hw26 k0_h1 k0_h2 => k0_hw26.2 k0_h1 k0_h2
@[reducible] def k0_t8_loop : Scf.Loop 32 :=
  let c0_i32_425 : BitVec 32 := 0#32
  let c16_i32_426 : BitVec 32 := 16#32
  let v915 : BitVec 32 := Scalar.addi c0_i32_425 c16_i32_426
  let c1_i32_427 : BitVec 32 := 1#32
  ⟨c0_i32_425, v915, c1_i32_427⟩

def k0_chk27 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx30_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw27 : k0_chk27 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw27 k0_h1 k0_h2 => k0_hw27 k0_h1 k0_h2

def k0_chk28 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v916 : IVec S16 32) : Prop :=
  (∀ (k0_h1 : k0_cond1 arg25 = 1#1), ∀ (k0_h2 : k0_cond2 arg24 v698 v718 v738 v758 v778 v798 v818 v838 = 1#1), ∀ a x, ((![v916] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v916] : Fin 1 → IVec S16 32) a x).toNat < S16.size a)
theorem k0_idx31_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v916 : IVec S16 32) (k0_hw28 : k0_chk28 arg24 arg25 v698 v718 v738 v758 v778 v798 v818 v838 v916), ∀ (k0_h1 : k0_cond1 arg25 = 1#1), ∀ (k0_h2 : k0_cond2 arg24 v698 v718 v738 v758 v778 v798 v818 v838 = 1#1), ∀ a x, ((![v916] : Fin 1 → IVec S16 32) a x).toNat < S16.size a := fun arg24 arg25 v698 v718 v738 v758 v778 v798 v818 v838 v916 k0_hw28 k0_h1 k0_h2 => k0_hw28.1 k0_h1 k0_h2
theorem k0_idx32_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v916 : IVec S16 32) (k0_hw28 : k0_chk28 arg24 arg25 v698 v718 v738 v758 v778 v798 v818 v838 v916), ∀ (k0_h1 : k0_cond1 arg25 = 1#1), ∀ (k0_h2 : k0_cond2 arg24 v698 v718 v738 v758 v778 v798 v818 v838 = 1#1), ∀ a x, ((![v916] : Fin 1 → IVec S16 32) a x).toNat < S16.size a := fun arg24 arg25 v698 v718 v738 v758 v778 v798 v818 v838 v916 k0_hw28 k0_h1 k0_h2 => k0_hw28.2 k0_h1 k0_h2
@[reducible] def k0_t9_loop : Scf.Loop 32 :=
  let c0_i32_437 : BitVec 32 := 0#32
  let c16_i32_438 : BitVec 32 := 16#32
  let v930 : BitVec 32 := Scalar.addi c0_i32_437 c16_i32_438
  let c1_i32_439 : BitVec 32 := 1#32
  ⟨c0_i32_437, v930, c1_i32_439⟩

def k0_chk29 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx33_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw29 : k0_chk29 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw29 k0_h1 k0_h2 => k0_hw29 k0_h1 k0_h2

def k0_chk30 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v931 : IVec S16 32) : Prop :=
  (∀ (k0_h1 : k0_cond1 arg25 = 1#1), ∀ (k0_h2 : k0_cond2 arg24 v698 v718 v738 v758 v778 v798 v818 v838 = 1#1), ∀ a x, ((![v931] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v931] : Fin 1 → IVec S16 32) a x).toNat < S16.size a)
theorem k0_idx34_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v931 : IVec S16 32) (k0_hw30 : k0_chk30 arg24 arg25 v698 v718 v738 v758 v778 v798 v818 v838 v931), ∀ (k0_h1 : k0_cond1 arg25 = 1#1), ∀ (k0_h2 : k0_cond2 arg24 v698 v718 v738 v758 v778 v798 v818 v838 = 1#1), ∀ a x, ((![v931] : Fin 1 → IVec S16 32) a x).toNat < S16.size a := fun arg24 arg25 v698 v718 v738 v758 v778 v798 v818 v838 v931 k0_hw30 k0_h1 k0_h2 => k0_hw30.1 k0_h1 k0_h2
theorem k0_idx35_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v931 : IVec S16 32) (k0_hw30 : k0_chk30 arg24 arg25 v698 v718 v738 v758 v778 v798 v818 v838 v931), ∀ (k0_h1 : k0_cond1 arg25 = 1#1), ∀ (k0_h2 : k0_cond2 arg24 v698 v718 v738 v758 v778 v798 v818 v838 = 1#1), ∀ a x, ((![v931] : Fin 1 → IVec S16 32) a x).toNat < S16.size a := fun arg24 arg25 v698 v718 v738 v758 v778 v798 v818 v838 v931 k0_hw30 k0_h1 k0_h2 => k0_hw30.2 k0_h1 k0_h2
@[reducible] def k0_t10_loop : Scf.Loop 32 :=
  let c0_i32_449 : BitVec 32 := 0#32
  let c16_i32_450 : BitVec 32 := 16#32
  let v945 : BitVec 32 := Scalar.addi c0_i32_449 c16_i32_450
  let c1_i32_451 : BitVec 32 := 1#32
  ⟨c0_i32_449, v945, c1_i32_451⟩

def k0_chk31 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx36_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw31 : k0_chk31 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw31 k0_h1 k0_h2 => k0_hw31 k0_h1 k0_h2

def k0_chk32 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v946 : IVec S16 32) : Prop :=
  (∀ (k0_h1 : k0_cond1 arg25 = 1#1), ∀ (k0_h2 : k0_cond2 arg24 v698 v718 v738 v758 v778 v798 v818 v838 = 1#1), ∀ a x, ((![v946] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v946] : Fin 1 → IVec S16 32) a x).toNat < S16.size a)
theorem k0_idx37_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v946 : IVec S16 32) (k0_hw32 : k0_chk32 arg24 arg25 v698 v718 v738 v758 v778 v798 v818 v838 v946), ∀ (k0_h1 : k0_cond1 arg25 = 1#1), ∀ (k0_h2 : k0_cond2 arg24 v698 v718 v738 v758 v778 v798 v818 v838 = 1#1), ∀ a x, ((![v946] : Fin 1 → IVec S16 32) a x).toNat < S16.size a := fun arg24 arg25 v698 v718 v738 v758 v778 v798 v818 v838 v946 k0_hw32 k0_h1 k0_h2 => k0_hw32.1 k0_h1 k0_h2
theorem k0_idx38_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v946 : IVec S16 32) (k0_hw32 : k0_chk32 arg24 arg25 v698 v718 v738 v758 v778 v798 v818 v838 v946), ∀ (k0_h1 : k0_cond1 arg25 = 1#1), ∀ (k0_h2 : k0_cond2 arg24 v698 v718 v738 v758 v778 v798 v818 v838 = 1#1), ∀ a x, ((![v946] : Fin 1 → IVec S16 32) a x).toNat < S16.size a := fun arg24 arg25 v698 v718 v738 v758 v778 v798 v818 v838 v946 k0_hw32 k0_h1 k0_h2 => k0_hw32.2 k0_h1 k0_h2
@[reducible] def k0_t11_loop : Scf.Loop 32 :=
  let c0_i32_461 : BitVec 32 := 0#32
  let c16_i32_462 : BitVec 32 := 16#32
  let v960 : BitVec 32 := Scalar.addi c0_i32_461 c16_i32_462
  let c1_i32_463 : BitVec 32 := 1#32
  ⟨c0_i32_461, v960, c1_i32_463⟩

def k0_chk33 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx39_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw33 : k0_chk33 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw33 k0_h1 k0_h2 => k0_hw33 k0_h1 k0_h2

def k0_chk34 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v961 : IVec S16 32) : Prop :=
  (∀ (k0_h1 : k0_cond1 arg25 = 1#1), ∀ (k0_h2 : k0_cond2 arg24 v698 v718 v738 v758 v778 v798 v818 v838 = 1#1), ∀ a x, ((![v961] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v961] : Fin 1 → IVec S16 32) a x).toNat < S16.size a)
theorem k0_idx40_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v961 : IVec S16 32) (k0_hw34 : k0_chk34 arg24 arg25 v698 v718 v738 v758 v778 v798 v818 v838 v961), ∀ (k0_h1 : k0_cond1 arg25 = 1#1), ∀ (k0_h2 : k0_cond2 arg24 v698 v718 v738 v758 v778 v798 v818 v838 = 1#1), ∀ a x, ((![v961] : Fin 1 → IVec S16 32) a x).toNat < S16.size a := fun arg24 arg25 v698 v718 v738 v758 v778 v798 v818 v838 v961 k0_hw34 k0_h1 k0_h2 => k0_hw34.1 k0_h1 k0_h2
theorem k0_idx41_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v961 : IVec S16 32) (k0_hw34 : k0_chk34 arg24 arg25 v698 v718 v738 v758 v778 v798 v818 v838 v961), ∀ (k0_h1 : k0_cond1 arg25 = 1#1), ∀ (k0_h2 : k0_cond2 arg24 v698 v718 v738 v758 v778 v798 v818 v838 = 1#1), ∀ a x, ((![v961] : Fin 1 → IVec S16 32) a x).toNat < S16.size a := fun arg24 arg25 v698 v718 v738 v758 v778 v798 v818 v838 v961 k0_hw34 k0_h1 k0_h2 => k0_hw34.2 k0_h1 k0_h2
@[reducible] def k0_t12_loop : Scf.Loop 32 :=
  let c0_i32_473 : BitVec 32 := 0#32
  let c16_i32_474 : BitVec 32 := 16#32
  let v975 : BitVec 32 := Scalar.addi c0_i32_473 c16_i32_474
  let c1_i32_475 : BitVec 32 := 1#32
  ⟨c0_i32_473, v975, c1_i32_475⟩

def k0_chk35 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx42_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw35 : k0_chk35 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw35 k0_h1 k0_h2 => k0_hw35 k0_h1 k0_h2

def k0_chk36 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v976 : IVec S16 32) : Prop :=
  (∀ (k0_h1 : k0_cond1 arg25 = 1#1), ∀ (k0_h2 : k0_cond2 arg24 v698 v718 v738 v758 v778 v798 v818 v838 = 1#1), ∀ a x, ((![v976] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v976] : Fin 1 → IVec S16 32) a x).toNat < S16.size a)
theorem k0_idx43_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v976 : IVec S16 32) (k0_hw36 : k0_chk36 arg24 arg25 v698 v718 v738 v758 v778 v798 v818 v838 v976), ∀ (k0_h1 : k0_cond1 arg25 = 1#1), ∀ (k0_h2 : k0_cond2 arg24 v698 v718 v738 v758 v778 v798 v818 v838 = 1#1), ∀ a x, ((![v976] : Fin 1 → IVec S16 32) a x).toNat < S16.size a := fun arg24 arg25 v698 v718 v738 v758 v778 v798 v818 v838 v976 k0_hw36 k0_h1 k0_h2 => k0_hw36.1 k0_h1 k0_h2
theorem k0_idx44_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v976 : IVec S16 32) (k0_hw36 : k0_chk36 arg24 arg25 v698 v718 v738 v758 v778 v798 v818 v838 v976), ∀ (k0_h1 : k0_cond1 arg25 = 1#1), ∀ (k0_h2 : k0_cond2 arg24 v698 v718 v738 v758 v778 v798 v818 v838 = 1#1), ∀ a x, ((![v976] : Fin 1 → IVec S16 32) a x).toNat < S16.size a := fun arg24 arg25 v698 v718 v738 v758 v778 v798 v818 v838 v976 k0_hw36 k0_h1 k0_h2 => k0_hw36.2 k0_h1 k0_h2
@[reducible] def k0_t13_loop : Scf.Loop 32 :=
  let c0_i32_485 : BitVec 32 := 0#32
  let c16_i32_486 : BitVec 32 := 16#32
  let v990 : BitVec 32 := Scalar.addi c0_i32_485 c16_i32_486
  let c1_i32_487 : BitVec 32 := 1#32
  ⟨c0_i32_485, v990, c1_i32_487⟩

def k0_chk37 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx45_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw37 : k0_chk37 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw37 k0_h1 k0_h2 => k0_hw37 k0_h1 k0_h2

def k0_chk38 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v991 : IVec S16 32) : Prop :=
  (∀ (k0_h1 : k0_cond1 arg25 = 1#1), ∀ (k0_h2 : k0_cond2 arg24 v698 v718 v738 v758 v778 v798 v818 v838 = 1#1), ∀ a x, ((![v991] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v991] : Fin 1 → IVec S16 32) a x).toNat < S16.size a)
theorem k0_idx46_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v991 : IVec S16 32) (k0_hw38 : k0_chk38 arg24 arg25 v698 v718 v738 v758 v778 v798 v818 v838 v991), ∀ (k0_h1 : k0_cond1 arg25 = 1#1), ∀ (k0_h2 : k0_cond2 arg24 v698 v718 v738 v758 v778 v798 v818 v838 = 1#1), ∀ a x, ((![v991] : Fin 1 → IVec S16 32) a x).toNat < S16.size a := fun arg24 arg25 v698 v718 v738 v758 v778 v798 v818 v838 v991 k0_hw38 k0_h1 k0_h2 => k0_hw38.1 k0_h1 k0_h2
theorem k0_idx47_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v991 : IVec S16 32) (k0_hw38 : k0_chk38 arg24 arg25 v698 v718 v738 v758 v778 v798 v818 v838 v991), ∀ (k0_h1 : k0_cond1 arg25 = 1#1), ∀ (k0_h2 : k0_cond2 arg24 v698 v718 v738 v758 v778 v798 v818 v838 = 1#1), ∀ a x, ((![v991] : Fin 1 → IVec S16 32) a x).toNat < S16.size a := fun arg24 arg25 v698 v718 v738 v758 v778 v798 v818 v838 v991 k0_hw38 k0_h1 k0_h2 => k0_hw38.2 k0_h1 k0_h2
@[reducible] def k0_t14_loop : Scf.Loop 32 :=
  let c0_i32_497 : BitVec 32 := 0#32
  let c16_i32_498 : BitVec 32 := 16#32
  let v1005 : BitVec 32 := Scalar.addi c0_i32_497 c16_i32_498
  let c1_i32_499 : BitVec 32 := 1#32
  ⟨c0_i32_497, v1005, c1_i32_499⟩

def k0_chk39 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx48_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw39 : k0_chk39 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw39 k0_h1 k0_h2 => k0_hw39 k0_h1 k0_h2

def k0_chk40 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1006 : IVec S16 32) : Prop :=
  (∀ (k0_h1 : k0_cond1 arg25 = 1#1), ∀ (k0_h2 : k0_cond2 arg24 v698 v718 v738 v758 v778 v798 v818 v838 = 1#1), ∀ a x, ((![v1006] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1006] : Fin 1 → IVec S16 32) a x).toNat < S16.size a)
theorem k0_idx49_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1006 : IVec S16 32) (k0_hw40 : k0_chk40 arg24 arg25 v698 v718 v738 v758 v778 v798 v818 v838 v1006), ∀ (k0_h1 : k0_cond1 arg25 = 1#1), ∀ (k0_h2 : k0_cond2 arg24 v698 v718 v738 v758 v778 v798 v818 v838 = 1#1), ∀ a x, ((![v1006] : Fin 1 → IVec S16 32) a x).toNat < S16.size a := fun arg24 arg25 v698 v718 v738 v758 v778 v798 v818 v838 v1006 k0_hw40 k0_h1 k0_h2 => k0_hw40.1 k0_h1 k0_h2
theorem k0_idx50_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1006 : IVec S16 32) (k0_hw40 : k0_chk40 arg24 arg25 v698 v718 v738 v758 v778 v798 v818 v838 v1006), ∀ (k0_h1 : k0_cond1 arg25 = 1#1), ∀ (k0_h2 : k0_cond2 arg24 v698 v718 v738 v758 v778 v798 v818 v838 = 1#1), ∀ a x, ((![v1006] : Fin 1 → IVec S16 32) a x).toNat < S16.size a := fun arg24 arg25 v698 v718 v738 v758 v778 v798 v818 v838 v1006 k0_hw40 k0_h1 k0_h2 => k0_hw40.2 k0_h1 k0_h2
@[reducible] def k0_t15_loop : Scf.Loop 32 :=
  let c0_i32_509 : BitVec 32 := 0#32
  let c16_i32_510 : BitVec 32 := 16#32
  let v1020 : BitVec 32 := Scalar.addi c0_i32_509 c16_i32_510
  let c1_i32_511 : BitVec 32 := 1#32
  ⟨c0_i32_509, v1020, c1_i32_511⟩

def k0_chk41 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx51_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw41 : k0_chk41 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw41 k0_h1 k0_h2 => k0_hw41 k0_h1 k0_h2

def k0_chk42 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1021 : IVec S16 32) : Prop :=
  (∀ (k0_h1 : k0_cond1 arg25 = 1#1), ∀ (k0_h2 : k0_cond2 arg24 v698 v718 v738 v758 v778 v798 v818 v838 = 1#1), ∀ a x, ((![v1021] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1021] : Fin 1 → IVec S16 32) a x).toNat < S16.size a)
theorem k0_idx52_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1021 : IVec S16 32) (k0_hw42 : k0_chk42 arg24 arg25 v698 v718 v738 v758 v778 v798 v818 v838 v1021), ∀ (k0_h1 : k0_cond1 arg25 = 1#1), ∀ (k0_h2 : k0_cond2 arg24 v698 v718 v738 v758 v778 v798 v818 v838 = 1#1), ∀ a x, ((![v1021] : Fin 1 → IVec S16 32) a x).toNat < S16.size a := fun arg24 arg25 v698 v718 v738 v758 v778 v798 v818 v838 v1021 k0_hw42 k0_h1 k0_h2 => k0_hw42.1 k0_h1 k0_h2
theorem k0_idx53_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1021 : IVec S16 32) (k0_hw42 : k0_chk42 arg24 arg25 v698 v718 v738 v758 v778 v798 v818 v838 v1021), ∀ (k0_h1 : k0_cond1 arg25 = 1#1), ∀ (k0_h2 : k0_cond2 arg24 v698 v718 v738 v758 v778 v798 v818 v838 = 1#1), ∀ a x, ((![v1021] : Fin 1 → IVec S16 32) a x).toNat < S16.size a := fun arg24 arg25 v698 v718 v738 v758 v778 v798 v818 v838 v1021 k0_hw42 k0_h1 k0_h2 => k0_hw42.2 k0_h1 k0_h2
@[reducible] def k0_t16_loop : Scf.Loop 32 :=
  let c0_i32_521 : BitVec 32 := 0#32
  let c16_i32_522 : BitVec 32 := 16#32
  let v1035 : BitVec 32 := Scalar.addi c0_i32_521 c16_i32_522
  let c1_i32_523 : BitVec 32 := 1#32
  ⟨c0_i32_521, v1035, c1_i32_523⟩

def k0_chk43 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx54_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw43 : k0_chk43 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw43 k0_h1 k0_h2 => k0_hw43 k0_h1 k0_h2

def k0_chk44 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1036 : IVec S16 32) : Prop :=
  (∀ (k0_h1 : k0_cond1 arg25 = 1#1), ∀ (k0_h2 : k0_cond2 arg24 v698 v718 v738 v758 v778 v798 v818 v838 = 1#1), ∀ a x, ((![v1036] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1036] : Fin 1 → IVec S16 32) a x).toNat < S16.size a)
theorem k0_idx55_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1036 : IVec S16 32) (k0_hw44 : k0_chk44 arg24 arg25 v698 v718 v738 v758 v778 v798 v818 v838 v1036), ∀ (k0_h1 : k0_cond1 arg25 = 1#1), ∀ (k0_h2 : k0_cond2 arg24 v698 v718 v738 v758 v778 v798 v818 v838 = 1#1), ∀ a x, ((![v1036] : Fin 1 → IVec S16 32) a x).toNat < S16.size a := fun arg24 arg25 v698 v718 v738 v758 v778 v798 v818 v838 v1036 k0_hw44 k0_h1 k0_h2 => k0_hw44.1 k0_h1 k0_h2
theorem k0_idx56_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1036 : IVec S16 32) (k0_hw44 : k0_chk44 arg24 arg25 v698 v718 v738 v758 v778 v798 v818 v838 v1036), ∀ (k0_h1 : k0_cond1 arg25 = 1#1), ∀ (k0_h2 : k0_cond2 arg24 v698 v718 v738 v758 v778 v798 v818 v838 = 1#1), ∀ a x, ((![v1036] : Fin 1 → IVec S16 32) a x).toNat < S16.size a := fun arg24 arg25 v698 v718 v738 v758 v778 v798 v818 v838 v1036 k0_hw44 k0_h1 k0_h2 => k0_hw44.2 k0_h1 k0_h2

def k0_chk45 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1040 : IVec S16 32) : Prop :=
  (∀ (k0_h1 : k0_cond1 arg25 = 1#1), ∀ (k0_h2 : k0_cond2 arg24 v698 v718 v738 v758 v778 v798 v818 v838 = 1#1), ∀ a x, ((![v1040] : Fin 1 → IVec S16 32) a x).toNat < S16.size a)
theorem k0_idx57_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1040 : IVec S16 32) (k0_hw45 : k0_chk45 arg24 arg25 v698 v718 v738 v758 v778 v798 v818 v838 v1040), ∀ (k0_h1 : k0_cond1 arg25 = 1#1), ∀ (k0_h2 : k0_cond2 arg24 v698 v718 v738 v758 v778 v798 v818 v838 = 1#1), ∀ a x, ((![v1040] : Fin 1 → IVec S16 32) a x).toNat < S16.size a := fun arg24 arg25 v698 v718 v738 v758 v778 v798 v818 v838 v1040 k0_hw45 k0_h1 k0_h2 => k0_hw45 k0_h1 k0_h2

def k0_chk46 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1044 : IVec S16 32) : Prop :=
  (∀ (k0_h1 : k0_cond1 arg25 = 1#1), ∀ (k0_h2 : k0_cond2 arg24 v698 v718 v738 v758 v778 v798 v818 v838 = 1#1), ∀ a x, ((![v1044] : Fin 1 → IVec S16 32) a x).toNat < S16.size a)
theorem k0_idx58_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1044 : IVec S16 32) (k0_hw46 : k0_chk46 arg24 arg25 v698 v718 v738 v758 v778 v798 v818 v838 v1044), ∀ (k0_h1 : k0_cond1 arg25 = 1#1), ∀ (k0_h2 : k0_cond2 arg24 v698 v718 v738 v758 v778 v798 v818 v838 = 1#1), ∀ a x, ((![v1044] : Fin 1 → IVec S16 32) a x).toNat < S16.size a := fun arg24 arg25 v698 v718 v738 v758 v778 v798 v818 v838 v1044 k0_hw46 k0_h1 k0_h2 => k0_hw46 k0_h1 k0_h2
@[reducible] def k0_t17_loop : Scf.Loop 32 :=
  let c0_i32_533 : BitVec 32 := 0#32
  let c16_i32_534 : BitVec 32 := 16#32
  let v1053 : BitVec 32 := Scalar.addi c0_i32_533 c16_i32_534
  let c1_i32_535 : BitVec 32 := 1#32
  ⟨c0_i32_533, v1053, c1_i32_535⟩

def k0_chk47 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx59_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw47 : k0_chk47 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw47 k0_h1 k0_h2 => k0_hw47 k0_h1 k0_h2

def k0_chk48 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1054 : IVec S16 32) : Prop :=
  (∀ (k0_h1 : k0_cond1 arg25 = 1#1), ∀ (k0_h2 : k0_cond2 arg24 v698 v718 v738 v758 v778 v798 v818 v838 = 1#1), ∀ a x, ((![v1054] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1054] : Fin 1 → IVec S16 32) a x).toNat < S16.size a)
theorem k0_idx60_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1054 : IVec S16 32) (k0_hw48 : k0_chk48 arg24 arg25 v698 v718 v738 v758 v778 v798 v818 v838 v1054), ∀ (k0_h1 : k0_cond1 arg25 = 1#1), ∀ (k0_h2 : k0_cond2 arg24 v698 v718 v738 v758 v778 v798 v818 v838 = 1#1), ∀ a x, ((![v1054] : Fin 1 → IVec S16 32) a x).toNat < S16.size a := fun arg24 arg25 v698 v718 v738 v758 v778 v798 v818 v838 v1054 k0_hw48 k0_h1 k0_h2 => k0_hw48.1 k0_h1 k0_h2
theorem k0_idx61_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1054 : IVec S16 32) (k0_hw48 : k0_chk48 arg24 arg25 v698 v718 v738 v758 v778 v798 v818 v838 v1054), ∀ (k0_h1 : k0_cond1 arg25 = 1#1), ∀ (k0_h2 : k0_cond2 arg24 v698 v718 v738 v758 v778 v798 v818 v838 = 1#1), ∀ a x, ((![v1054] : Fin 1 → IVec S16 32) a x).toNat < S16.size a := fun arg24 arg25 v698 v718 v738 v758 v778 v798 v818 v838 v1054 k0_hw48 k0_h1 k0_h2 => k0_hw48.2 k0_h1 k0_h2

def k0_chk49 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1058 : IVec S16 32) : Prop :=
  (∀ (k0_h1 : k0_cond1 arg25 = 1#1), ∀ (k0_h2 : k0_cond2 arg24 v698 v718 v738 v758 v778 v798 v818 v838 = 1#1), ∀ a x, ((![v1058] : Fin 1 → IVec S16 32) a x).toNat < S16.size a)
theorem k0_idx62_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1058 : IVec S16 32) (k0_hw49 : k0_chk49 arg24 arg25 v698 v718 v738 v758 v778 v798 v818 v838 v1058), ∀ (k0_h1 : k0_cond1 arg25 = 1#1), ∀ (k0_h2 : k0_cond2 arg24 v698 v718 v738 v758 v778 v798 v818 v838 = 1#1), ∀ a x, ((![v1058] : Fin 1 → IVec S16 32) a x).toNat < S16.size a := fun arg24 arg25 v698 v718 v738 v758 v778 v798 v818 v838 v1058 k0_hw49 k0_h1 k0_h2 => k0_hw49 k0_h1 k0_h2

def k0_chk50 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1062 : IVec S16 32) : Prop :=
  (∀ (k0_h1 : k0_cond1 arg25 = 1#1), ∀ (k0_h2 : k0_cond2 arg24 v698 v718 v738 v758 v778 v798 v818 v838 = 1#1), ∀ a x, ((![v1062] : Fin 1 → IVec S16 32) a x).toNat < S16.size a)
theorem k0_idx63_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1062 : IVec S16 32) (k0_hw50 : k0_chk50 arg24 arg25 v698 v718 v738 v758 v778 v798 v818 v838 v1062), ∀ (k0_h1 : k0_cond1 arg25 = 1#1), ∀ (k0_h2 : k0_cond2 arg24 v698 v718 v738 v758 v778 v798 v818 v838 = 1#1), ∀ a x, ((![v1062] : Fin 1 → IVec S16 32) a x).toNat < S16.size a := fun arg24 arg25 v698 v718 v738 v758 v778 v798 v818 v838 v1062 k0_hw50 k0_h1 k0_h2 => k0_hw50 k0_h1 k0_h2
@[reducible] def k0_t18_loop : Scf.Loop 32 :=
  let c0_i32_545 : BitVec 32 := 0#32
  let c16_i32_546 : BitVec 32 := 16#32
  let v1071 : BitVec 32 := Scalar.addi c0_i32_545 c16_i32_546
  let c1_i32_547 : BitVec 32 := 1#32
  ⟨c0_i32_545, v1071, c1_i32_547⟩

def k0_chk51 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx64_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw51 : k0_chk51 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw51 k0_h1 k0_h2 => k0_hw51 k0_h1 k0_h2

def k0_chk52 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1072 : IVec S16 32) : Prop :=
  (∀ (k0_h1 : k0_cond1 arg25 = 1#1), ∀ (k0_h2 : k0_cond2 arg24 v698 v718 v738 v758 v778 v798 v818 v838 = 1#1), ∀ a x, ((![v1072] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1072] : Fin 1 → IVec S16 32) a x).toNat < S16.size a)
theorem k0_idx65_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1072 : IVec S16 32) (k0_hw52 : k0_chk52 arg24 arg25 v698 v718 v738 v758 v778 v798 v818 v838 v1072), ∀ (k0_h1 : k0_cond1 arg25 = 1#1), ∀ (k0_h2 : k0_cond2 arg24 v698 v718 v738 v758 v778 v798 v818 v838 = 1#1), ∀ a x, ((![v1072] : Fin 1 → IVec S16 32) a x).toNat < S16.size a := fun arg24 arg25 v698 v718 v738 v758 v778 v798 v818 v838 v1072 k0_hw52 k0_h1 k0_h2 => k0_hw52.1 k0_h1 k0_h2
theorem k0_idx66_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1072 : IVec S16 32) (k0_hw52 : k0_chk52 arg24 arg25 v698 v718 v738 v758 v778 v798 v818 v838 v1072), ∀ (k0_h1 : k0_cond1 arg25 = 1#1), ∀ (k0_h2 : k0_cond2 arg24 v698 v718 v738 v758 v778 v798 v818 v838 = 1#1), ∀ a x, ((![v1072] : Fin 1 → IVec S16 32) a x).toNat < S16.size a := fun arg24 arg25 v698 v718 v738 v758 v778 v798 v818 v838 v1072 k0_hw52 k0_h1 k0_h2 => k0_hw52.2 k0_h1 k0_h2

def k0_chk53 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1076 : IVec S16 32) : Prop :=
  (∀ (k0_h1 : k0_cond1 arg25 = 1#1), ∀ (k0_h2 : k0_cond2 arg24 v698 v718 v738 v758 v778 v798 v818 v838 = 1#1), ∀ a x, ((![v1076] : Fin 1 → IVec S16 32) a x).toNat < S16.size a)
theorem k0_idx67_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1076 : IVec S16 32) (k0_hw53 : k0_chk53 arg24 arg25 v698 v718 v738 v758 v778 v798 v818 v838 v1076), ∀ (k0_h1 : k0_cond1 arg25 = 1#1), ∀ (k0_h2 : k0_cond2 arg24 v698 v718 v738 v758 v778 v798 v818 v838 = 1#1), ∀ a x, ((![v1076] : Fin 1 → IVec S16 32) a x).toNat < S16.size a := fun arg24 arg25 v698 v718 v738 v758 v778 v798 v818 v838 v1076 k0_hw53 k0_h1 k0_h2 => k0_hw53 k0_h1 k0_h2

def k0_chk54 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1080 : IVec S16 32) : Prop :=
  (∀ (k0_h1 : k0_cond1 arg25 = 1#1), ∀ (k0_h2 : k0_cond2 arg24 v698 v718 v738 v758 v778 v798 v818 v838 = 1#1), ∀ a x, ((![v1080] : Fin 1 → IVec S16 32) a x).toNat < S16.size a)
theorem k0_idx68_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1080 : IVec S16 32) (k0_hw54 : k0_chk54 arg24 arg25 v698 v718 v738 v758 v778 v798 v818 v838 v1080), ∀ (k0_h1 : k0_cond1 arg25 = 1#1), ∀ (k0_h2 : k0_cond2 arg24 v698 v718 v738 v758 v778 v798 v818 v838 = 1#1), ∀ a x, ((![v1080] : Fin 1 → IVec S16 32) a x).toNat < S16.size a := fun arg24 arg25 v698 v718 v738 v758 v778 v798 v818 v838 v1080 k0_hw54 k0_h1 k0_h2 => k0_hw54 k0_h1 k0_h2
@[reducible] def k0_t19_loop : Scf.Loop 32 :=
  let c0_i32_557 : BitVec 32 := 0#32
  let c16_i32_558 : BitVec 32 := 16#32
  let v1089 : BitVec 32 := Scalar.addi c0_i32_557 c16_i32_558
  let c1_i32_559 : BitVec 32 := 1#32
  ⟨c0_i32_557, v1089, c1_i32_559⟩

def k0_chk55 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx69_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw55 : k0_chk55 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw55 k0_h1 k0_h2 => k0_hw55 k0_h1 k0_h2

def k0_chk56 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1090 : IVec S16 32) : Prop :=
  (∀ (k0_h1 : k0_cond1 arg25 = 1#1), ∀ (k0_h2 : k0_cond2 arg24 v698 v718 v738 v758 v778 v798 v818 v838 = 1#1), ∀ a x, ((![v1090] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1090] : Fin 1 → IVec S16 32) a x).toNat < S16.size a)
theorem k0_idx70_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1090 : IVec S16 32) (k0_hw56 : k0_chk56 arg24 arg25 v698 v718 v738 v758 v778 v798 v818 v838 v1090), ∀ (k0_h1 : k0_cond1 arg25 = 1#1), ∀ (k0_h2 : k0_cond2 arg24 v698 v718 v738 v758 v778 v798 v818 v838 = 1#1), ∀ a x, ((![v1090] : Fin 1 → IVec S16 32) a x).toNat < S16.size a := fun arg24 arg25 v698 v718 v738 v758 v778 v798 v818 v838 v1090 k0_hw56 k0_h1 k0_h2 => k0_hw56.1 k0_h1 k0_h2
theorem k0_idx71_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1090 : IVec S16 32) (k0_hw56 : k0_chk56 arg24 arg25 v698 v718 v738 v758 v778 v798 v818 v838 v1090), ∀ (k0_h1 : k0_cond1 arg25 = 1#1), ∀ (k0_h2 : k0_cond2 arg24 v698 v718 v738 v758 v778 v798 v818 v838 = 1#1), ∀ a x, ((![v1090] : Fin 1 → IVec S16 32) a x).toNat < S16.size a := fun arg24 arg25 v698 v718 v738 v758 v778 v798 v818 v838 v1090 k0_hw56 k0_h1 k0_h2 => k0_hw56.2 k0_h1 k0_h2

def k0_chk57 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1094 : IVec S16 32) : Prop :=
  (∀ (k0_h1 : k0_cond1 arg25 = 1#1), ∀ (k0_h2 : k0_cond2 arg24 v698 v718 v738 v758 v778 v798 v818 v838 = 1#1), ∀ a x, ((![v1094] : Fin 1 → IVec S16 32) a x).toNat < S16.size a)
theorem k0_idx72_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1094 : IVec S16 32) (k0_hw57 : k0_chk57 arg24 arg25 v698 v718 v738 v758 v778 v798 v818 v838 v1094), ∀ (k0_h1 : k0_cond1 arg25 = 1#1), ∀ (k0_h2 : k0_cond2 arg24 v698 v718 v738 v758 v778 v798 v818 v838 = 1#1), ∀ a x, ((![v1094] : Fin 1 → IVec S16 32) a x).toNat < S16.size a := fun arg24 arg25 v698 v718 v738 v758 v778 v798 v818 v838 v1094 k0_hw57 k0_h1 k0_h2 => k0_hw57 k0_h1 k0_h2

def k0_chk58 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1098 : IVec S16 32) : Prop :=
  (∀ (k0_h1 : k0_cond1 arg25 = 1#1), ∀ (k0_h2 : k0_cond2 arg24 v698 v718 v738 v758 v778 v798 v818 v838 = 1#1), ∀ a x, ((![v1098] : Fin 1 → IVec S16 32) a x).toNat < S16.size a)
theorem k0_idx73_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1098 : IVec S16 32) (k0_hw58 : k0_chk58 arg24 arg25 v698 v718 v738 v758 v778 v798 v818 v838 v1098), ∀ (k0_h1 : k0_cond1 arg25 = 1#1), ∀ (k0_h2 : k0_cond2 arg24 v698 v718 v738 v758 v778 v798 v818 v838 = 1#1), ∀ a x, ((![v1098] : Fin 1 → IVec S16 32) a x).toNat < S16.size a := fun arg24 arg25 v698 v718 v738 v758 v778 v798 v818 v838 v1098 k0_hw58 k0_h1 k0_h2 => k0_hw58 k0_h1 k0_h2
@[reducible] def k0_t20_loop : Scf.Loop 32 :=
  let c0_i32_569 : BitVec 32 := 0#32
  let c16_i32_570 : BitVec 32 := 16#32
  let v1107 : BitVec 32 := Scalar.addi c0_i32_569 c16_i32_570
  let c1_i32_571 : BitVec 32 := 1#32
  ⟨c0_i32_569, v1107, c1_i32_571⟩

def k0_chk59 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx74_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw59 : k0_chk59 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw59 k0_h1 k0_h2 => k0_hw59 k0_h1 k0_h2

def k0_chk60 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1108 : IVec S16 32) : Prop :=
  (∀ (k0_h1 : k0_cond1 arg25 = 1#1), ∀ (k0_h2 : k0_cond2 arg24 v698 v718 v738 v758 v778 v798 v818 v838 = 1#1), ∀ a x, ((![v1108] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1108] : Fin 1 → IVec S16 32) a x).toNat < S16.size a)
theorem k0_idx75_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1108 : IVec S16 32) (k0_hw60 : k0_chk60 arg24 arg25 v698 v718 v738 v758 v778 v798 v818 v838 v1108), ∀ (k0_h1 : k0_cond1 arg25 = 1#1), ∀ (k0_h2 : k0_cond2 arg24 v698 v718 v738 v758 v778 v798 v818 v838 = 1#1), ∀ a x, ((![v1108] : Fin 1 → IVec S16 32) a x).toNat < S16.size a := fun arg24 arg25 v698 v718 v738 v758 v778 v798 v818 v838 v1108 k0_hw60 k0_h1 k0_h2 => k0_hw60.1 k0_h1 k0_h2
theorem k0_idx76_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1108 : IVec S16 32) (k0_hw60 : k0_chk60 arg24 arg25 v698 v718 v738 v758 v778 v798 v818 v838 v1108), ∀ (k0_h1 : k0_cond1 arg25 = 1#1), ∀ (k0_h2 : k0_cond2 arg24 v698 v718 v738 v758 v778 v798 v818 v838 = 1#1), ∀ a x, ((![v1108] : Fin 1 → IVec S16 32) a x).toNat < S16.size a := fun arg24 arg25 v698 v718 v738 v758 v778 v798 v818 v838 v1108 k0_hw60 k0_h1 k0_h2 => k0_hw60.2 k0_h1 k0_h2

def k0_chk61 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1112 : IVec S16 32) : Prop :=
  (∀ (k0_h1 : k0_cond1 arg25 = 1#1), ∀ (k0_h2 : k0_cond2 arg24 v698 v718 v738 v758 v778 v798 v818 v838 = 1#1), ∀ a x, ((![v1112] : Fin 1 → IVec S16 32) a x).toNat < S16.size a)
theorem k0_idx77_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1112 : IVec S16 32) (k0_hw61 : k0_chk61 arg24 arg25 v698 v718 v738 v758 v778 v798 v818 v838 v1112), ∀ (k0_h1 : k0_cond1 arg25 = 1#1), ∀ (k0_h2 : k0_cond2 arg24 v698 v718 v738 v758 v778 v798 v818 v838 = 1#1), ∀ a x, ((![v1112] : Fin 1 → IVec S16 32) a x).toNat < S16.size a := fun arg24 arg25 v698 v718 v738 v758 v778 v798 v818 v838 v1112 k0_hw61 k0_h1 k0_h2 => k0_hw61 k0_h1 k0_h2

def k0_chk62 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1116 : IVec S16 32) : Prop :=
  (∀ (k0_h1 : k0_cond1 arg25 = 1#1), ∀ (k0_h2 : k0_cond2 arg24 v698 v718 v738 v758 v778 v798 v818 v838 = 1#1), ∀ a x, ((![v1116] : Fin 1 → IVec S16 32) a x).toNat < S16.size a)
theorem k0_idx78_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1116 : IVec S16 32) (k0_hw62 : k0_chk62 arg24 arg25 v698 v718 v738 v758 v778 v798 v818 v838 v1116), ∀ (k0_h1 : k0_cond1 arg25 = 1#1), ∀ (k0_h2 : k0_cond2 arg24 v698 v718 v738 v758 v778 v798 v818 v838 = 1#1), ∀ a x, ((![v1116] : Fin 1 → IVec S16 32) a x).toNat < S16.size a := fun arg24 arg25 v698 v718 v738 v758 v778 v798 v818 v838 v1116 k0_hw62 k0_h1 k0_h2 => k0_hw62 k0_h1 k0_h2
@[reducible] def k0_t21_loop : Scf.Loop 32 :=
  let c0_i32_581 : BitVec 32 := 0#32
  let c16_i32_582 : BitVec 32 := 16#32
  let v1125 : BitVec 32 := Scalar.addi c0_i32_581 c16_i32_582
  let c1_i32_583 : BitVec 32 := 1#32
  ⟨c0_i32_581, v1125, c1_i32_583⟩

def k0_chk63 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx79_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw63 : k0_chk63 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw63 k0_h1 k0_h2 => k0_hw63 k0_h1 k0_h2

def k0_chk64 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1126 : IVec S16 32) : Prop :=
  (∀ (k0_h1 : k0_cond1 arg25 = 1#1), ∀ (k0_h2 : k0_cond2 arg24 v698 v718 v738 v758 v778 v798 v818 v838 = 1#1), ∀ a x, ((![v1126] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1126] : Fin 1 → IVec S16 32) a x).toNat < S16.size a)
theorem k0_idx80_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1126 : IVec S16 32) (k0_hw64 : k0_chk64 arg24 arg25 v698 v718 v738 v758 v778 v798 v818 v838 v1126), ∀ (k0_h1 : k0_cond1 arg25 = 1#1), ∀ (k0_h2 : k0_cond2 arg24 v698 v718 v738 v758 v778 v798 v818 v838 = 1#1), ∀ a x, ((![v1126] : Fin 1 → IVec S16 32) a x).toNat < S16.size a := fun arg24 arg25 v698 v718 v738 v758 v778 v798 v818 v838 v1126 k0_hw64 k0_h1 k0_h2 => k0_hw64.1 k0_h1 k0_h2
theorem k0_idx81_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1126 : IVec S16 32) (k0_hw64 : k0_chk64 arg24 arg25 v698 v718 v738 v758 v778 v798 v818 v838 v1126), ∀ (k0_h1 : k0_cond1 arg25 = 1#1), ∀ (k0_h2 : k0_cond2 arg24 v698 v718 v738 v758 v778 v798 v818 v838 = 1#1), ∀ a x, ((![v1126] : Fin 1 → IVec S16 32) a x).toNat < S16.size a := fun arg24 arg25 v698 v718 v738 v758 v778 v798 v818 v838 v1126 k0_hw64 k0_h1 k0_h2 => k0_hw64.2 k0_h1 k0_h2

def k0_chk65 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1130 : IVec S16 32) : Prop :=
  (∀ (k0_h1 : k0_cond1 arg25 = 1#1), ∀ (k0_h2 : k0_cond2 arg24 v698 v718 v738 v758 v778 v798 v818 v838 = 1#1), ∀ a x, ((![v1130] : Fin 1 → IVec S16 32) a x).toNat < S16.size a)
theorem k0_idx82_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1130 : IVec S16 32) (k0_hw65 : k0_chk65 arg24 arg25 v698 v718 v738 v758 v778 v798 v818 v838 v1130), ∀ (k0_h1 : k0_cond1 arg25 = 1#1), ∀ (k0_h2 : k0_cond2 arg24 v698 v718 v738 v758 v778 v798 v818 v838 = 1#1), ∀ a x, ((![v1130] : Fin 1 → IVec S16 32) a x).toNat < S16.size a := fun arg24 arg25 v698 v718 v738 v758 v778 v798 v818 v838 v1130 k0_hw65 k0_h1 k0_h2 => k0_hw65 k0_h1 k0_h2

def k0_chk66 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1134 : IVec S16 32) : Prop :=
  (∀ (k0_h1 : k0_cond1 arg25 = 1#1), ∀ (k0_h2 : k0_cond2 arg24 v698 v718 v738 v758 v778 v798 v818 v838 = 1#1), ∀ a x, ((![v1134] : Fin 1 → IVec S16 32) a x).toNat < S16.size a)
theorem k0_idx83_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1134 : IVec S16 32) (k0_hw66 : k0_chk66 arg24 arg25 v698 v718 v738 v758 v778 v798 v818 v838 v1134), ∀ (k0_h1 : k0_cond1 arg25 = 1#1), ∀ (k0_h2 : k0_cond2 arg24 v698 v718 v738 v758 v778 v798 v818 v838 = 1#1), ∀ a x, ((![v1134] : Fin 1 → IVec S16 32) a x).toNat < S16.size a := fun arg24 arg25 v698 v718 v738 v758 v778 v798 v818 v838 v1134 k0_hw66 k0_h1 k0_h2 => k0_hw66 k0_h1 k0_h2
@[reducible] def k0_t22_loop : Scf.Loop 32 :=
  let c0_i32_593 : BitVec 32 := 0#32
  let c16_i32_594 : BitVec 32 := 16#32
  let v1143 : BitVec 32 := Scalar.addi c0_i32_593 c16_i32_594
  let c1_i32_595 : BitVec 32 := 1#32
  ⟨c0_i32_593, v1143, c1_i32_595⟩

def k0_chk67 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx84_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw67 : k0_chk67 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw67 k0_h1 k0_h2 => k0_hw67 k0_h1 k0_h2

def k0_chk68 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1144 : IVec S16 32) : Prop :=
  (∀ (k0_h1 : k0_cond1 arg25 = 1#1), ∀ (k0_h2 : k0_cond2 arg24 v698 v718 v738 v758 v778 v798 v818 v838 = 1#1), ∀ a x, ((![v1144] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1144] : Fin 1 → IVec S16 32) a x).toNat < S16.size a)
theorem k0_idx85_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1144 : IVec S16 32) (k0_hw68 : k0_chk68 arg24 arg25 v698 v718 v738 v758 v778 v798 v818 v838 v1144), ∀ (k0_h1 : k0_cond1 arg25 = 1#1), ∀ (k0_h2 : k0_cond2 arg24 v698 v718 v738 v758 v778 v798 v818 v838 = 1#1), ∀ a x, ((![v1144] : Fin 1 → IVec S16 32) a x).toNat < S16.size a := fun arg24 arg25 v698 v718 v738 v758 v778 v798 v818 v838 v1144 k0_hw68 k0_h1 k0_h2 => k0_hw68.1 k0_h1 k0_h2
theorem k0_idx86_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1144 : IVec S16 32) (k0_hw68 : k0_chk68 arg24 arg25 v698 v718 v738 v758 v778 v798 v818 v838 v1144), ∀ (k0_h1 : k0_cond1 arg25 = 1#1), ∀ (k0_h2 : k0_cond2 arg24 v698 v718 v738 v758 v778 v798 v818 v838 = 1#1), ∀ a x, ((![v1144] : Fin 1 → IVec S16 32) a x).toNat < S16.size a := fun arg24 arg25 v698 v718 v738 v758 v778 v798 v818 v838 v1144 k0_hw68 k0_h1 k0_h2 => k0_hw68.2 k0_h1 k0_h2

def k0_chk69 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1148 : IVec S16 32) : Prop :=
  (∀ (k0_h1 : k0_cond1 arg25 = 1#1), ∀ (k0_h2 : k0_cond2 arg24 v698 v718 v738 v758 v778 v798 v818 v838 = 1#1), ∀ a x, ((![v1148] : Fin 1 → IVec S16 32) a x).toNat < S16.size a)
theorem k0_idx87_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1148 : IVec S16 32) (k0_hw69 : k0_chk69 arg24 arg25 v698 v718 v738 v758 v778 v798 v818 v838 v1148), ∀ (k0_h1 : k0_cond1 arg25 = 1#1), ∀ (k0_h2 : k0_cond2 arg24 v698 v718 v738 v758 v778 v798 v818 v838 = 1#1), ∀ a x, ((![v1148] : Fin 1 → IVec S16 32) a x).toNat < S16.size a := fun arg24 arg25 v698 v718 v738 v758 v778 v798 v818 v838 v1148 k0_hw69 k0_h1 k0_h2 => k0_hw69 k0_h1 k0_h2

def k0_chk70 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1152 : IVec S16 32) : Prop :=
  (∀ (k0_h1 : k0_cond1 arg25 = 1#1), ∀ (k0_h2 : k0_cond2 arg24 v698 v718 v738 v758 v778 v798 v818 v838 = 1#1), ∀ a x, ((![v1152] : Fin 1 → IVec S16 32) a x).toNat < S16.size a)
theorem k0_idx88_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1152 : IVec S16 32) (k0_hw70 : k0_chk70 arg24 arg25 v698 v718 v738 v758 v778 v798 v818 v838 v1152), ∀ (k0_h1 : k0_cond1 arg25 = 1#1), ∀ (k0_h2 : k0_cond2 arg24 v698 v718 v738 v758 v778 v798 v818 v838 = 1#1), ∀ a x, ((![v1152] : Fin 1 → IVec S16 32) a x).toNat < S16.size a := fun arg24 arg25 v698 v718 v738 v758 v778 v798 v818 v838 v1152 k0_hw70 k0_h1 k0_h2 => k0_hw70 k0_h1 k0_h2
@[reducible] def k0_t23_loop : Scf.Loop 32 :=
  let c0_i32_605 : BitVec 32 := 0#32
  let c16_i32_606 : BitVec 32 := 16#32
  let v1161 : BitVec 32 := Scalar.addi c0_i32_605 c16_i32_606
  let c1_i32_607 : BitVec 32 := 1#32
  ⟨c0_i32_605, v1161, c1_i32_607⟩

def k0_chk71 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx89_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw71 : k0_chk71 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw71 k0_h1 k0_h2 => k0_hw71 k0_h1 k0_h2

def k0_chk72 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1162 : IVec S16 32) : Prop :=
  (∀ (k0_h1 : k0_cond1 arg25 = 1#1), ∀ (k0_h2 : k0_cond2 arg24 v698 v718 v738 v758 v778 v798 v818 v838 = 1#1), ∀ a x, ((![v1162] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1162] : Fin 1 → IVec S16 32) a x).toNat < S16.size a)
theorem k0_idx90_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1162 : IVec S16 32) (k0_hw72 : k0_chk72 arg24 arg25 v698 v718 v738 v758 v778 v798 v818 v838 v1162), ∀ (k0_h1 : k0_cond1 arg25 = 1#1), ∀ (k0_h2 : k0_cond2 arg24 v698 v718 v738 v758 v778 v798 v818 v838 = 1#1), ∀ a x, ((![v1162] : Fin 1 → IVec S16 32) a x).toNat < S16.size a := fun arg24 arg25 v698 v718 v738 v758 v778 v798 v818 v838 v1162 k0_hw72 k0_h1 k0_h2 => k0_hw72.1 k0_h1 k0_h2
theorem k0_idx91_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1162 : IVec S16 32) (k0_hw72 : k0_chk72 arg24 arg25 v698 v718 v738 v758 v778 v798 v818 v838 v1162), ∀ (k0_h1 : k0_cond1 arg25 = 1#1), ∀ (k0_h2 : k0_cond2 arg24 v698 v718 v738 v758 v778 v798 v818 v838 = 1#1), ∀ a x, ((![v1162] : Fin 1 → IVec S16 32) a x).toNat < S16.size a := fun arg24 arg25 v698 v718 v738 v758 v778 v798 v818 v838 v1162 k0_hw72 k0_h1 k0_h2 => k0_hw72.2 k0_h1 k0_h2

def k0_chk73 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1166 : IVec S16 32) : Prop :=
  (∀ (k0_h1 : k0_cond1 arg25 = 1#1), ∀ (k0_h2 : k0_cond2 arg24 v698 v718 v738 v758 v778 v798 v818 v838 = 1#1), ∀ a x, ((![v1166] : Fin 1 → IVec S16 32) a x).toNat < S16.size a)
theorem k0_idx92_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1166 : IVec S16 32) (k0_hw73 : k0_chk73 arg24 arg25 v698 v718 v738 v758 v778 v798 v818 v838 v1166), ∀ (k0_h1 : k0_cond1 arg25 = 1#1), ∀ (k0_h2 : k0_cond2 arg24 v698 v718 v738 v758 v778 v798 v818 v838 = 1#1), ∀ a x, ((![v1166] : Fin 1 → IVec S16 32) a x).toNat < S16.size a := fun arg24 arg25 v698 v718 v738 v758 v778 v798 v818 v838 v1166 k0_hw73 k0_h1 k0_h2 => k0_hw73 k0_h1 k0_h2

def k0_chk74 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1170 : IVec S16 32) : Prop :=
  (∀ (k0_h1 : k0_cond1 arg25 = 1#1), ∀ (k0_h2 : k0_cond2 arg24 v698 v718 v738 v758 v778 v798 v818 v838 = 1#1), ∀ a x, ((![v1170] : Fin 1 → IVec S16 32) a x).toNat < S16.size a)
theorem k0_idx93_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1170 : IVec S16 32) (k0_hw74 : k0_chk74 arg24 arg25 v698 v718 v738 v758 v778 v798 v818 v838 v1170), ∀ (k0_h1 : k0_cond1 arg25 = 1#1), ∀ (k0_h2 : k0_cond2 arg24 v698 v718 v738 v758 v778 v798 v818 v838 = 1#1), ∀ a x, ((![v1170] : Fin 1 → IVec S16 32) a x).toNat < S16.size a := fun arg24 arg25 v698 v718 v738 v758 v778 v798 v818 v838 v1170 k0_hw74 k0_h1 k0_h2 => k0_hw74 k0_h1 k0_h2
@[reducible] def k0_t24_loop : Scf.Loop 32 :=
  let c0_i32_617 : BitVec 32 := 0#32
  let c16_i32_618 : BitVec 32 := 16#32
  let v1179 : BitVec 32 := Scalar.addi c0_i32_617 c16_i32_618
  let c1_i32_619 : BitVec 32 := 1#32
  ⟨c0_i32_617, v1179, c1_i32_619⟩

def k0_chk75 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx94_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw75 : k0_chk75 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw75 k0_h1 k0_h2 => k0_hw75 k0_h1 k0_h2

def k0_chk76 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1180 : IVec S16 32) : Prop :=
  (∀ (k0_h1 : k0_cond1 arg25 = 1#1), ∀ (k0_h2 : k0_cond2 arg24 v698 v718 v738 v758 v778 v798 v818 v838 = 1#1), ∀ a x, ((![v1180] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1180] : Fin 1 → IVec S16 32) a x).toNat < S16.size a)
theorem k0_idx95_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1180 : IVec S16 32) (k0_hw76 : k0_chk76 arg24 arg25 v698 v718 v738 v758 v778 v798 v818 v838 v1180), ∀ (k0_h1 : k0_cond1 arg25 = 1#1), ∀ (k0_h2 : k0_cond2 arg24 v698 v718 v738 v758 v778 v798 v818 v838 = 1#1), ∀ a x, ((![v1180] : Fin 1 → IVec S16 32) a x).toNat < S16.size a := fun arg24 arg25 v698 v718 v738 v758 v778 v798 v818 v838 v1180 k0_hw76 k0_h1 k0_h2 => k0_hw76.1 k0_h1 k0_h2
theorem k0_idx96_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1180 : IVec S16 32) (k0_hw76 : k0_chk76 arg24 arg25 v698 v718 v738 v758 v778 v798 v818 v838 v1180), ∀ (k0_h1 : k0_cond1 arg25 = 1#1), ∀ (k0_h2 : k0_cond2 arg24 v698 v718 v738 v758 v778 v798 v818 v838 = 1#1), ∀ a x, ((![v1180] : Fin 1 → IVec S16 32) a x).toNat < S16.size a := fun arg24 arg25 v698 v718 v738 v758 v778 v798 v818 v838 v1180 k0_hw76 k0_h1 k0_h2 => k0_hw76.2 k0_h1 k0_h2

def k0_chk77 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1184 : IVec S16 32) : Prop :=
  (∀ (k0_h1 : k0_cond1 arg25 = 1#1), ∀ (k0_h2 : k0_cond2 arg24 v698 v718 v738 v758 v778 v798 v818 v838 = 1#1), ∀ a x, ((![v1184] : Fin 1 → IVec S16 32) a x).toNat < S16.size a)
theorem k0_idx97_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1184 : IVec S16 32) (k0_hw77 : k0_chk77 arg24 arg25 v698 v718 v738 v758 v778 v798 v818 v838 v1184), ∀ (k0_h1 : k0_cond1 arg25 = 1#1), ∀ (k0_h2 : k0_cond2 arg24 v698 v718 v738 v758 v778 v798 v818 v838 = 1#1), ∀ a x, ((![v1184] : Fin 1 → IVec S16 32) a x).toNat < S16.size a := fun arg24 arg25 v698 v718 v738 v758 v778 v798 v818 v838 v1184 k0_hw77 k0_h1 k0_h2 => k0_hw77 k0_h1 k0_h2

def k0_chk78 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1188 : IVec S16 32) : Prop :=
  (∀ (k0_h1 : k0_cond1 arg25 = 1#1), ∀ (k0_h2 : k0_cond2 arg24 v698 v718 v738 v758 v778 v798 v818 v838 = 1#1), ∀ a x, ((![v1188] : Fin 1 → IVec S16 32) a x).toNat < S16.size a)
theorem k0_idx98_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1188 : IVec S16 32) (k0_hw78 : k0_chk78 arg24 arg25 v698 v718 v738 v758 v778 v798 v818 v838 v1188), ∀ (k0_h1 : k0_cond1 arg25 = 1#1), ∀ (k0_h2 : k0_cond2 arg24 v698 v718 v738 v758 v778 v798 v818 v838 = 1#1), ∀ a x, ((![v1188] : Fin 1 → IVec S16 32) a x).toNat < S16.size a := fun arg24 arg25 v698 v718 v738 v758 v778 v798 v818 v838 v1188 k0_hw78 k0_h1 k0_h2 => k0_hw78 k0_h1 k0_h2
@[reducible] def k0_t25_loop : Scf.Loop 32 :=
  let c0_i32_629 : BitVec 32 := 0#32
  let c16_i32_630 : BitVec 32 := 16#32
  let v1197 : BitVec 32 := Scalar.addi c0_i32_629 c16_i32_630
  let c1_i32_631 : BitVec 32 := 1#32
  ⟨c0_i32_629, v1197, c1_i32_631⟩

def k0_chk79 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx99_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw79 : k0_chk79 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw79 k0_h1 k0_h2 => k0_hw79 k0_h1 k0_h2

def k0_chk80 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1198 : IVec S16 32) : Prop :=
  (∀ (k0_h1 : k0_cond1 arg25 = 1#1), ∀ (k0_h2 : k0_cond2 arg24 v698 v718 v738 v758 v778 v798 v818 v838 = 1#1), ∀ a x, ((![v1198] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1198] : Fin 1 → IVec S16 32) a x).toNat < S16.size a)
theorem k0_idx100_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1198 : IVec S16 32) (k0_hw80 : k0_chk80 arg24 arg25 v698 v718 v738 v758 v778 v798 v818 v838 v1198), ∀ (k0_h1 : k0_cond1 arg25 = 1#1), ∀ (k0_h2 : k0_cond2 arg24 v698 v718 v738 v758 v778 v798 v818 v838 = 1#1), ∀ a x, ((![v1198] : Fin 1 → IVec S16 32) a x).toNat < S16.size a := fun arg24 arg25 v698 v718 v738 v758 v778 v798 v818 v838 v1198 k0_hw80 k0_h1 k0_h2 => k0_hw80.1 k0_h1 k0_h2
theorem k0_idx101_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1198 : IVec S16 32) (k0_hw80 : k0_chk80 arg24 arg25 v698 v718 v738 v758 v778 v798 v818 v838 v1198), ∀ (k0_h1 : k0_cond1 arg25 = 1#1), ∀ (k0_h2 : k0_cond2 arg24 v698 v718 v738 v758 v778 v798 v818 v838 = 1#1), ∀ a x, ((![v1198] : Fin 1 → IVec S16 32) a x).toNat < S16.size a := fun arg24 arg25 v698 v718 v738 v758 v778 v798 v818 v838 v1198 k0_hw80 k0_h1 k0_h2 => k0_hw80.2 k0_h1 k0_h2

def k0_chk81 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1202 : IVec S16 32) : Prop :=
  (∀ (k0_h1 : k0_cond1 arg25 = 1#1), ∀ (k0_h2 : k0_cond2 arg24 v698 v718 v738 v758 v778 v798 v818 v838 = 1#1), ∀ a x, ((![v1202] : Fin 1 → IVec S16 32) a x).toNat < S16.size a)
theorem k0_idx102_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1202 : IVec S16 32) (k0_hw81 : k0_chk81 arg24 arg25 v698 v718 v738 v758 v778 v798 v818 v838 v1202), ∀ (k0_h1 : k0_cond1 arg25 = 1#1), ∀ (k0_h2 : k0_cond2 arg24 v698 v718 v738 v758 v778 v798 v818 v838 = 1#1), ∀ a x, ((![v1202] : Fin 1 → IVec S16 32) a x).toNat < S16.size a := fun arg24 arg25 v698 v718 v738 v758 v778 v798 v818 v838 v1202 k0_hw81 k0_h1 k0_h2 => k0_hw81 k0_h1 k0_h2

def k0_chk82 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1206 : IVec S16 32) : Prop :=
  (∀ (k0_h1 : k0_cond1 arg25 = 1#1), ∀ (k0_h2 : k0_cond2 arg24 v698 v718 v738 v758 v778 v798 v818 v838 = 1#1), ∀ a x, ((![v1206] : Fin 1 → IVec S16 32) a x).toNat < S16.size a)
theorem k0_idx103_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1206 : IVec S16 32) (k0_hw82 : k0_chk82 arg24 arg25 v698 v718 v738 v758 v778 v798 v818 v838 v1206), ∀ (k0_h1 : k0_cond1 arg25 = 1#1), ∀ (k0_h2 : k0_cond2 arg24 v698 v718 v738 v758 v778 v798 v818 v838 = 1#1), ∀ a x, ((![v1206] : Fin 1 → IVec S16 32) a x).toNat < S16.size a := fun arg24 arg25 v698 v718 v738 v758 v778 v798 v818 v838 v1206 k0_hw82 k0_h1 k0_h2 => k0_hw82 k0_h1 k0_h2
@[reducible] def k0_t26_loop : Scf.Loop 32 :=
  let c0_i32_641 : BitVec 32 := 0#32
  let c16_i32_642 : BitVec 32 := 16#32
  let v1215 : BitVec 32 := Scalar.addi c0_i32_641 c16_i32_642
  let c1_i32_643 : BitVec 32 := 1#32
  ⟨c0_i32_641, v1215, c1_i32_643⟩

def k0_chk83 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx104_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw83 : k0_chk83 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw83 k0_h1 k0_h2 => k0_hw83 k0_h1 k0_h2

def k0_chk84 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1216 : IVec S16 32) : Prop :=
  (∀ (k0_h1 : k0_cond1 arg25 = 1#1), ∀ (k0_h2 : k0_cond2 arg24 v698 v718 v738 v758 v778 v798 v818 v838 = 1#1), ∀ a x, ((![v1216] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1216] : Fin 1 → IVec S16 32) a x).toNat < S16.size a)
theorem k0_idx105_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1216 : IVec S16 32) (k0_hw84 : k0_chk84 arg24 arg25 v698 v718 v738 v758 v778 v798 v818 v838 v1216), ∀ (k0_h1 : k0_cond1 arg25 = 1#1), ∀ (k0_h2 : k0_cond2 arg24 v698 v718 v738 v758 v778 v798 v818 v838 = 1#1), ∀ a x, ((![v1216] : Fin 1 → IVec S16 32) a x).toNat < S16.size a := fun arg24 arg25 v698 v718 v738 v758 v778 v798 v818 v838 v1216 k0_hw84 k0_h1 k0_h2 => k0_hw84.1 k0_h1 k0_h2
theorem k0_idx106_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1216 : IVec S16 32) (k0_hw84 : k0_chk84 arg24 arg25 v698 v718 v738 v758 v778 v798 v818 v838 v1216), ∀ (k0_h1 : k0_cond1 arg25 = 1#1), ∀ (k0_h2 : k0_cond2 arg24 v698 v718 v738 v758 v778 v798 v818 v838 = 1#1), ∀ a x, ((![v1216] : Fin 1 → IVec S16 32) a x).toNat < S16.size a := fun arg24 arg25 v698 v718 v738 v758 v778 v798 v818 v838 v1216 k0_hw84 k0_h1 k0_h2 => k0_hw84.2 k0_h1 k0_h2

def k0_chk85 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1220 : IVec S16 32) : Prop :=
  (∀ (k0_h1 : k0_cond1 arg25 = 1#1), ∀ (k0_h2 : k0_cond2 arg24 v698 v718 v738 v758 v778 v798 v818 v838 = 1#1), ∀ a x, ((![v1220] : Fin 1 → IVec S16 32) a x).toNat < S16.size a)
theorem k0_idx107_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1220 : IVec S16 32) (k0_hw85 : k0_chk85 arg24 arg25 v698 v718 v738 v758 v778 v798 v818 v838 v1220), ∀ (k0_h1 : k0_cond1 arg25 = 1#1), ∀ (k0_h2 : k0_cond2 arg24 v698 v718 v738 v758 v778 v798 v818 v838 = 1#1), ∀ a x, ((![v1220] : Fin 1 → IVec S16 32) a x).toNat < S16.size a := fun arg24 arg25 v698 v718 v738 v758 v778 v798 v818 v838 v1220 k0_hw85 k0_h1 k0_h2 => k0_hw85 k0_h1 k0_h2

def k0_chk86 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1224 : IVec S16 32) : Prop :=
  (∀ (k0_h1 : k0_cond1 arg25 = 1#1), ∀ (k0_h2 : k0_cond2 arg24 v698 v718 v738 v758 v778 v798 v818 v838 = 1#1), ∀ a x, ((![v1224] : Fin 1 → IVec S16 32) a x).toNat < S16.size a)
theorem k0_idx108_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1224 : IVec S16 32) (k0_hw86 : k0_chk86 arg24 arg25 v698 v718 v738 v758 v778 v798 v818 v838 v1224), ∀ (k0_h1 : k0_cond1 arg25 = 1#1), ∀ (k0_h2 : k0_cond2 arg24 v698 v718 v738 v758 v778 v798 v818 v838 = 1#1), ∀ a x, ((![v1224] : Fin 1 → IVec S16 32) a x).toNat < S16.size a := fun arg24 arg25 v698 v718 v738 v758 v778 v798 v818 v838 v1224 k0_hw86 k0_h1 k0_h2 => k0_hw86 k0_h1 k0_h2
@[reducible] def k0_t27_loop : Scf.Loop 32 :=
  let c0_i32_653 : BitVec 32 := 0#32
  let c16_i32_654 : BitVec 32 := 16#32
  let v1233 : BitVec 32 := Scalar.addi c0_i32_653 c16_i32_654
  let c1_i32_655 : BitVec 32 := 1#32
  ⟨c0_i32_653, v1233, c1_i32_655⟩

def k0_chk87 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx109_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw87 : k0_chk87 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw87 k0_h1 k0_h2 => k0_hw87 k0_h1 k0_h2

def k0_chk88 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1234 : IVec S16 32) : Prop :=
  (∀ (k0_h1 : k0_cond1 arg25 = 1#1), ∀ (k0_h2 : k0_cond2 arg24 v698 v718 v738 v758 v778 v798 v818 v838 = 1#1), ∀ a x, ((![v1234] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1234] : Fin 1 → IVec S16 32) a x).toNat < S16.size a)
theorem k0_idx110_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1234 : IVec S16 32) (k0_hw88 : k0_chk88 arg24 arg25 v698 v718 v738 v758 v778 v798 v818 v838 v1234), ∀ (k0_h1 : k0_cond1 arg25 = 1#1), ∀ (k0_h2 : k0_cond2 arg24 v698 v718 v738 v758 v778 v798 v818 v838 = 1#1), ∀ a x, ((![v1234] : Fin 1 → IVec S16 32) a x).toNat < S16.size a := fun arg24 arg25 v698 v718 v738 v758 v778 v798 v818 v838 v1234 k0_hw88 k0_h1 k0_h2 => k0_hw88.1 k0_h1 k0_h2
theorem k0_idx111_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1234 : IVec S16 32) (k0_hw88 : k0_chk88 arg24 arg25 v698 v718 v738 v758 v778 v798 v818 v838 v1234), ∀ (k0_h1 : k0_cond1 arg25 = 1#1), ∀ (k0_h2 : k0_cond2 arg24 v698 v718 v738 v758 v778 v798 v818 v838 = 1#1), ∀ a x, ((![v1234] : Fin 1 → IVec S16 32) a x).toNat < S16.size a := fun arg24 arg25 v698 v718 v738 v758 v778 v798 v818 v838 v1234 k0_hw88 k0_h1 k0_h2 => k0_hw88.2 k0_h1 k0_h2

def k0_chk89 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1238 : IVec S16 32) : Prop :=
  (∀ (k0_h1 : k0_cond1 arg25 = 1#1), ∀ (k0_h2 : k0_cond2 arg24 v698 v718 v738 v758 v778 v798 v818 v838 = 1#1), ∀ a x, ((![v1238] : Fin 1 → IVec S16 32) a x).toNat < S16.size a)
theorem k0_idx112_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1238 : IVec S16 32) (k0_hw89 : k0_chk89 arg24 arg25 v698 v718 v738 v758 v778 v798 v818 v838 v1238), ∀ (k0_h1 : k0_cond1 arg25 = 1#1), ∀ (k0_h2 : k0_cond2 arg24 v698 v718 v738 v758 v778 v798 v818 v838 = 1#1), ∀ a x, ((![v1238] : Fin 1 → IVec S16 32) a x).toNat < S16.size a := fun arg24 arg25 v698 v718 v738 v758 v778 v798 v818 v838 v1238 k0_hw89 k0_h1 k0_h2 => k0_hw89 k0_h1 k0_h2

def k0_chk90 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1242 : IVec S16 32) : Prop :=
  (∀ (k0_h1 : k0_cond1 arg25 = 1#1), ∀ (k0_h2 : k0_cond2 arg24 v698 v718 v738 v758 v778 v798 v818 v838 = 1#1), ∀ a x, ((![v1242] : Fin 1 → IVec S16 32) a x).toNat < S16.size a)
theorem k0_idx113_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1242 : IVec S16 32) (k0_hw90 : k0_chk90 arg24 arg25 v698 v718 v738 v758 v778 v798 v818 v838 v1242), ∀ (k0_h1 : k0_cond1 arg25 = 1#1), ∀ (k0_h2 : k0_cond2 arg24 v698 v718 v738 v758 v778 v798 v818 v838 = 1#1), ∀ a x, ((![v1242] : Fin 1 → IVec S16 32) a x).toNat < S16.size a := fun arg24 arg25 v698 v718 v738 v758 v778 v798 v818 v838 v1242 k0_hw90 k0_h1 k0_h2 => k0_hw90 k0_h1 k0_h2
@[reducible] def k0_t28_loop : Scf.Loop 32 :=
  let c0_i32_665 : BitVec 32 := 0#32
  let c16_i32_666 : BitVec 32 := 16#32
  let v1251 : BitVec 32 := Scalar.addi c0_i32_665 c16_i32_666
  let c1_i32_667 : BitVec 32 := 1#32
  ⟨c0_i32_665, v1251, c1_i32_667⟩

def k0_chk91 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) : Prop :=
  (∀ (k0_h1 : k0_cond1 arg25 = 1#1), ∀ (k0_h2 : k0_cond2 arg24 v698 v718 v738 v758 v778 v798 v818 v838 = 1#1), ∀ a x, ((![v1258] : Fin 1 → IVec S16 32) a x).toNat < S16.size a)
theorem k0_idx114_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1258 : IVec S16 32) (k0_hw91 : k0_chk91 arg24 arg25 v698 v718 v738 v758 v778 v798 v818 v838 v1258), ∀ (k0_h1 : k0_cond1 arg25 = 1#1), ∀ (k0_h2 : k0_cond2 arg24 v698 v718 v738 v758 v778 v798 v818 v838 = 1#1), ∀ a x, ((![v1258] : Fin 1 → IVec S16 32) a x).toNat < S16.size a := fun arg24 arg25 v698 v718 v738 v758 v778 v798 v818 v838 v1258 k0_hw91 k0_h1 k0_h2 => k0_hw91 k0_h1 k0_h2

def k0_chk92 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1252 : IVec S16 32) : Prop :=
  (∀ (k0_h1 : k0_cond1 arg25 = 1#1), ∀ (k0_h2 : k0_cond2 arg24 v698 v718 v738 v758 v778 v798 v818 v838 = 1#1), ∀ a x, ((![v1252] : Fin 1 → IVec S16 32) a x).toNat < S16.size a) ∧
  (∀ (k0_h1 : k0_cond1 arg25 = 1#1), ∀ (k0_h2 : k0_cond2 arg24 v698 v718 v738 v758 v778 v798 v818 v838 = 1#1), ∀ a x, ((![v1252] : Fin 1 → IVec S16 32) a x).toNat < S16.size a)
theorem k0_idx115_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1252 : IVec S16 32) (k0_hw92 : k0_chk92 arg24 arg25 v698 v718 v738 v758 v778 v798 v818 v838 v1252), ∀ (k0_h1 : k0_cond1 arg25 = 1#1), ∀ (k0_h2 : k0_cond2 arg24 v698 v718 v738 v758 v778 v798 v818 v838 = 1#1), ∀ a x, ((![v1252] : Fin 1 → IVec S16 32) a x).toNat < S16.size a := fun arg24 arg25 v698 v718 v738 v758 v778 v798 v818 v838 v1252 k0_hw92 k0_h1 k0_h2 => k0_hw92.1 k0_h1 k0_h2
theorem k0_idx116_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1252 : IVec S16 32) (k0_hw92 : k0_chk92 arg24 arg25 v698 v718 v738 v758 v778 v798 v818 v838 v1252), ∀ (k0_h1 : k0_cond1 arg25 = 1#1), ∀ (k0_h2 : k0_cond2 arg24 v698 v718 v738 v758 v778 v798 v818 v838 = 1#1), ∀ a x, ((![v1252] : Fin 1 → IVec S16 32) a x).toNat < S16.size a := fun arg24 arg25 v698 v718 v738 v758 v778 v798 v818 v838 v1252 k0_hw92 k0_h1 k0_h2 => k0_hw92.2 k0_h1 k0_h2

def k0_chk93 (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1255 : IVec S16 32) : Prop :=
  (∀ (k0_h1 : k0_cond1 arg25 = 1#1), ∀ (k0_h2 : k0_cond2 arg24 v698 v718 v738 v758 v778 v798 v818 v838 = 1#1), ∀ a x, ((![v1255] : Fin 1 → IVec S16 32) a x).toNat < S16.size a)
theorem k0_idx117_inb : ∀ (arg24 : BitVec 32) (arg25 : BitVec 32) (v698 : BitVec 32) (v718 : BitVec 32) (v738 : BitVec 32) (v758 : BitVec 32) (v778 : BitVec 32) (v798 : BitVec 32) (v818 : BitVec 32) (v838 : BitVec 32) (v1255 : IVec S16 32) (k0_hw93 : k0_chk93 arg24 arg25 v698 v718 v738 v758 v778 v798 v818 v838 v1255), ∀ (k0_h1 : k0_cond1 arg25 = 1#1), ∀ (k0_h2 : k0_cond2 arg24 v698 v718 v738 v758 v778 v798 v818 v838 = 1#1), ∀ a x, ((![v1255] : Fin 1 → IVec S16 32) a x).toNat < S16.size a := fun arg24 arg25 v698 v718 v738 v758 v778 v798 v818 v838 v1255 k0_hw93 k0_h1 k0_h2 => k0_hw93 k0_h1 k0_h2
def k0_cond3 (v78_4 : BitVec 32) : BitVec 1 :=
  let c0_i32_41 : BitVec 32 := 0#32
  let v79 : BitVec 1 := Scalar.cmpi .sgt v78_4 c0_i32_41
  let v80 : BitVec 32 := Scalar.extui v79
  let c0_i32_42 : BitVec 32 := 0#32
  let v81 : BitVec 1 := Scalar.cmpi .ne v80 c0_i32_42
  v81

def k0_chk94 (v78_4 : BitVec 32) (v520 : IVec S16 32) : Prop :=
  (∀ (k0_h3 : k0_cond3 v78_4 = 1#1), ∀ a x, ((![v520] : Fin 1 → IVec S16 32) a x).toNat < S224.size a)
theorem k0_idx118_inb : ∀ (v78_4 : BitVec 32) (v520 : IVec S16 32) (k0_hw94 : k0_chk94 v78_4 v520), ∀ (k0_h3 : k0_cond3 v78_4 = 1#1), ∀ a x, ((![v520] : Fin 1 → IVec S16 32) a x).toNat < S224.size a := fun v78_4 v520 k0_hw94 k0_h3 => k0_hw94 k0_h3

def k0_chk95 (v78_4 : BitVec 32) (v529 : IVec S16 32) : Prop :=
  (∀ (k0_h3 : k0_cond3 v78_4 = 1#1), ∀ a x, ((![v529] : Fin 1 → IVec S16 32) a x).toNat < S224.size a)
theorem k0_idx119_inb : ∀ (v78_4 : BitVec 32) (v529 : IVec S16 32) (k0_hw95 : k0_chk95 v78_4 v529), ∀ (k0_h3 : k0_cond3 v78_4 = 1#1), ∀ a x, ((![v529] : Fin 1 → IVec S16 32) a x).toNat < S224.size a := fun v78_4 v529 k0_hw95 k0_h3 => k0_hw95 k0_h3

def k0_chk96 (v78_4 : BitVec 32) (v540 : IVec S16 32) : Prop :=
  (∀ (k0_h3 : k0_cond3 v78_4 = 1#1), ∀ a x, ((![v540] : Fin 1 → IVec S16 32) a x).toNat < S224.size a)
theorem k0_idx120_inb : ∀ (v78_4 : BitVec 32) (v540 : IVec S16 32) (k0_hw96 : k0_chk96 v78_4 v540), ∀ (k0_h3 : k0_cond3 v78_4 = 1#1), ∀ a x, ((![v540] : Fin 1 → IVec S16 32) a x).toNat < S224.size a := fun v78_4 v540 k0_hw96 k0_h3 => k0_hw96 k0_h3

def k0_chk97 (v78_4 : BitVec 32) (v549 : IVec S16 32) : Prop :=
  (∀ (k0_h3 : k0_cond3 v78_4 = 1#1), ∀ a x, ((![v549] : Fin 1 → IVec S16 32) a x).toNat < S224.size a)
theorem k0_idx121_inb : ∀ (v78_4 : BitVec 32) (v549 : IVec S16 32) (k0_hw97 : k0_chk97 v78_4 v549), ∀ (k0_h3 : k0_cond3 v78_4 = 1#1), ∀ a x, ((![v549] : Fin 1 → IVec S16 32) a x).toNat < S224.size a := fun v78_4 v549 k0_hw97 k0_h3 => k0_hw97 k0_h3

def k0_chk98 (v78_4 : BitVec 32) (v560 : IVec S16 32) : Prop :=
  (∀ (k0_h3 : k0_cond3 v78_4 = 1#1), ∀ a x, ((![v560] : Fin 1 → IVec S16 32) a x).toNat < S224.size a)
theorem k0_idx122_inb : ∀ (v78_4 : BitVec 32) (v560 : IVec S16 32) (k0_hw98 : k0_chk98 v78_4 v560), ∀ (k0_h3 : k0_cond3 v78_4 = 1#1), ∀ a x, ((![v560] : Fin 1 → IVec S16 32) a x).toNat < S224.size a := fun v78_4 v560 k0_hw98 k0_h3 => k0_hw98 k0_h3

def k0_chk99 (v78_4 : BitVec 32) (v569 : IVec S16 32) : Prop :=
  (∀ (k0_h3 : k0_cond3 v78_4 = 1#1), ∀ a x, ((![v569] : Fin 1 → IVec S16 32) a x).toNat < S224.size a)
theorem k0_idx123_inb : ∀ (v78_4 : BitVec 32) (v569 : IVec S16 32) (k0_hw99 : k0_chk99 v78_4 v569), ∀ (k0_h3 : k0_cond3 v78_4 = 1#1), ∀ a x, ((![v569] : Fin 1 → IVec S16 32) a x).toNat < S224.size a := fun v78_4 v569 k0_hw99 k0_h3 => k0_hw99 k0_h3

def k0_chk100 (v78_4 : BitVec 32) (v580 : IVec S16 32) : Prop :=
  (∀ (k0_h3 : k0_cond3 v78_4 = 1#1), ∀ a x, ((![v580] : Fin 1 → IVec S16 32) a x).toNat < S224.size a)
theorem k0_idx124_inb : ∀ (v78_4 : BitVec 32) (v580 : IVec S16 32) (k0_hw100 : k0_chk100 v78_4 v580), ∀ (k0_h3 : k0_cond3 v78_4 = 1#1), ∀ a x, ((![v580] : Fin 1 → IVec S16 32) a x).toNat < S224.size a := fun v78_4 v580 k0_hw100 k0_h3 => k0_hw100 k0_h3

def k0_chk101 (v78_4 : BitVec 32) (v589 : IVec S16 32) : Prop :=
  (∀ (k0_h3 : k0_cond3 v78_4 = 1#1), ∀ a x, ((![v589] : Fin 1 → IVec S16 32) a x).toNat < S224.size a)
theorem k0_idx125_inb : ∀ (v78_4 : BitVec 32) (v589 : IVec S16 32) (k0_hw101 : k0_chk101 v78_4 v589), ∀ (k0_h3 : k0_cond3 v78_4 = 1#1), ∀ a x, ((![v589] : Fin 1 → IVec S16 32) a x).toNat < S224.size a := fun v78_4 v589 k0_hw101 k0_h3 => k0_hw101 k0_h3

def k0_chk102 (v78_4 : BitVec 32) (v600 : IVec S16 32) : Prop :=
  (∀ (k0_h3 : k0_cond3 v78_4 = 1#1), ∀ a x, ((![v600] : Fin 1 → IVec S16 32) a x).toNat < S224.size a)
theorem k0_idx126_inb : ∀ (v78_4 : BitVec 32) (v600 : IVec S16 32) (k0_hw102 : k0_chk102 v78_4 v600), ∀ (k0_h3 : k0_cond3 v78_4 = 1#1), ∀ a x, ((![v600] : Fin 1 → IVec S16 32) a x).toNat < S224.size a := fun v78_4 v600 k0_hw102 k0_h3 => k0_hw102 k0_h3

def k0_chk103 (v78_4 : BitVec 32) (v609 : IVec S16 32) : Prop :=
  (∀ (k0_h3 : k0_cond3 v78_4 = 1#1), ∀ a x, ((![v609] : Fin 1 → IVec S16 32) a x).toNat < S224.size a)
theorem k0_idx127_inb : ∀ (v78_4 : BitVec 32) (v609 : IVec S16 32) (k0_hw103 : k0_chk103 v78_4 v609), ∀ (k0_h3 : k0_cond3 v78_4 = 1#1), ∀ a x, ((![v609] : Fin 1 → IVec S16 32) a x).toNat < S224.size a := fun v78_4 v609 k0_hw103 k0_h3 => k0_hw103 k0_h3

def k0_chk104 (v78_4 : BitVec 32) (v620 : IVec S16 32) : Prop :=
  (∀ (k0_h3 : k0_cond3 v78_4 = 1#1), ∀ a x, ((![v620] : Fin 1 → IVec S16 32) a x).toNat < S224.size a)
theorem k0_idx128_inb : ∀ (v78_4 : BitVec 32) (v620 : IVec S16 32) (k0_hw104 : k0_chk104 v78_4 v620), ∀ (k0_h3 : k0_cond3 v78_4 = 1#1), ∀ a x, ((![v620] : Fin 1 → IVec S16 32) a x).toNat < S224.size a := fun v78_4 v620 k0_hw104 k0_h3 => k0_hw104 k0_h3

def k0_chk105 (v78_4 : BitVec 32) (v629 : IVec S16 32) : Prop :=
  (∀ (k0_h3 : k0_cond3 v78_4 = 1#1), ∀ a x, ((![v629] : Fin 1 → IVec S16 32) a x).toNat < S224.size a)
theorem k0_idx129_inb : ∀ (v78_4 : BitVec 32) (v629 : IVec S16 32) (k0_hw105 : k0_chk105 v78_4 v629), ∀ (k0_h3 : k0_cond3 v78_4 = 1#1), ∀ a x, ((![v629] : Fin 1 → IVec S16 32) a x).toNat < S224.size a := fun v78_4 v629 k0_hw105 k0_h3 => k0_hw105 k0_h3

def k0_chk106 (v78_4 : BitVec 32) (v640 : IVec S16 32) : Prop :=
  (∀ (k0_h3 : k0_cond3 v78_4 = 1#1), ∀ a x, ((![v640] : Fin 1 → IVec S16 32) a x).toNat < S224.size a)
theorem k0_idx130_inb : ∀ (v78_4 : BitVec 32) (v640 : IVec S16 32) (k0_hw106 : k0_chk106 v78_4 v640), ∀ (k0_h3 : k0_cond3 v78_4 = 1#1), ∀ a x, ((![v640] : Fin 1 → IVec S16 32) a x).toNat < S224.size a := fun v78_4 v640 k0_hw106 k0_h3 => k0_hw106 k0_h3

def k0_chk107 (v78_4 : BitVec 32) (v649 : IVec S16 32) : Prop :=
  (∀ (k0_h3 : k0_cond3 v78_4 = 1#1), ∀ a x, ((![v649] : Fin 1 → IVec S16 32) a x).toNat < S224.size a)
theorem k0_idx131_inb : ∀ (v78_4 : BitVec 32) (v649 : IVec S16 32) (k0_hw107 : k0_chk107 v78_4 v649), ∀ (k0_h3 : k0_cond3 v78_4 = 1#1), ∀ a x, ((![v649] : Fin 1 → IVec S16 32) a x).toNat < S224.size a := fun v78_4 v649 k0_hw107 k0_h3 => k0_hw107 k0_h3

def k0_chk108 (v78_4 : BitVec 32) (v660 : IVec S16 32) : Prop :=
  (∀ (k0_h3 : k0_cond3 v78_4 = 1#1), ∀ a x, ((![v660] : Fin 1 → IVec S16 32) a x).toNat < S224.size a)
theorem k0_idx132_inb : ∀ (v78_4 : BitVec 32) (v660 : IVec S16 32) (k0_hw108 : k0_chk108 v78_4 v660), ∀ (k0_h3 : k0_cond3 v78_4 = 1#1), ∀ a x, ((![v660] : Fin 1 → IVec S16 32) a x).toNat < S224.size a := fun v78_4 v660 k0_hw108 k0_h3 => k0_hw108 k0_h3

def k0_chk109 (v78_4 : BitVec 32) (v669 : IVec S16 32) : Prop :=
  (∀ (k0_h3 : k0_cond3 v78_4 = 1#1), ∀ a x, ((![v669] : Fin 1 → IVec S16 32) a x).toNat < S224.size a)
theorem k0_idx133_inb : ∀ (v78_4 : BitVec 32) (v669 : IVec S16 32) (k0_hw109 : k0_chk109 v78_4 v669), ∀ (k0_h3 : k0_cond3 v78_4 = 1#1), ∀ a x, ((![v669] : Fin 1 → IVec S16 32) a x).toNat < S224.size a := fun v78_4 v669 k0_hw109 k0_h3 => k0_hw109 k0_h3
@[reducible] def k0_t29_loop : Scf.Loop 32 :=
  let c0_i32_361 : BitVec 32 := 0#32
  let c16_i32_362 : BitVec 32 := 16#32
  let v686 : BitVec 32 := Scalar.addi c0_i32_361 c16_i32_362
  let c1_i32_363 : BitVec 32 := 1#32
  ⟨c0_i32_361, v686, c1_i32_363⟩
def k0_cond4 (v78_3 : BitVec 32) (v514 : BitVec 32) (v534 : BitVec 32) (v554 : BitVec 32) (v574 : BitVec 32) (v594 : BitVec 32) (v614 : BitVec 32) (v634 : BitVec 32) (v654 : BitVec 32) : BitVec 1 :=
  let v530 : BitVec 32 := Scalar.addi v78_3 v514
  let v550 : BitVec 32 := Scalar.addi v530 v534
  let v570 : BitVec 32 := Scalar.addi v550 v554
  let v590 : BitVec 32 := Scalar.addi v570 v574
  let v610 : BitVec 32 := Scalar.addi v590 v594
  let v630 : BitVec 32 := Scalar.addi v610 v614
  let v650 : BitVec 32 := Scalar.addi v630 v634
  let v670 : BitVec 32 := Scalar.addi v650 v654
  let c64_i32_353 : BitVec 32 := 64#32
  let v671 : BitVec 1 := Scalar.cmpi .sge v670 c64_i32_353
  let v672 : BitVec 32 := Scalar.extui v671
  let c0_i32_354 : BitVec 32 := 0#32
  let v673 : BitVec 1 := Scalar.cmpi .ne v672 c0_i32_354
  v673

def k0_chk110 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx134_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw110 : k0_chk110 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw110 k0_h3 k0_h4 => k0_hw110 k0_h3 k0_h4

def k0_chk111 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v687 : IVec S16 32) : Prop :=
  (∀ (k0_h3 : k0_cond3 v78_4 = 1#1), ∀ (k0_h4 : k0_cond4 v78_3 v514 v534 v554 v574 v594 v614 v634 v654 = 1#1), ∀ a x, ((![v687] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v687] : Fin 1 → IVec S16 32) a x).toNat < S16.size a)
theorem k0_idx135_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v687 : IVec S16 32) (k0_hw111 : k0_chk111 v78_4 v78_3 v514 v534 v554 v574 v594 v614 v634 v654 v687), ∀ (k0_h3 : k0_cond3 v78_4 = 1#1), ∀ (k0_h4 : k0_cond4 v78_3 v514 v534 v554 v574 v594 v614 v634 v654 = 1#1), ∀ a x, ((![v687] : Fin 1 → IVec S16 32) a x).toNat < S16.size a := fun v78_4 v78_3 v514 v534 v554 v574 v594 v614 v634 v654 v687 k0_hw111 k0_h3 k0_h4 => k0_hw111.1 k0_h3 k0_h4
theorem k0_idx136_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v687 : IVec S16 32) (k0_hw111 : k0_chk111 v78_4 v78_3 v514 v534 v554 v574 v594 v614 v634 v654 v687), ∀ (k0_h3 : k0_cond3 v78_4 = 1#1), ∀ (k0_h4 : k0_cond4 v78_3 v514 v534 v554 v574 v594 v614 v634 v654 = 1#1), ∀ a x, ((![v687] : Fin 1 → IVec S16 32) a x).toNat < S16.size a := fun v78_4 v78_3 v514 v534 v554 v574 v594 v614 v634 v654 v687 k0_hw111 k0_h3 k0_h4 => k0_hw111.2 k0_h3 k0_h4
@[reducible] def k0_t30_loop : Scf.Loop 32 :=
  let c0_i32_373 : BitVec 32 := 0#32
  let c16_i32_374 : BitVec 32 := 16#32
  let v701 : BitVec 32 := Scalar.addi c0_i32_373 c16_i32_374
  let c1_i32_375 : BitVec 32 := 1#32
  ⟨c0_i32_373, v701, c1_i32_375⟩

def k0_chk112 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx137_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw112 : k0_chk112 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw112 k0_h3 k0_h4 => k0_hw112 k0_h3 k0_h4

def k0_chk113 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v702 : IVec S16 32) : Prop :=
  (∀ (k0_h3 : k0_cond3 v78_4 = 1#1), ∀ (k0_h4 : k0_cond4 v78_3 v514 v534 v554 v574 v594 v614 v634 v654 = 1#1), ∀ a x, ((![v702] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v702] : Fin 1 → IVec S16 32) a x).toNat < S16.size a)
theorem k0_idx138_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v702 : IVec S16 32) (k0_hw113 : k0_chk113 v78_4 v78_3 v514 v534 v554 v574 v594 v614 v634 v654 v702), ∀ (k0_h3 : k0_cond3 v78_4 = 1#1), ∀ (k0_h4 : k0_cond4 v78_3 v514 v534 v554 v574 v594 v614 v634 v654 = 1#1), ∀ a x, ((![v702] : Fin 1 → IVec S16 32) a x).toNat < S16.size a := fun v78_4 v78_3 v514 v534 v554 v574 v594 v614 v634 v654 v702 k0_hw113 k0_h3 k0_h4 => k0_hw113.1 k0_h3 k0_h4
theorem k0_idx139_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v702 : IVec S16 32) (k0_hw113 : k0_chk113 v78_4 v78_3 v514 v534 v554 v574 v594 v614 v634 v654 v702), ∀ (k0_h3 : k0_cond3 v78_4 = 1#1), ∀ (k0_h4 : k0_cond4 v78_3 v514 v534 v554 v574 v594 v614 v634 v654 = 1#1), ∀ a x, ((![v702] : Fin 1 → IVec S16 32) a x).toNat < S16.size a := fun v78_4 v78_3 v514 v534 v554 v574 v594 v614 v634 v654 v702 k0_hw113 k0_h3 k0_h4 => k0_hw113.2 k0_h3 k0_h4
@[reducible] def k0_t31_loop : Scf.Loop 32 :=
  let c0_i32_385 : BitVec 32 := 0#32
  let c16_i32_386 : BitVec 32 := 16#32
  let v716 : BitVec 32 := Scalar.addi c0_i32_385 c16_i32_386
  let c1_i32_387 : BitVec 32 := 1#32
  ⟨c0_i32_385, v716, c1_i32_387⟩

def k0_chk114 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx140_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw114 : k0_chk114 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw114 k0_h3 k0_h4 => k0_hw114 k0_h3 k0_h4

def k0_chk115 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v717 : IVec S16 32) : Prop :=
  (∀ (k0_h3 : k0_cond3 v78_4 = 1#1), ∀ (k0_h4 : k0_cond4 v78_3 v514 v534 v554 v574 v594 v614 v634 v654 = 1#1), ∀ a x, ((![v717] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v717] : Fin 1 → IVec S16 32) a x).toNat < S16.size a)
theorem k0_idx141_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v717 : IVec S16 32) (k0_hw115 : k0_chk115 v78_4 v78_3 v514 v534 v554 v574 v594 v614 v634 v654 v717), ∀ (k0_h3 : k0_cond3 v78_4 = 1#1), ∀ (k0_h4 : k0_cond4 v78_3 v514 v534 v554 v574 v594 v614 v634 v654 = 1#1), ∀ a x, ((![v717] : Fin 1 → IVec S16 32) a x).toNat < S16.size a := fun v78_4 v78_3 v514 v534 v554 v574 v594 v614 v634 v654 v717 k0_hw115 k0_h3 k0_h4 => k0_hw115.1 k0_h3 k0_h4
theorem k0_idx142_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v717 : IVec S16 32) (k0_hw115 : k0_chk115 v78_4 v78_3 v514 v534 v554 v574 v594 v614 v634 v654 v717), ∀ (k0_h3 : k0_cond3 v78_4 = 1#1), ∀ (k0_h4 : k0_cond4 v78_3 v514 v534 v554 v574 v594 v614 v634 v654 = 1#1), ∀ a x, ((![v717] : Fin 1 → IVec S16 32) a x).toNat < S16.size a := fun v78_4 v78_3 v514 v534 v554 v574 v594 v614 v634 v654 v717 k0_hw115 k0_h3 k0_h4 => k0_hw115.2 k0_h3 k0_h4
@[reducible] def k0_t32_loop : Scf.Loop 32 :=
  let c0_i32_397 : BitVec 32 := 0#32
  let c16_i32_398 : BitVec 32 := 16#32
  let v731 : BitVec 32 := Scalar.addi c0_i32_397 c16_i32_398
  let c1_i32_399 : BitVec 32 := 1#32
  ⟨c0_i32_397, v731, c1_i32_399⟩

def k0_chk116 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx143_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw116 : k0_chk116 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw116 k0_h3 k0_h4 => k0_hw116 k0_h3 k0_h4

def k0_chk117 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v732 : IVec S16 32) : Prop :=
  (∀ (k0_h3 : k0_cond3 v78_4 = 1#1), ∀ (k0_h4 : k0_cond4 v78_3 v514 v534 v554 v574 v594 v614 v634 v654 = 1#1), ∀ a x, ((![v732] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v732] : Fin 1 → IVec S16 32) a x).toNat < S16.size a)
theorem k0_idx144_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v732 : IVec S16 32) (k0_hw117 : k0_chk117 v78_4 v78_3 v514 v534 v554 v574 v594 v614 v634 v654 v732), ∀ (k0_h3 : k0_cond3 v78_4 = 1#1), ∀ (k0_h4 : k0_cond4 v78_3 v514 v534 v554 v574 v594 v614 v634 v654 = 1#1), ∀ a x, ((![v732] : Fin 1 → IVec S16 32) a x).toNat < S16.size a := fun v78_4 v78_3 v514 v534 v554 v574 v594 v614 v634 v654 v732 k0_hw117 k0_h3 k0_h4 => k0_hw117.1 k0_h3 k0_h4
theorem k0_idx145_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v732 : IVec S16 32) (k0_hw117 : k0_chk117 v78_4 v78_3 v514 v534 v554 v574 v594 v614 v634 v654 v732), ∀ (k0_h3 : k0_cond3 v78_4 = 1#1), ∀ (k0_h4 : k0_cond4 v78_3 v514 v534 v554 v574 v594 v614 v634 v654 = 1#1), ∀ a x, ((![v732] : Fin 1 → IVec S16 32) a x).toNat < S16.size a := fun v78_4 v78_3 v514 v534 v554 v574 v594 v614 v634 v654 v732 k0_hw117 k0_h3 k0_h4 => k0_hw117.2 k0_h3 k0_h4
@[reducible] def k0_t33_loop : Scf.Loop 32 :=
  let c0_i32_409 : BitVec 32 := 0#32
  let c16_i32_410 : BitVec 32 := 16#32
  let v746 : BitVec 32 := Scalar.addi c0_i32_409 c16_i32_410
  let c1_i32_411 : BitVec 32 := 1#32
  ⟨c0_i32_409, v746, c1_i32_411⟩

def k0_chk118 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx146_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw118 : k0_chk118 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw118 k0_h3 k0_h4 => k0_hw118 k0_h3 k0_h4

def k0_chk119 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v747 : IVec S16 32) : Prop :=
  (∀ (k0_h3 : k0_cond3 v78_4 = 1#1), ∀ (k0_h4 : k0_cond4 v78_3 v514 v534 v554 v574 v594 v614 v634 v654 = 1#1), ∀ a x, ((![v747] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v747] : Fin 1 → IVec S16 32) a x).toNat < S16.size a)
theorem k0_idx147_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v747 : IVec S16 32) (k0_hw119 : k0_chk119 v78_4 v78_3 v514 v534 v554 v574 v594 v614 v634 v654 v747), ∀ (k0_h3 : k0_cond3 v78_4 = 1#1), ∀ (k0_h4 : k0_cond4 v78_3 v514 v534 v554 v574 v594 v614 v634 v654 = 1#1), ∀ a x, ((![v747] : Fin 1 → IVec S16 32) a x).toNat < S16.size a := fun v78_4 v78_3 v514 v534 v554 v574 v594 v614 v634 v654 v747 k0_hw119 k0_h3 k0_h4 => k0_hw119.1 k0_h3 k0_h4
theorem k0_idx148_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v747 : IVec S16 32) (k0_hw119 : k0_chk119 v78_4 v78_3 v514 v534 v554 v574 v594 v614 v634 v654 v747), ∀ (k0_h3 : k0_cond3 v78_4 = 1#1), ∀ (k0_h4 : k0_cond4 v78_3 v514 v534 v554 v574 v594 v614 v634 v654 = 1#1), ∀ a x, ((![v747] : Fin 1 → IVec S16 32) a x).toNat < S16.size a := fun v78_4 v78_3 v514 v534 v554 v574 v594 v614 v634 v654 v747 k0_hw119 k0_h3 k0_h4 => k0_hw119.2 k0_h3 k0_h4
@[reducible] def k0_t34_loop : Scf.Loop 32 :=
  let c0_i32_421 : BitVec 32 := 0#32
  let c16_i32_422 : BitVec 32 := 16#32
  let v761 : BitVec 32 := Scalar.addi c0_i32_421 c16_i32_422
  let c1_i32_423 : BitVec 32 := 1#32
  ⟨c0_i32_421, v761, c1_i32_423⟩

def k0_chk120 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx149_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw120 : k0_chk120 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw120 k0_h3 k0_h4 => k0_hw120 k0_h3 k0_h4

def k0_chk121 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v762 : IVec S16 32) : Prop :=
  (∀ (k0_h3 : k0_cond3 v78_4 = 1#1), ∀ (k0_h4 : k0_cond4 v78_3 v514 v534 v554 v574 v594 v614 v634 v654 = 1#1), ∀ a x, ((![v762] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v762] : Fin 1 → IVec S16 32) a x).toNat < S16.size a)
theorem k0_idx150_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v762 : IVec S16 32) (k0_hw121 : k0_chk121 v78_4 v78_3 v514 v534 v554 v574 v594 v614 v634 v654 v762), ∀ (k0_h3 : k0_cond3 v78_4 = 1#1), ∀ (k0_h4 : k0_cond4 v78_3 v514 v534 v554 v574 v594 v614 v634 v654 = 1#1), ∀ a x, ((![v762] : Fin 1 → IVec S16 32) a x).toNat < S16.size a := fun v78_4 v78_3 v514 v534 v554 v574 v594 v614 v634 v654 v762 k0_hw121 k0_h3 k0_h4 => k0_hw121.1 k0_h3 k0_h4
theorem k0_idx151_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v762 : IVec S16 32) (k0_hw121 : k0_chk121 v78_4 v78_3 v514 v534 v554 v574 v594 v614 v634 v654 v762), ∀ (k0_h3 : k0_cond3 v78_4 = 1#1), ∀ (k0_h4 : k0_cond4 v78_3 v514 v534 v554 v574 v594 v614 v634 v654 = 1#1), ∀ a x, ((![v762] : Fin 1 → IVec S16 32) a x).toNat < S16.size a := fun v78_4 v78_3 v514 v534 v554 v574 v594 v614 v634 v654 v762 k0_hw121 k0_h3 k0_h4 => k0_hw121.2 k0_h3 k0_h4
@[reducible] def k0_t35_loop : Scf.Loop 32 :=
  let c0_i32_433 : BitVec 32 := 0#32
  let c16_i32_434 : BitVec 32 := 16#32
  let v776 : BitVec 32 := Scalar.addi c0_i32_433 c16_i32_434
  let c1_i32_435 : BitVec 32 := 1#32
  ⟨c0_i32_433, v776, c1_i32_435⟩

def k0_chk122 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx152_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw122 : k0_chk122 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw122 k0_h3 k0_h4 => k0_hw122 k0_h3 k0_h4

def k0_chk123 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v777 : IVec S16 32) : Prop :=
  (∀ (k0_h3 : k0_cond3 v78_4 = 1#1), ∀ (k0_h4 : k0_cond4 v78_3 v514 v534 v554 v574 v594 v614 v634 v654 = 1#1), ∀ a x, ((![v777] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v777] : Fin 1 → IVec S16 32) a x).toNat < S16.size a)
theorem k0_idx153_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v777 : IVec S16 32) (k0_hw123 : k0_chk123 v78_4 v78_3 v514 v534 v554 v574 v594 v614 v634 v654 v777), ∀ (k0_h3 : k0_cond3 v78_4 = 1#1), ∀ (k0_h4 : k0_cond4 v78_3 v514 v534 v554 v574 v594 v614 v634 v654 = 1#1), ∀ a x, ((![v777] : Fin 1 → IVec S16 32) a x).toNat < S16.size a := fun v78_4 v78_3 v514 v534 v554 v574 v594 v614 v634 v654 v777 k0_hw123 k0_h3 k0_h4 => k0_hw123.1 k0_h3 k0_h4
theorem k0_idx154_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v777 : IVec S16 32) (k0_hw123 : k0_chk123 v78_4 v78_3 v514 v534 v554 v574 v594 v614 v634 v654 v777), ∀ (k0_h3 : k0_cond3 v78_4 = 1#1), ∀ (k0_h4 : k0_cond4 v78_3 v514 v534 v554 v574 v594 v614 v634 v654 = 1#1), ∀ a x, ((![v777] : Fin 1 → IVec S16 32) a x).toNat < S16.size a := fun v78_4 v78_3 v514 v534 v554 v574 v594 v614 v634 v654 v777 k0_hw123 k0_h3 k0_h4 => k0_hw123.2 k0_h3 k0_h4
@[reducible] def k0_t36_loop : Scf.Loop 32 :=
  let c0_i32_445 : BitVec 32 := 0#32
  let c16_i32_446 : BitVec 32 := 16#32
  let v791 : BitVec 32 := Scalar.addi c0_i32_445 c16_i32_446
  let c1_i32_447 : BitVec 32 := 1#32
  ⟨c0_i32_445, v791, c1_i32_447⟩

def k0_chk124 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx155_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw124 : k0_chk124 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw124 k0_h3 k0_h4 => k0_hw124 k0_h3 k0_h4

def k0_chk125 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v792 : IVec S16 32) : Prop :=
  (∀ (k0_h3 : k0_cond3 v78_4 = 1#1), ∀ (k0_h4 : k0_cond4 v78_3 v514 v534 v554 v574 v594 v614 v634 v654 = 1#1), ∀ a x, ((![v792] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v792] : Fin 1 → IVec S16 32) a x).toNat < S16.size a)
theorem k0_idx156_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v792 : IVec S16 32) (k0_hw125 : k0_chk125 v78_4 v78_3 v514 v534 v554 v574 v594 v614 v634 v654 v792), ∀ (k0_h3 : k0_cond3 v78_4 = 1#1), ∀ (k0_h4 : k0_cond4 v78_3 v514 v534 v554 v574 v594 v614 v634 v654 = 1#1), ∀ a x, ((![v792] : Fin 1 → IVec S16 32) a x).toNat < S16.size a := fun v78_4 v78_3 v514 v534 v554 v574 v594 v614 v634 v654 v792 k0_hw125 k0_h3 k0_h4 => k0_hw125.1 k0_h3 k0_h4
theorem k0_idx157_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v792 : IVec S16 32) (k0_hw125 : k0_chk125 v78_4 v78_3 v514 v534 v554 v574 v594 v614 v634 v654 v792), ∀ (k0_h3 : k0_cond3 v78_4 = 1#1), ∀ (k0_h4 : k0_cond4 v78_3 v514 v534 v554 v574 v594 v614 v634 v654 = 1#1), ∀ a x, ((![v792] : Fin 1 → IVec S16 32) a x).toNat < S16.size a := fun v78_4 v78_3 v514 v534 v554 v574 v594 v614 v634 v654 v792 k0_hw125 k0_h3 k0_h4 => k0_hw125.2 k0_h3 k0_h4
@[reducible] def k0_t37_loop : Scf.Loop 32 :=
  let c0_i32_457 : BitVec 32 := 0#32
  let c16_i32_458 : BitVec 32 := 16#32
  let v806 : BitVec 32 := Scalar.addi c0_i32_457 c16_i32_458
  let c1_i32_459 : BitVec 32 := 1#32
  ⟨c0_i32_457, v806, c1_i32_459⟩

def k0_chk126 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx158_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw126 : k0_chk126 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw126 k0_h3 k0_h4 => k0_hw126 k0_h3 k0_h4

def k0_chk127 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v807 : IVec S16 32) : Prop :=
  (∀ (k0_h3 : k0_cond3 v78_4 = 1#1), ∀ (k0_h4 : k0_cond4 v78_3 v514 v534 v554 v574 v594 v614 v634 v654 = 1#1), ∀ a x, ((![v807] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v807] : Fin 1 → IVec S16 32) a x).toNat < S16.size a)
theorem k0_idx159_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v807 : IVec S16 32) (k0_hw127 : k0_chk127 v78_4 v78_3 v514 v534 v554 v574 v594 v614 v634 v654 v807), ∀ (k0_h3 : k0_cond3 v78_4 = 1#1), ∀ (k0_h4 : k0_cond4 v78_3 v514 v534 v554 v574 v594 v614 v634 v654 = 1#1), ∀ a x, ((![v807] : Fin 1 → IVec S16 32) a x).toNat < S16.size a := fun v78_4 v78_3 v514 v534 v554 v574 v594 v614 v634 v654 v807 k0_hw127 k0_h3 k0_h4 => k0_hw127.1 k0_h3 k0_h4
theorem k0_idx160_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v807 : IVec S16 32) (k0_hw127 : k0_chk127 v78_4 v78_3 v514 v534 v554 v574 v594 v614 v634 v654 v807), ∀ (k0_h3 : k0_cond3 v78_4 = 1#1), ∀ (k0_h4 : k0_cond4 v78_3 v514 v534 v554 v574 v594 v614 v634 v654 = 1#1), ∀ a x, ((![v807] : Fin 1 → IVec S16 32) a x).toNat < S16.size a := fun v78_4 v78_3 v514 v534 v554 v574 v594 v614 v634 v654 v807 k0_hw127 k0_h3 k0_h4 => k0_hw127.2 k0_h3 k0_h4
@[reducible] def k0_t38_loop : Scf.Loop 32 :=
  let c0_i32_469 : BitVec 32 := 0#32
  let c16_i32_470 : BitVec 32 := 16#32
  let v821 : BitVec 32 := Scalar.addi c0_i32_469 c16_i32_470
  let c1_i32_471 : BitVec 32 := 1#32
  ⟨c0_i32_469, v821, c1_i32_471⟩

def k0_chk128 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx161_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw128 : k0_chk128 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw128 k0_h3 k0_h4 => k0_hw128 k0_h3 k0_h4

def k0_chk129 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v822 : IVec S16 32) : Prop :=
  (∀ (k0_h3 : k0_cond3 v78_4 = 1#1), ∀ (k0_h4 : k0_cond4 v78_3 v514 v534 v554 v574 v594 v614 v634 v654 = 1#1), ∀ a x, ((![v822] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v822] : Fin 1 → IVec S16 32) a x).toNat < S16.size a)
theorem k0_idx162_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v822 : IVec S16 32) (k0_hw129 : k0_chk129 v78_4 v78_3 v514 v534 v554 v574 v594 v614 v634 v654 v822), ∀ (k0_h3 : k0_cond3 v78_4 = 1#1), ∀ (k0_h4 : k0_cond4 v78_3 v514 v534 v554 v574 v594 v614 v634 v654 = 1#1), ∀ a x, ((![v822] : Fin 1 → IVec S16 32) a x).toNat < S16.size a := fun v78_4 v78_3 v514 v534 v554 v574 v594 v614 v634 v654 v822 k0_hw129 k0_h3 k0_h4 => k0_hw129.1 k0_h3 k0_h4
theorem k0_idx163_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v822 : IVec S16 32) (k0_hw129 : k0_chk129 v78_4 v78_3 v514 v534 v554 v574 v594 v614 v634 v654 v822), ∀ (k0_h3 : k0_cond3 v78_4 = 1#1), ∀ (k0_h4 : k0_cond4 v78_3 v514 v534 v554 v574 v594 v614 v634 v654 = 1#1), ∀ a x, ((![v822] : Fin 1 → IVec S16 32) a x).toNat < S16.size a := fun v78_4 v78_3 v514 v534 v554 v574 v594 v614 v634 v654 v822 k0_hw129 k0_h3 k0_h4 => k0_hw129.2 k0_h3 k0_h4
@[reducible] def k0_t39_loop : Scf.Loop 32 :=
  let c0_i32_481 : BitVec 32 := 0#32
  let c16_i32_482 : BitVec 32 := 16#32
  let v836 : BitVec 32 := Scalar.addi c0_i32_481 c16_i32_482
  let c1_i32_483 : BitVec 32 := 1#32
  ⟨c0_i32_481, v836, c1_i32_483⟩

def k0_chk130 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx164_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw130 : k0_chk130 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw130 k0_h3 k0_h4 => k0_hw130 k0_h3 k0_h4

def k0_chk131 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v837 : IVec S16 32) : Prop :=
  (∀ (k0_h3 : k0_cond3 v78_4 = 1#1), ∀ (k0_h4 : k0_cond4 v78_3 v514 v534 v554 v574 v594 v614 v634 v654 = 1#1), ∀ a x, ((![v837] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v837] : Fin 1 → IVec S16 32) a x).toNat < S16.size a)
theorem k0_idx165_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v837 : IVec S16 32) (k0_hw131 : k0_chk131 v78_4 v78_3 v514 v534 v554 v574 v594 v614 v634 v654 v837), ∀ (k0_h3 : k0_cond3 v78_4 = 1#1), ∀ (k0_h4 : k0_cond4 v78_3 v514 v534 v554 v574 v594 v614 v634 v654 = 1#1), ∀ a x, ((![v837] : Fin 1 → IVec S16 32) a x).toNat < S16.size a := fun v78_4 v78_3 v514 v534 v554 v574 v594 v614 v634 v654 v837 k0_hw131 k0_h3 k0_h4 => k0_hw131.1 k0_h3 k0_h4
theorem k0_idx166_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v837 : IVec S16 32) (k0_hw131 : k0_chk131 v78_4 v78_3 v514 v534 v554 v574 v594 v614 v634 v654 v837), ∀ (k0_h3 : k0_cond3 v78_4 = 1#1), ∀ (k0_h4 : k0_cond4 v78_3 v514 v534 v554 v574 v594 v614 v634 v654 = 1#1), ∀ a x, ((![v837] : Fin 1 → IVec S16 32) a x).toNat < S16.size a := fun v78_4 v78_3 v514 v534 v554 v574 v594 v614 v634 v654 v837 k0_hw131 k0_h3 k0_h4 => k0_hw131.2 k0_h3 k0_h4
@[reducible] def k0_t40_loop : Scf.Loop 32 :=
  let c0_i32_493 : BitVec 32 := 0#32
  let c16_i32_494 : BitVec 32 := 16#32
  let v851 : BitVec 32 := Scalar.addi c0_i32_493 c16_i32_494
  let c1_i32_495 : BitVec 32 := 1#32
  ⟨c0_i32_493, v851, c1_i32_495⟩

def k0_chk132 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx167_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw132 : k0_chk132 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw132 k0_h3 k0_h4 => k0_hw132 k0_h3 k0_h4

def k0_chk133 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v852 : IVec S16 32) : Prop :=
  (∀ (k0_h3 : k0_cond3 v78_4 = 1#1), ∀ (k0_h4 : k0_cond4 v78_3 v514 v534 v554 v574 v594 v614 v634 v654 = 1#1), ∀ a x, ((![v852] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v852] : Fin 1 → IVec S16 32) a x).toNat < S16.size a)
theorem k0_idx168_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v852 : IVec S16 32) (k0_hw133 : k0_chk133 v78_4 v78_3 v514 v534 v554 v574 v594 v614 v634 v654 v852), ∀ (k0_h3 : k0_cond3 v78_4 = 1#1), ∀ (k0_h4 : k0_cond4 v78_3 v514 v534 v554 v574 v594 v614 v634 v654 = 1#1), ∀ a x, ((![v852] : Fin 1 → IVec S16 32) a x).toNat < S16.size a := fun v78_4 v78_3 v514 v534 v554 v574 v594 v614 v634 v654 v852 k0_hw133 k0_h3 k0_h4 => k0_hw133.1 k0_h3 k0_h4
theorem k0_idx169_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v852 : IVec S16 32) (k0_hw133 : k0_chk133 v78_4 v78_3 v514 v534 v554 v574 v594 v614 v634 v654 v852), ∀ (k0_h3 : k0_cond3 v78_4 = 1#1), ∀ (k0_h4 : k0_cond4 v78_3 v514 v534 v554 v574 v594 v614 v634 v654 = 1#1), ∀ a x, ((![v852] : Fin 1 → IVec S16 32) a x).toNat < S16.size a := fun v78_4 v78_3 v514 v534 v554 v574 v594 v614 v634 v654 v852 k0_hw133 k0_h3 k0_h4 => k0_hw133.2 k0_h3 k0_h4

def k0_chk134 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v856 : IVec S16 32) : Prop :=
  (∀ (k0_h3 : k0_cond3 v78_4 = 1#1), ∀ (k0_h4 : k0_cond4 v78_3 v514 v534 v554 v574 v594 v614 v634 v654 = 1#1), ∀ a x, ((![v856] : Fin 1 → IVec S16 32) a x).toNat < S16.size a)
theorem k0_idx170_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v856 : IVec S16 32) (k0_hw134 : k0_chk134 v78_4 v78_3 v514 v534 v554 v574 v594 v614 v634 v654 v856), ∀ (k0_h3 : k0_cond3 v78_4 = 1#1), ∀ (k0_h4 : k0_cond4 v78_3 v514 v534 v554 v574 v594 v614 v634 v654 = 1#1), ∀ a x, ((![v856] : Fin 1 → IVec S16 32) a x).toNat < S16.size a := fun v78_4 v78_3 v514 v534 v554 v574 v594 v614 v634 v654 v856 k0_hw134 k0_h3 k0_h4 => k0_hw134 k0_h3 k0_h4

def k0_chk135 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v860 : IVec S16 32) : Prop :=
  (∀ (k0_h3 : k0_cond3 v78_4 = 1#1), ∀ (k0_h4 : k0_cond4 v78_3 v514 v534 v554 v574 v594 v614 v634 v654 = 1#1), ∀ a x, ((![v860] : Fin 1 → IVec S16 32) a x).toNat < S16.size a)
theorem k0_idx171_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v860 : IVec S16 32) (k0_hw135 : k0_chk135 v78_4 v78_3 v514 v534 v554 v574 v594 v614 v634 v654 v860), ∀ (k0_h3 : k0_cond3 v78_4 = 1#1), ∀ (k0_h4 : k0_cond4 v78_3 v514 v534 v554 v574 v594 v614 v634 v654 = 1#1), ∀ a x, ((![v860] : Fin 1 → IVec S16 32) a x).toNat < S16.size a := fun v78_4 v78_3 v514 v534 v554 v574 v594 v614 v634 v654 v860 k0_hw135 k0_h3 k0_h4 => k0_hw135 k0_h3 k0_h4
@[reducible] def k0_t41_loop : Scf.Loop 32 :=
  let c0_i32_505 : BitVec 32 := 0#32
  let c16_i32_506 : BitVec 32 := 16#32
  let v869 : BitVec 32 := Scalar.addi c0_i32_505 c16_i32_506
  let c1_i32_507 : BitVec 32 := 1#32
  ⟨c0_i32_505, v869, c1_i32_507⟩

def k0_chk136 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx172_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw136 : k0_chk136 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw136 k0_h3 k0_h4 => k0_hw136 k0_h3 k0_h4

def k0_chk137 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v870 : IVec S16 32) : Prop :=
  (∀ (k0_h3 : k0_cond3 v78_4 = 1#1), ∀ (k0_h4 : k0_cond4 v78_3 v514 v534 v554 v574 v594 v614 v634 v654 = 1#1), ∀ a x, ((![v870] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v870] : Fin 1 → IVec S16 32) a x).toNat < S16.size a)
theorem k0_idx173_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v870 : IVec S16 32) (k0_hw137 : k0_chk137 v78_4 v78_3 v514 v534 v554 v574 v594 v614 v634 v654 v870), ∀ (k0_h3 : k0_cond3 v78_4 = 1#1), ∀ (k0_h4 : k0_cond4 v78_3 v514 v534 v554 v574 v594 v614 v634 v654 = 1#1), ∀ a x, ((![v870] : Fin 1 → IVec S16 32) a x).toNat < S16.size a := fun v78_4 v78_3 v514 v534 v554 v574 v594 v614 v634 v654 v870 k0_hw137 k0_h3 k0_h4 => k0_hw137.1 k0_h3 k0_h4
theorem k0_idx174_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v870 : IVec S16 32) (k0_hw137 : k0_chk137 v78_4 v78_3 v514 v534 v554 v574 v594 v614 v634 v654 v870), ∀ (k0_h3 : k0_cond3 v78_4 = 1#1), ∀ (k0_h4 : k0_cond4 v78_3 v514 v534 v554 v574 v594 v614 v634 v654 = 1#1), ∀ a x, ((![v870] : Fin 1 → IVec S16 32) a x).toNat < S16.size a := fun v78_4 v78_3 v514 v534 v554 v574 v594 v614 v634 v654 v870 k0_hw137 k0_h3 k0_h4 => k0_hw137.2 k0_h3 k0_h4

def k0_chk138 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v874 : IVec S16 32) : Prop :=
  (∀ (k0_h3 : k0_cond3 v78_4 = 1#1), ∀ (k0_h4 : k0_cond4 v78_3 v514 v534 v554 v574 v594 v614 v634 v654 = 1#1), ∀ a x, ((![v874] : Fin 1 → IVec S16 32) a x).toNat < S16.size a)
theorem k0_idx175_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v874 : IVec S16 32) (k0_hw138 : k0_chk138 v78_4 v78_3 v514 v534 v554 v574 v594 v614 v634 v654 v874), ∀ (k0_h3 : k0_cond3 v78_4 = 1#1), ∀ (k0_h4 : k0_cond4 v78_3 v514 v534 v554 v574 v594 v614 v634 v654 = 1#1), ∀ a x, ((![v874] : Fin 1 → IVec S16 32) a x).toNat < S16.size a := fun v78_4 v78_3 v514 v534 v554 v574 v594 v614 v634 v654 v874 k0_hw138 k0_h3 k0_h4 => k0_hw138 k0_h3 k0_h4

def k0_chk139 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v878 : IVec S16 32) : Prop :=
  (∀ (k0_h3 : k0_cond3 v78_4 = 1#1), ∀ (k0_h4 : k0_cond4 v78_3 v514 v534 v554 v574 v594 v614 v634 v654 = 1#1), ∀ a x, ((![v878] : Fin 1 → IVec S16 32) a x).toNat < S16.size a)
theorem k0_idx176_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v878 : IVec S16 32) (k0_hw139 : k0_chk139 v78_4 v78_3 v514 v534 v554 v574 v594 v614 v634 v654 v878), ∀ (k0_h3 : k0_cond3 v78_4 = 1#1), ∀ (k0_h4 : k0_cond4 v78_3 v514 v534 v554 v574 v594 v614 v634 v654 = 1#1), ∀ a x, ((![v878] : Fin 1 → IVec S16 32) a x).toNat < S16.size a := fun v78_4 v78_3 v514 v534 v554 v574 v594 v614 v634 v654 v878 k0_hw139 k0_h3 k0_h4 => k0_hw139 k0_h3 k0_h4
@[reducible] def k0_t42_loop : Scf.Loop 32 :=
  let c0_i32_517 : BitVec 32 := 0#32
  let c16_i32_518 : BitVec 32 := 16#32
  let v887 : BitVec 32 := Scalar.addi c0_i32_517 c16_i32_518
  let c1_i32_519 : BitVec 32 := 1#32
  ⟨c0_i32_517, v887, c1_i32_519⟩

def k0_chk140 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx177_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw140 : k0_chk140 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw140 k0_h3 k0_h4 => k0_hw140 k0_h3 k0_h4

def k0_chk141 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v888 : IVec S16 32) : Prop :=
  (∀ (k0_h3 : k0_cond3 v78_4 = 1#1), ∀ (k0_h4 : k0_cond4 v78_3 v514 v534 v554 v574 v594 v614 v634 v654 = 1#1), ∀ a x, ((![v888] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v888] : Fin 1 → IVec S16 32) a x).toNat < S16.size a)
theorem k0_idx178_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v888 : IVec S16 32) (k0_hw141 : k0_chk141 v78_4 v78_3 v514 v534 v554 v574 v594 v614 v634 v654 v888), ∀ (k0_h3 : k0_cond3 v78_4 = 1#1), ∀ (k0_h4 : k0_cond4 v78_3 v514 v534 v554 v574 v594 v614 v634 v654 = 1#1), ∀ a x, ((![v888] : Fin 1 → IVec S16 32) a x).toNat < S16.size a := fun v78_4 v78_3 v514 v534 v554 v574 v594 v614 v634 v654 v888 k0_hw141 k0_h3 k0_h4 => k0_hw141.1 k0_h3 k0_h4
theorem k0_idx179_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v888 : IVec S16 32) (k0_hw141 : k0_chk141 v78_4 v78_3 v514 v534 v554 v574 v594 v614 v634 v654 v888), ∀ (k0_h3 : k0_cond3 v78_4 = 1#1), ∀ (k0_h4 : k0_cond4 v78_3 v514 v534 v554 v574 v594 v614 v634 v654 = 1#1), ∀ a x, ((![v888] : Fin 1 → IVec S16 32) a x).toNat < S16.size a := fun v78_4 v78_3 v514 v534 v554 v574 v594 v614 v634 v654 v888 k0_hw141 k0_h3 k0_h4 => k0_hw141.2 k0_h3 k0_h4

def k0_chk142 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v892 : IVec S16 32) : Prop :=
  (∀ (k0_h3 : k0_cond3 v78_4 = 1#1), ∀ (k0_h4 : k0_cond4 v78_3 v514 v534 v554 v574 v594 v614 v634 v654 = 1#1), ∀ a x, ((![v892] : Fin 1 → IVec S16 32) a x).toNat < S16.size a)
theorem k0_idx180_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v892 : IVec S16 32) (k0_hw142 : k0_chk142 v78_4 v78_3 v514 v534 v554 v574 v594 v614 v634 v654 v892), ∀ (k0_h3 : k0_cond3 v78_4 = 1#1), ∀ (k0_h4 : k0_cond4 v78_3 v514 v534 v554 v574 v594 v614 v634 v654 = 1#1), ∀ a x, ((![v892] : Fin 1 → IVec S16 32) a x).toNat < S16.size a := fun v78_4 v78_3 v514 v534 v554 v574 v594 v614 v634 v654 v892 k0_hw142 k0_h3 k0_h4 => k0_hw142 k0_h3 k0_h4

def k0_chk143 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v896 : IVec S16 32) : Prop :=
  (∀ (k0_h3 : k0_cond3 v78_4 = 1#1), ∀ (k0_h4 : k0_cond4 v78_3 v514 v534 v554 v574 v594 v614 v634 v654 = 1#1), ∀ a x, ((![v896] : Fin 1 → IVec S16 32) a x).toNat < S16.size a)
theorem k0_idx181_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v896 : IVec S16 32) (k0_hw143 : k0_chk143 v78_4 v78_3 v514 v534 v554 v574 v594 v614 v634 v654 v896), ∀ (k0_h3 : k0_cond3 v78_4 = 1#1), ∀ (k0_h4 : k0_cond4 v78_3 v514 v534 v554 v574 v594 v614 v634 v654 = 1#1), ∀ a x, ((![v896] : Fin 1 → IVec S16 32) a x).toNat < S16.size a := fun v78_4 v78_3 v514 v534 v554 v574 v594 v614 v634 v654 v896 k0_hw143 k0_h3 k0_h4 => k0_hw143 k0_h3 k0_h4
@[reducible] def k0_t43_loop : Scf.Loop 32 :=
  let c0_i32_529 : BitVec 32 := 0#32
  let c16_i32_530 : BitVec 32 := 16#32
  let v905 : BitVec 32 := Scalar.addi c0_i32_529 c16_i32_530
  let c1_i32_531 : BitVec 32 := 1#32
  ⟨c0_i32_529, v905, c1_i32_531⟩

def k0_chk144 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx182_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw144 : k0_chk144 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw144 k0_h3 k0_h4 => k0_hw144 k0_h3 k0_h4

def k0_chk145 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v906 : IVec S16 32) : Prop :=
  (∀ (k0_h3 : k0_cond3 v78_4 = 1#1), ∀ (k0_h4 : k0_cond4 v78_3 v514 v534 v554 v574 v594 v614 v634 v654 = 1#1), ∀ a x, ((![v906] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v906] : Fin 1 → IVec S16 32) a x).toNat < S16.size a)
theorem k0_idx183_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v906 : IVec S16 32) (k0_hw145 : k0_chk145 v78_4 v78_3 v514 v534 v554 v574 v594 v614 v634 v654 v906), ∀ (k0_h3 : k0_cond3 v78_4 = 1#1), ∀ (k0_h4 : k0_cond4 v78_3 v514 v534 v554 v574 v594 v614 v634 v654 = 1#1), ∀ a x, ((![v906] : Fin 1 → IVec S16 32) a x).toNat < S16.size a := fun v78_4 v78_3 v514 v534 v554 v574 v594 v614 v634 v654 v906 k0_hw145 k0_h3 k0_h4 => k0_hw145.1 k0_h3 k0_h4
theorem k0_idx184_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v906 : IVec S16 32) (k0_hw145 : k0_chk145 v78_4 v78_3 v514 v534 v554 v574 v594 v614 v634 v654 v906), ∀ (k0_h3 : k0_cond3 v78_4 = 1#1), ∀ (k0_h4 : k0_cond4 v78_3 v514 v534 v554 v574 v594 v614 v634 v654 = 1#1), ∀ a x, ((![v906] : Fin 1 → IVec S16 32) a x).toNat < S16.size a := fun v78_4 v78_3 v514 v534 v554 v574 v594 v614 v634 v654 v906 k0_hw145 k0_h3 k0_h4 => k0_hw145.2 k0_h3 k0_h4

def k0_chk146 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v910 : IVec S16 32) : Prop :=
  (∀ (k0_h3 : k0_cond3 v78_4 = 1#1), ∀ (k0_h4 : k0_cond4 v78_3 v514 v534 v554 v574 v594 v614 v634 v654 = 1#1), ∀ a x, ((![v910] : Fin 1 → IVec S16 32) a x).toNat < S16.size a)
theorem k0_idx185_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v910 : IVec S16 32) (k0_hw146 : k0_chk146 v78_4 v78_3 v514 v534 v554 v574 v594 v614 v634 v654 v910), ∀ (k0_h3 : k0_cond3 v78_4 = 1#1), ∀ (k0_h4 : k0_cond4 v78_3 v514 v534 v554 v574 v594 v614 v634 v654 = 1#1), ∀ a x, ((![v910] : Fin 1 → IVec S16 32) a x).toNat < S16.size a := fun v78_4 v78_3 v514 v534 v554 v574 v594 v614 v634 v654 v910 k0_hw146 k0_h3 k0_h4 => k0_hw146 k0_h3 k0_h4

def k0_chk147 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v914 : IVec S16 32) : Prop :=
  (∀ (k0_h3 : k0_cond3 v78_4 = 1#1), ∀ (k0_h4 : k0_cond4 v78_3 v514 v534 v554 v574 v594 v614 v634 v654 = 1#1), ∀ a x, ((![v914] : Fin 1 → IVec S16 32) a x).toNat < S16.size a)
theorem k0_idx186_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v914 : IVec S16 32) (k0_hw147 : k0_chk147 v78_4 v78_3 v514 v534 v554 v574 v594 v614 v634 v654 v914), ∀ (k0_h3 : k0_cond3 v78_4 = 1#1), ∀ (k0_h4 : k0_cond4 v78_3 v514 v534 v554 v574 v594 v614 v634 v654 = 1#1), ∀ a x, ((![v914] : Fin 1 → IVec S16 32) a x).toNat < S16.size a := fun v78_4 v78_3 v514 v534 v554 v574 v594 v614 v634 v654 v914 k0_hw147 k0_h3 k0_h4 => k0_hw147 k0_h3 k0_h4
@[reducible] def k0_t44_loop : Scf.Loop 32 :=
  let c0_i32_541 : BitVec 32 := 0#32
  let c16_i32_542 : BitVec 32 := 16#32
  let v923 : BitVec 32 := Scalar.addi c0_i32_541 c16_i32_542
  let c1_i32_543 : BitVec 32 := 1#32
  ⟨c0_i32_541, v923, c1_i32_543⟩

def k0_chk148 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx187_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw148 : k0_chk148 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw148 k0_h3 k0_h4 => k0_hw148 k0_h3 k0_h4

def k0_chk149 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v924 : IVec S16 32) : Prop :=
  (∀ (k0_h3 : k0_cond3 v78_4 = 1#1), ∀ (k0_h4 : k0_cond4 v78_3 v514 v534 v554 v574 v594 v614 v634 v654 = 1#1), ∀ a x, ((![v924] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v924] : Fin 1 → IVec S16 32) a x).toNat < S16.size a)
theorem k0_idx188_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v924 : IVec S16 32) (k0_hw149 : k0_chk149 v78_4 v78_3 v514 v534 v554 v574 v594 v614 v634 v654 v924), ∀ (k0_h3 : k0_cond3 v78_4 = 1#1), ∀ (k0_h4 : k0_cond4 v78_3 v514 v534 v554 v574 v594 v614 v634 v654 = 1#1), ∀ a x, ((![v924] : Fin 1 → IVec S16 32) a x).toNat < S16.size a := fun v78_4 v78_3 v514 v534 v554 v574 v594 v614 v634 v654 v924 k0_hw149 k0_h3 k0_h4 => k0_hw149.1 k0_h3 k0_h4
theorem k0_idx189_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v924 : IVec S16 32) (k0_hw149 : k0_chk149 v78_4 v78_3 v514 v534 v554 v574 v594 v614 v634 v654 v924), ∀ (k0_h3 : k0_cond3 v78_4 = 1#1), ∀ (k0_h4 : k0_cond4 v78_3 v514 v534 v554 v574 v594 v614 v634 v654 = 1#1), ∀ a x, ((![v924] : Fin 1 → IVec S16 32) a x).toNat < S16.size a := fun v78_4 v78_3 v514 v534 v554 v574 v594 v614 v634 v654 v924 k0_hw149 k0_h3 k0_h4 => k0_hw149.2 k0_h3 k0_h4

def k0_chk150 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v928 : IVec S16 32) : Prop :=
  (∀ (k0_h3 : k0_cond3 v78_4 = 1#1), ∀ (k0_h4 : k0_cond4 v78_3 v514 v534 v554 v574 v594 v614 v634 v654 = 1#1), ∀ a x, ((![v928] : Fin 1 → IVec S16 32) a x).toNat < S16.size a)
theorem k0_idx190_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v928 : IVec S16 32) (k0_hw150 : k0_chk150 v78_4 v78_3 v514 v534 v554 v574 v594 v614 v634 v654 v928), ∀ (k0_h3 : k0_cond3 v78_4 = 1#1), ∀ (k0_h4 : k0_cond4 v78_3 v514 v534 v554 v574 v594 v614 v634 v654 = 1#1), ∀ a x, ((![v928] : Fin 1 → IVec S16 32) a x).toNat < S16.size a := fun v78_4 v78_3 v514 v534 v554 v574 v594 v614 v634 v654 v928 k0_hw150 k0_h3 k0_h4 => k0_hw150 k0_h3 k0_h4

def k0_chk151 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v932 : IVec S16 32) : Prop :=
  (∀ (k0_h3 : k0_cond3 v78_4 = 1#1), ∀ (k0_h4 : k0_cond4 v78_3 v514 v534 v554 v574 v594 v614 v634 v654 = 1#1), ∀ a x, ((![v932] : Fin 1 → IVec S16 32) a x).toNat < S16.size a)
theorem k0_idx191_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v932 : IVec S16 32) (k0_hw151 : k0_chk151 v78_4 v78_3 v514 v534 v554 v574 v594 v614 v634 v654 v932), ∀ (k0_h3 : k0_cond3 v78_4 = 1#1), ∀ (k0_h4 : k0_cond4 v78_3 v514 v534 v554 v574 v594 v614 v634 v654 = 1#1), ∀ a x, ((![v932] : Fin 1 → IVec S16 32) a x).toNat < S16.size a := fun v78_4 v78_3 v514 v534 v554 v574 v594 v614 v634 v654 v932 k0_hw151 k0_h3 k0_h4 => k0_hw151 k0_h3 k0_h4
@[reducible] def k0_t45_loop : Scf.Loop 32 :=
  let c0_i32_553 : BitVec 32 := 0#32
  let c16_i32_554 : BitVec 32 := 16#32
  let v941 : BitVec 32 := Scalar.addi c0_i32_553 c16_i32_554
  let c1_i32_555 : BitVec 32 := 1#32
  ⟨c0_i32_553, v941, c1_i32_555⟩

def k0_chk152 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx192_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw152 : k0_chk152 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw152 k0_h3 k0_h4 => k0_hw152 k0_h3 k0_h4

def k0_chk153 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v942 : IVec S16 32) : Prop :=
  (∀ (k0_h3 : k0_cond3 v78_4 = 1#1), ∀ (k0_h4 : k0_cond4 v78_3 v514 v534 v554 v574 v594 v614 v634 v654 = 1#1), ∀ a x, ((![v942] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v942] : Fin 1 → IVec S16 32) a x).toNat < S16.size a)
theorem k0_idx193_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v942 : IVec S16 32) (k0_hw153 : k0_chk153 v78_4 v78_3 v514 v534 v554 v574 v594 v614 v634 v654 v942), ∀ (k0_h3 : k0_cond3 v78_4 = 1#1), ∀ (k0_h4 : k0_cond4 v78_3 v514 v534 v554 v574 v594 v614 v634 v654 = 1#1), ∀ a x, ((![v942] : Fin 1 → IVec S16 32) a x).toNat < S16.size a := fun v78_4 v78_3 v514 v534 v554 v574 v594 v614 v634 v654 v942 k0_hw153 k0_h3 k0_h4 => k0_hw153.1 k0_h3 k0_h4
theorem k0_idx194_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v942 : IVec S16 32) (k0_hw153 : k0_chk153 v78_4 v78_3 v514 v534 v554 v574 v594 v614 v634 v654 v942), ∀ (k0_h3 : k0_cond3 v78_4 = 1#1), ∀ (k0_h4 : k0_cond4 v78_3 v514 v534 v554 v574 v594 v614 v634 v654 = 1#1), ∀ a x, ((![v942] : Fin 1 → IVec S16 32) a x).toNat < S16.size a := fun v78_4 v78_3 v514 v534 v554 v574 v594 v614 v634 v654 v942 k0_hw153 k0_h3 k0_h4 => k0_hw153.2 k0_h3 k0_h4

def k0_chk154 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v946 : IVec S16 32) : Prop :=
  (∀ (k0_h3 : k0_cond3 v78_4 = 1#1), ∀ (k0_h4 : k0_cond4 v78_3 v514 v534 v554 v574 v594 v614 v634 v654 = 1#1), ∀ a x, ((![v946] : Fin 1 → IVec S16 32) a x).toNat < S16.size a)
theorem k0_idx195_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v946 : IVec S16 32) (k0_hw154 : k0_chk154 v78_4 v78_3 v514 v534 v554 v574 v594 v614 v634 v654 v946), ∀ (k0_h3 : k0_cond3 v78_4 = 1#1), ∀ (k0_h4 : k0_cond4 v78_3 v514 v534 v554 v574 v594 v614 v634 v654 = 1#1), ∀ a x, ((![v946] : Fin 1 → IVec S16 32) a x).toNat < S16.size a := fun v78_4 v78_3 v514 v534 v554 v574 v594 v614 v634 v654 v946 k0_hw154 k0_h3 k0_h4 => k0_hw154 k0_h3 k0_h4

def k0_chk155 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v950 : IVec S16 32) : Prop :=
  (∀ (k0_h3 : k0_cond3 v78_4 = 1#1), ∀ (k0_h4 : k0_cond4 v78_3 v514 v534 v554 v574 v594 v614 v634 v654 = 1#1), ∀ a x, ((![v950] : Fin 1 → IVec S16 32) a x).toNat < S16.size a)
theorem k0_idx196_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v950 : IVec S16 32) (k0_hw155 : k0_chk155 v78_4 v78_3 v514 v534 v554 v574 v594 v614 v634 v654 v950), ∀ (k0_h3 : k0_cond3 v78_4 = 1#1), ∀ (k0_h4 : k0_cond4 v78_3 v514 v534 v554 v574 v594 v614 v634 v654 = 1#1), ∀ a x, ((![v950] : Fin 1 → IVec S16 32) a x).toNat < S16.size a := fun v78_4 v78_3 v514 v534 v554 v574 v594 v614 v634 v654 v950 k0_hw155 k0_h3 k0_h4 => k0_hw155 k0_h3 k0_h4
@[reducible] def k0_t46_loop : Scf.Loop 32 :=
  let c0_i32_565 : BitVec 32 := 0#32
  let c16_i32_566 : BitVec 32 := 16#32
  let v959 : BitVec 32 := Scalar.addi c0_i32_565 c16_i32_566
  let c1_i32_567 : BitVec 32 := 1#32
  ⟨c0_i32_565, v959, c1_i32_567⟩

def k0_chk156 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx197_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw156 : k0_chk156 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw156 k0_h3 k0_h4 => k0_hw156 k0_h3 k0_h4

def k0_chk157 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v960 : IVec S16 32) : Prop :=
  (∀ (k0_h3 : k0_cond3 v78_4 = 1#1), ∀ (k0_h4 : k0_cond4 v78_3 v514 v534 v554 v574 v594 v614 v634 v654 = 1#1), ∀ a x, ((![v960] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v960] : Fin 1 → IVec S16 32) a x).toNat < S16.size a)
theorem k0_idx198_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v960 : IVec S16 32) (k0_hw157 : k0_chk157 v78_4 v78_3 v514 v534 v554 v574 v594 v614 v634 v654 v960), ∀ (k0_h3 : k0_cond3 v78_4 = 1#1), ∀ (k0_h4 : k0_cond4 v78_3 v514 v534 v554 v574 v594 v614 v634 v654 = 1#1), ∀ a x, ((![v960] : Fin 1 → IVec S16 32) a x).toNat < S16.size a := fun v78_4 v78_3 v514 v534 v554 v574 v594 v614 v634 v654 v960 k0_hw157 k0_h3 k0_h4 => k0_hw157.1 k0_h3 k0_h4
theorem k0_idx199_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v960 : IVec S16 32) (k0_hw157 : k0_chk157 v78_4 v78_3 v514 v534 v554 v574 v594 v614 v634 v654 v960), ∀ (k0_h3 : k0_cond3 v78_4 = 1#1), ∀ (k0_h4 : k0_cond4 v78_3 v514 v534 v554 v574 v594 v614 v634 v654 = 1#1), ∀ a x, ((![v960] : Fin 1 → IVec S16 32) a x).toNat < S16.size a := fun v78_4 v78_3 v514 v534 v554 v574 v594 v614 v634 v654 v960 k0_hw157 k0_h3 k0_h4 => k0_hw157.2 k0_h3 k0_h4

def k0_chk158 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v964 : IVec S16 32) : Prop :=
  (∀ (k0_h3 : k0_cond3 v78_4 = 1#1), ∀ (k0_h4 : k0_cond4 v78_3 v514 v534 v554 v574 v594 v614 v634 v654 = 1#1), ∀ a x, ((![v964] : Fin 1 → IVec S16 32) a x).toNat < S16.size a)
theorem k0_idx200_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v964 : IVec S16 32) (k0_hw158 : k0_chk158 v78_4 v78_3 v514 v534 v554 v574 v594 v614 v634 v654 v964), ∀ (k0_h3 : k0_cond3 v78_4 = 1#1), ∀ (k0_h4 : k0_cond4 v78_3 v514 v534 v554 v574 v594 v614 v634 v654 = 1#1), ∀ a x, ((![v964] : Fin 1 → IVec S16 32) a x).toNat < S16.size a := fun v78_4 v78_3 v514 v534 v554 v574 v594 v614 v634 v654 v964 k0_hw158 k0_h3 k0_h4 => k0_hw158 k0_h3 k0_h4

def k0_chk159 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v968 : IVec S16 32) : Prop :=
  (∀ (k0_h3 : k0_cond3 v78_4 = 1#1), ∀ (k0_h4 : k0_cond4 v78_3 v514 v534 v554 v574 v594 v614 v634 v654 = 1#1), ∀ a x, ((![v968] : Fin 1 → IVec S16 32) a x).toNat < S16.size a)
theorem k0_idx201_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v968 : IVec S16 32) (k0_hw159 : k0_chk159 v78_4 v78_3 v514 v534 v554 v574 v594 v614 v634 v654 v968), ∀ (k0_h3 : k0_cond3 v78_4 = 1#1), ∀ (k0_h4 : k0_cond4 v78_3 v514 v534 v554 v574 v594 v614 v634 v654 = 1#1), ∀ a x, ((![v968] : Fin 1 → IVec S16 32) a x).toNat < S16.size a := fun v78_4 v78_3 v514 v534 v554 v574 v594 v614 v634 v654 v968 k0_hw159 k0_h3 k0_h4 => k0_hw159 k0_h3 k0_h4
@[reducible] def k0_t47_loop : Scf.Loop 32 :=
  let c0_i32_577 : BitVec 32 := 0#32
  let c16_i32_578 : BitVec 32 := 16#32
  let v977 : BitVec 32 := Scalar.addi c0_i32_577 c16_i32_578
  let c1_i32_579 : BitVec 32 := 1#32
  ⟨c0_i32_577, v977, c1_i32_579⟩

def k0_chk160 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx202_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw160 : k0_chk160 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw160 k0_h3 k0_h4 => k0_hw160 k0_h3 k0_h4

def k0_chk161 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v978 : IVec S16 32) : Prop :=
  (∀ (k0_h3 : k0_cond3 v78_4 = 1#1), ∀ (k0_h4 : k0_cond4 v78_3 v514 v534 v554 v574 v594 v614 v634 v654 = 1#1), ∀ a x, ((![v978] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v978] : Fin 1 → IVec S16 32) a x).toNat < S16.size a)
theorem k0_idx203_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v978 : IVec S16 32) (k0_hw161 : k0_chk161 v78_4 v78_3 v514 v534 v554 v574 v594 v614 v634 v654 v978), ∀ (k0_h3 : k0_cond3 v78_4 = 1#1), ∀ (k0_h4 : k0_cond4 v78_3 v514 v534 v554 v574 v594 v614 v634 v654 = 1#1), ∀ a x, ((![v978] : Fin 1 → IVec S16 32) a x).toNat < S16.size a := fun v78_4 v78_3 v514 v534 v554 v574 v594 v614 v634 v654 v978 k0_hw161 k0_h3 k0_h4 => k0_hw161.1 k0_h3 k0_h4
theorem k0_idx204_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v978 : IVec S16 32) (k0_hw161 : k0_chk161 v78_4 v78_3 v514 v534 v554 v574 v594 v614 v634 v654 v978), ∀ (k0_h3 : k0_cond3 v78_4 = 1#1), ∀ (k0_h4 : k0_cond4 v78_3 v514 v534 v554 v574 v594 v614 v634 v654 = 1#1), ∀ a x, ((![v978] : Fin 1 → IVec S16 32) a x).toNat < S16.size a := fun v78_4 v78_3 v514 v534 v554 v574 v594 v614 v634 v654 v978 k0_hw161 k0_h3 k0_h4 => k0_hw161.2 k0_h3 k0_h4

def k0_chk162 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v982 : IVec S16 32) : Prop :=
  (∀ (k0_h3 : k0_cond3 v78_4 = 1#1), ∀ (k0_h4 : k0_cond4 v78_3 v514 v534 v554 v574 v594 v614 v634 v654 = 1#1), ∀ a x, ((![v982] : Fin 1 → IVec S16 32) a x).toNat < S16.size a)
theorem k0_idx205_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v982 : IVec S16 32) (k0_hw162 : k0_chk162 v78_4 v78_3 v514 v534 v554 v574 v594 v614 v634 v654 v982), ∀ (k0_h3 : k0_cond3 v78_4 = 1#1), ∀ (k0_h4 : k0_cond4 v78_3 v514 v534 v554 v574 v594 v614 v634 v654 = 1#1), ∀ a x, ((![v982] : Fin 1 → IVec S16 32) a x).toNat < S16.size a := fun v78_4 v78_3 v514 v534 v554 v574 v594 v614 v634 v654 v982 k0_hw162 k0_h3 k0_h4 => k0_hw162 k0_h3 k0_h4

def k0_chk163 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v986 : IVec S16 32) : Prop :=
  (∀ (k0_h3 : k0_cond3 v78_4 = 1#1), ∀ (k0_h4 : k0_cond4 v78_3 v514 v534 v554 v574 v594 v614 v634 v654 = 1#1), ∀ a x, ((![v986] : Fin 1 → IVec S16 32) a x).toNat < S16.size a)
theorem k0_idx206_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v986 : IVec S16 32) (k0_hw163 : k0_chk163 v78_4 v78_3 v514 v534 v554 v574 v594 v614 v634 v654 v986), ∀ (k0_h3 : k0_cond3 v78_4 = 1#1), ∀ (k0_h4 : k0_cond4 v78_3 v514 v534 v554 v574 v594 v614 v634 v654 = 1#1), ∀ a x, ((![v986] : Fin 1 → IVec S16 32) a x).toNat < S16.size a := fun v78_4 v78_3 v514 v534 v554 v574 v594 v614 v634 v654 v986 k0_hw163 k0_h3 k0_h4 => k0_hw163 k0_h3 k0_h4
@[reducible] def k0_t48_loop : Scf.Loop 32 :=
  let c0_i32_589 : BitVec 32 := 0#32
  let c16_i32_590 : BitVec 32 := 16#32
  let v995 : BitVec 32 := Scalar.addi c0_i32_589 c16_i32_590
  let c1_i32_591 : BitVec 32 := 1#32
  ⟨c0_i32_589, v995, c1_i32_591⟩

def k0_chk164 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx207_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw164 : k0_chk164 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw164 k0_h3 k0_h4 => k0_hw164 k0_h3 k0_h4

def k0_chk165 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v996 : IVec S16 32) : Prop :=
  (∀ (k0_h3 : k0_cond3 v78_4 = 1#1), ∀ (k0_h4 : k0_cond4 v78_3 v514 v534 v554 v574 v594 v614 v634 v654 = 1#1), ∀ a x, ((![v996] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v996] : Fin 1 → IVec S16 32) a x).toNat < S16.size a)
theorem k0_idx208_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v996 : IVec S16 32) (k0_hw165 : k0_chk165 v78_4 v78_3 v514 v534 v554 v574 v594 v614 v634 v654 v996), ∀ (k0_h3 : k0_cond3 v78_4 = 1#1), ∀ (k0_h4 : k0_cond4 v78_3 v514 v534 v554 v574 v594 v614 v634 v654 = 1#1), ∀ a x, ((![v996] : Fin 1 → IVec S16 32) a x).toNat < S16.size a := fun v78_4 v78_3 v514 v534 v554 v574 v594 v614 v634 v654 v996 k0_hw165 k0_h3 k0_h4 => k0_hw165.1 k0_h3 k0_h4
theorem k0_idx209_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v996 : IVec S16 32) (k0_hw165 : k0_chk165 v78_4 v78_3 v514 v534 v554 v574 v594 v614 v634 v654 v996), ∀ (k0_h3 : k0_cond3 v78_4 = 1#1), ∀ (k0_h4 : k0_cond4 v78_3 v514 v534 v554 v574 v594 v614 v634 v654 = 1#1), ∀ a x, ((![v996] : Fin 1 → IVec S16 32) a x).toNat < S16.size a := fun v78_4 v78_3 v514 v534 v554 v574 v594 v614 v634 v654 v996 k0_hw165 k0_h3 k0_h4 => k0_hw165.2 k0_h3 k0_h4

def k0_chk166 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1000 : IVec S16 32) : Prop :=
  (∀ (k0_h3 : k0_cond3 v78_4 = 1#1), ∀ (k0_h4 : k0_cond4 v78_3 v514 v534 v554 v574 v594 v614 v634 v654 = 1#1), ∀ a x, ((![v1000] : Fin 1 → IVec S16 32) a x).toNat < S16.size a)
theorem k0_idx210_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1000 : IVec S16 32) (k0_hw166 : k0_chk166 v78_4 v78_3 v514 v534 v554 v574 v594 v614 v634 v654 v1000), ∀ (k0_h3 : k0_cond3 v78_4 = 1#1), ∀ (k0_h4 : k0_cond4 v78_3 v514 v534 v554 v574 v594 v614 v634 v654 = 1#1), ∀ a x, ((![v1000] : Fin 1 → IVec S16 32) a x).toNat < S16.size a := fun v78_4 v78_3 v514 v534 v554 v574 v594 v614 v634 v654 v1000 k0_hw166 k0_h3 k0_h4 => k0_hw166 k0_h3 k0_h4

def k0_chk167 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1004 : IVec S16 32) : Prop :=
  (∀ (k0_h3 : k0_cond3 v78_4 = 1#1), ∀ (k0_h4 : k0_cond4 v78_3 v514 v534 v554 v574 v594 v614 v634 v654 = 1#1), ∀ a x, ((![v1004] : Fin 1 → IVec S16 32) a x).toNat < S16.size a)
theorem k0_idx211_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1004 : IVec S16 32) (k0_hw167 : k0_chk167 v78_4 v78_3 v514 v534 v554 v574 v594 v614 v634 v654 v1004), ∀ (k0_h3 : k0_cond3 v78_4 = 1#1), ∀ (k0_h4 : k0_cond4 v78_3 v514 v534 v554 v574 v594 v614 v634 v654 = 1#1), ∀ a x, ((![v1004] : Fin 1 → IVec S16 32) a x).toNat < S16.size a := fun v78_4 v78_3 v514 v534 v554 v574 v594 v614 v634 v654 v1004 k0_hw167 k0_h3 k0_h4 => k0_hw167 k0_h3 k0_h4
@[reducible] def k0_t49_loop : Scf.Loop 32 :=
  let c0_i32_601 : BitVec 32 := 0#32
  let c16_i32_602 : BitVec 32 := 16#32
  let v1013 : BitVec 32 := Scalar.addi c0_i32_601 c16_i32_602
  let c1_i32_603 : BitVec 32 := 1#32
  ⟨c0_i32_601, v1013, c1_i32_603⟩

def k0_chk168 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx212_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw168 : k0_chk168 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw168 k0_h3 k0_h4 => k0_hw168 k0_h3 k0_h4

def k0_chk169 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1014 : IVec S16 32) : Prop :=
  (∀ (k0_h3 : k0_cond3 v78_4 = 1#1), ∀ (k0_h4 : k0_cond4 v78_3 v514 v534 v554 v574 v594 v614 v634 v654 = 1#1), ∀ a x, ((![v1014] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v1014] : Fin 1 → IVec S16 32) a x).toNat < S16.size a)
theorem k0_idx213_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1014 : IVec S16 32) (k0_hw169 : k0_chk169 v78_4 v78_3 v514 v534 v554 v574 v594 v614 v634 v654 v1014), ∀ (k0_h3 : k0_cond3 v78_4 = 1#1), ∀ (k0_h4 : k0_cond4 v78_3 v514 v534 v554 v574 v594 v614 v634 v654 = 1#1), ∀ a x, ((![v1014] : Fin 1 → IVec S16 32) a x).toNat < S16.size a := fun v78_4 v78_3 v514 v534 v554 v574 v594 v614 v634 v654 v1014 k0_hw169 k0_h3 k0_h4 => k0_hw169.1 k0_h3 k0_h4
theorem k0_idx214_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1014 : IVec S16 32) (k0_hw169 : k0_chk169 v78_4 v78_3 v514 v534 v554 v574 v594 v614 v634 v654 v1014), ∀ (k0_h3 : k0_cond3 v78_4 = 1#1), ∀ (k0_h4 : k0_cond4 v78_3 v514 v534 v554 v574 v594 v614 v634 v654 = 1#1), ∀ a x, ((![v1014] : Fin 1 → IVec S16 32) a x).toNat < S16.size a := fun v78_4 v78_3 v514 v534 v554 v574 v594 v614 v634 v654 v1014 k0_hw169 k0_h3 k0_h4 => k0_hw169.2 k0_h3 k0_h4

def k0_chk170 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1018 : IVec S16 32) : Prop :=
  (∀ (k0_h3 : k0_cond3 v78_4 = 1#1), ∀ (k0_h4 : k0_cond4 v78_3 v514 v534 v554 v574 v594 v614 v634 v654 = 1#1), ∀ a x, ((![v1018] : Fin 1 → IVec S16 32) a x).toNat < S16.size a)
theorem k0_idx215_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1018 : IVec S16 32) (k0_hw170 : k0_chk170 v78_4 v78_3 v514 v534 v554 v574 v594 v614 v634 v654 v1018), ∀ (k0_h3 : k0_cond3 v78_4 = 1#1), ∀ (k0_h4 : k0_cond4 v78_3 v514 v534 v554 v574 v594 v614 v634 v654 = 1#1), ∀ a x, ((![v1018] : Fin 1 → IVec S16 32) a x).toNat < S16.size a := fun v78_4 v78_3 v514 v534 v554 v574 v594 v614 v634 v654 v1018 k0_hw170 k0_h3 k0_h4 => k0_hw170 k0_h3 k0_h4

def k0_chk171 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1022 : IVec S16 32) : Prop :=
  (∀ (k0_h3 : k0_cond3 v78_4 = 1#1), ∀ (k0_h4 : k0_cond4 v78_3 v514 v534 v554 v574 v594 v614 v634 v654 = 1#1), ∀ a x, ((![v1022] : Fin 1 → IVec S16 32) a x).toNat < S16.size a)
theorem k0_idx216_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1022 : IVec S16 32) (k0_hw171 : k0_chk171 v78_4 v78_3 v514 v534 v554 v574 v594 v614 v634 v654 v1022), ∀ (k0_h3 : k0_cond3 v78_4 = 1#1), ∀ (k0_h4 : k0_cond4 v78_3 v514 v534 v554 v574 v594 v614 v634 v654 = 1#1), ∀ a x, ((![v1022] : Fin 1 → IVec S16 32) a x).toNat < S16.size a := fun v78_4 v78_3 v514 v534 v554 v574 v594 v614 v634 v654 v1022 k0_hw171 k0_h3 k0_h4 => k0_hw171 k0_h3 k0_h4
@[reducible] def k0_t50_loop : Scf.Loop 32 :=
  let c0_i32_613 : BitVec 32 := 0#32
  let c16_i32_614 : BitVec 32 := 16#32
  let v1031 : BitVec 32 := Scalar.addi c0_i32_613 c16_i32_614
  let c1_i32_615 : BitVec 32 := 1#32
  ⟨c0_i32_613, v1031, c1_i32_615⟩

def k0_chk172 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx217_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw172 : k0_chk172 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw172 k0_h3 k0_h4 => k0_hw172 k0_h3 k0_h4

def k0_chk173 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1032 : IVec S16 32) : Prop :=
  (∀ (k0_h3 : k0_cond3 v78_4 = 1#1), ∀ (k0_h4 : k0_cond4 v78_3 v514 v534 v554 v574 v594 v614 v634 v654 = 1#1), ∀ a x, ((![v1032] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v1032] : Fin 1 → IVec S16 32) a x).toNat < S16.size a)
theorem k0_idx218_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1032 : IVec S16 32) (k0_hw173 : k0_chk173 v78_4 v78_3 v514 v534 v554 v574 v594 v614 v634 v654 v1032), ∀ (k0_h3 : k0_cond3 v78_4 = 1#1), ∀ (k0_h4 : k0_cond4 v78_3 v514 v534 v554 v574 v594 v614 v634 v654 = 1#1), ∀ a x, ((![v1032] : Fin 1 → IVec S16 32) a x).toNat < S16.size a := fun v78_4 v78_3 v514 v534 v554 v574 v594 v614 v634 v654 v1032 k0_hw173 k0_h3 k0_h4 => k0_hw173.1 k0_h3 k0_h4
theorem k0_idx219_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1032 : IVec S16 32) (k0_hw173 : k0_chk173 v78_4 v78_3 v514 v534 v554 v574 v594 v614 v634 v654 v1032), ∀ (k0_h3 : k0_cond3 v78_4 = 1#1), ∀ (k0_h4 : k0_cond4 v78_3 v514 v534 v554 v574 v594 v614 v634 v654 = 1#1), ∀ a x, ((![v1032] : Fin 1 → IVec S16 32) a x).toNat < S16.size a := fun v78_4 v78_3 v514 v534 v554 v574 v594 v614 v634 v654 v1032 k0_hw173 k0_h3 k0_h4 => k0_hw173.2 k0_h3 k0_h4

def k0_chk174 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1036 : IVec S16 32) : Prop :=
  (∀ (k0_h3 : k0_cond3 v78_4 = 1#1), ∀ (k0_h4 : k0_cond4 v78_3 v514 v534 v554 v574 v594 v614 v634 v654 = 1#1), ∀ a x, ((![v1036] : Fin 1 → IVec S16 32) a x).toNat < S16.size a)
theorem k0_idx220_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1036 : IVec S16 32) (k0_hw174 : k0_chk174 v78_4 v78_3 v514 v534 v554 v574 v594 v614 v634 v654 v1036), ∀ (k0_h3 : k0_cond3 v78_4 = 1#1), ∀ (k0_h4 : k0_cond4 v78_3 v514 v534 v554 v574 v594 v614 v634 v654 = 1#1), ∀ a x, ((![v1036] : Fin 1 → IVec S16 32) a x).toNat < S16.size a := fun v78_4 v78_3 v514 v534 v554 v574 v594 v614 v634 v654 v1036 k0_hw174 k0_h3 k0_h4 => k0_hw174 k0_h3 k0_h4

def k0_chk175 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1040 : IVec S16 32) : Prop :=
  (∀ (k0_h3 : k0_cond3 v78_4 = 1#1), ∀ (k0_h4 : k0_cond4 v78_3 v514 v534 v554 v574 v594 v614 v634 v654 = 1#1), ∀ a x, ((![v1040] : Fin 1 → IVec S16 32) a x).toNat < S16.size a)
theorem k0_idx221_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1040 : IVec S16 32) (k0_hw175 : k0_chk175 v78_4 v78_3 v514 v534 v554 v574 v594 v614 v634 v654 v1040), ∀ (k0_h3 : k0_cond3 v78_4 = 1#1), ∀ (k0_h4 : k0_cond4 v78_3 v514 v534 v554 v574 v594 v614 v634 v654 = 1#1), ∀ a x, ((![v1040] : Fin 1 → IVec S16 32) a x).toNat < S16.size a := fun v78_4 v78_3 v514 v534 v554 v574 v594 v614 v634 v654 v1040 k0_hw175 k0_h3 k0_h4 => k0_hw175 k0_h3 k0_h4
@[reducible] def k0_t51_loop : Scf.Loop 32 :=
  let c0_i32_625 : BitVec 32 := 0#32
  let c16_i32_626 : BitVec 32 := 16#32
  let v1049 : BitVec 32 := Scalar.addi c0_i32_625 c16_i32_626
  let c1_i32_627 : BitVec 32 := 1#32
  ⟨c0_i32_625, v1049, c1_i32_627⟩

def k0_chk176 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx222_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw176 : k0_chk176 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw176 k0_h3 k0_h4 => k0_hw176 k0_h3 k0_h4

def k0_chk177 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1050 : IVec S16 32) : Prop :=
  (∀ (k0_h3 : k0_cond3 v78_4 = 1#1), ∀ (k0_h4 : k0_cond4 v78_3 v514 v534 v554 v574 v594 v614 v634 v654 = 1#1), ∀ a x, ((![v1050] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v1050] : Fin 1 → IVec S16 32) a x).toNat < S16.size a)
theorem k0_idx223_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1050 : IVec S16 32) (k0_hw177 : k0_chk177 v78_4 v78_3 v514 v534 v554 v574 v594 v614 v634 v654 v1050), ∀ (k0_h3 : k0_cond3 v78_4 = 1#1), ∀ (k0_h4 : k0_cond4 v78_3 v514 v534 v554 v574 v594 v614 v634 v654 = 1#1), ∀ a x, ((![v1050] : Fin 1 → IVec S16 32) a x).toNat < S16.size a := fun v78_4 v78_3 v514 v534 v554 v574 v594 v614 v634 v654 v1050 k0_hw177 k0_h3 k0_h4 => k0_hw177.1 k0_h3 k0_h4
theorem k0_idx224_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1050 : IVec S16 32) (k0_hw177 : k0_chk177 v78_4 v78_3 v514 v534 v554 v574 v594 v614 v634 v654 v1050), ∀ (k0_h3 : k0_cond3 v78_4 = 1#1), ∀ (k0_h4 : k0_cond4 v78_3 v514 v534 v554 v574 v594 v614 v634 v654 = 1#1), ∀ a x, ((![v1050] : Fin 1 → IVec S16 32) a x).toNat < S16.size a := fun v78_4 v78_3 v514 v534 v554 v574 v594 v614 v634 v654 v1050 k0_hw177 k0_h3 k0_h4 => k0_hw177.2 k0_h3 k0_h4

def k0_chk178 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1054 : IVec S16 32) : Prop :=
  (∀ (k0_h3 : k0_cond3 v78_4 = 1#1), ∀ (k0_h4 : k0_cond4 v78_3 v514 v534 v554 v574 v594 v614 v634 v654 = 1#1), ∀ a x, ((![v1054] : Fin 1 → IVec S16 32) a x).toNat < S16.size a)
theorem k0_idx225_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1054 : IVec S16 32) (k0_hw178 : k0_chk178 v78_4 v78_3 v514 v534 v554 v574 v594 v614 v634 v654 v1054), ∀ (k0_h3 : k0_cond3 v78_4 = 1#1), ∀ (k0_h4 : k0_cond4 v78_3 v514 v534 v554 v574 v594 v614 v634 v654 = 1#1), ∀ a x, ((![v1054] : Fin 1 → IVec S16 32) a x).toNat < S16.size a := fun v78_4 v78_3 v514 v534 v554 v574 v594 v614 v634 v654 v1054 k0_hw178 k0_h3 k0_h4 => k0_hw178 k0_h3 k0_h4

def k0_chk179 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1058 : IVec S16 32) : Prop :=
  (∀ (k0_h3 : k0_cond3 v78_4 = 1#1), ∀ (k0_h4 : k0_cond4 v78_3 v514 v534 v554 v574 v594 v614 v634 v654 = 1#1), ∀ a x, ((![v1058] : Fin 1 → IVec S16 32) a x).toNat < S16.size a)
theorem k0_idx226_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1058 : IVec S16 32) (k0_hw179 : k0_chk179 v78_4 v78_3 v514 v534 v554 v574 v594 v614 v634 v654 v1058), ∀ (k0_h3 : k0_cond3 v78_4 = 1#1), ∀ (k0_h4 : k0_cond4 v78_3 v514 v534 v554 v574 v594 v614 v634 v654 = 1#1), ∀ a x, ((![v1058] : Fin 1 → IVec S16 32) a x).toNat < S16.size a := fun v78_4 v78_3 v514 v534 v554 v574 v594 v614 v634 v654 v1058 k0_hw179 k0_h3 k0_h4 => k0_hw179 k0_h3 k0_h4
@[reducible] def k0_t52_loop : Scf.Loop 32 :=
  let c0_i32_637 : BitVec 32 := 0#32
  let c16_i32_638 : BitVec 32 := 16#32
  let v1067 : BitVec 32 := Scalar.addi c0_i32_637 c16_i32_638
  let c1_i32_639 : BitVec 32 := 1#32
  ⟨c0_i32_637, v1067, c1_i32_639⟩

def k0_chk180 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) : Prop :=
  (∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a)
theorem k0_idx227_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1074 : IVec S16 32) (k0_hw180 : k0_chk180 v78_4 v78_3 v514 v534 v554 v574 v594 v614 v634 v654 v1074), ∀ (k0_h3 : k0_cond3 v78_4 = 1#1), ∀ (k0_h4 : k0_cond4 v78_3 v514 v534 v554 v574 v594 v614 v634 v654 = 1#1), ∀ a x, ((![v1074] : Fin 1 → IVec S16 32) a x).toNat < S16.size a := fun v78_4 v78_3 v514 v534 v554 v574 v594 v614 v634 v654 v1074 k0_hw180 k0_h3 k0_h4 => k0_hw180 k0_h3 k0_h4

def k0_chk181 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1068 : IVec S16 32) : Prop :=
  (∀ (k0_h3 : k0_cond3 v78_4 = 1#1), ∀ (k0_h4 : k0_cond4 v78_3 v514 v534 v554 v574 v594 v614 v634 v654 = 1#1), ∀ a x, ((![v1068] : Fin 1 → IVec S16 32) a x).toNat < S16.size a) ∧
  (∀ (k0_h3 : k0_cond3 v78_4 = 1#1), ∀ (k0_h4 : k0_cond4 v78_3 v514 v534 v554 v574 v594 v614 v634 v654 = 1#1), ∀ a x, ((![v1068] : Fin 1 → IVec S16 32) a x).toNat < S16.size a)
theorem k0_idx228_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1068 : IVec S16 32) (k0_hw181 : k0_chk181 v78_4 v78_3 v514 v534 v554 v574 v594 v614 v634 v654 v1068), ∀ (k0_h3 : k0_cond3 v78_4 = 1#1), ∀ (k0_h4 : k0_cond4 v78_3 v514 v534 v554 v574 v594 v614 v634 v654 = 1#1), ∀ a x, ((![v1068] : Fin 1 → IVec S16 32) a x).toNat < S16.size a := fun v78_4 v78_3 v514 v534 v554 v574 v594 v614 v634 v654 v1068 k0_hw181 k0_h3 k0_h4 => k0_hw181.1 k0_h3 k0_h4
theorem k0_idx229_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1068 : IVec S16 32) (k0_hw181 : k0_chk181 v78_4 v78_3 v514 v534 v554 v574 v594 v614 v634 v654 v1068), ∀ (k0_h3 : k0_cond3 v78_4 = 1#1), ∀ (k0_h4 : k0_cond4 v78_3 v514 v534 v554 v574 v594 v614 v634 v654 = 1#1), ∀ a x, ((![v1068] : Fin 1 → IVec S16 32) a x).toNat < S16.size a := fun v78_4 v78_3 v514 v534 v554 v574 v594 v614 v634 v654 v1068 k0_hw181 k0_h3 k0_h4 => k0_hw181.2 k0_h3 k0_h4

def k0_chk182 (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1071 : IVec S16 32) : Prop :=
  (∀ (k0_h3 : k0_cond3 v78_4 = 1#1), ∀ (k0_h4 : k0_cond4 v78_3 v514 v534 v554 v574 v594 v614 v634 v654 = 1#1), ∀ a x, ((![v1071] : Fin 1 → IVec S16 32) a x).toNat < S16.size a)
theorem k0_idx230_inb : ∀ (v78_4 : BitVec 32) (v78_3 : BitVec 32) (v514 : BitVec 32) (v534 : BitVec 32) (v554 : BitVec 32) (v574 : BitVec 32) (v594 : BitVec 32) (v614 : BitVec 32) (v634 : BitVec 32) (v654 : BitVec 32) (v1071 : IVec S16 32) (k0_hw182 : k0_chk182 v78_4 v78_3 v514 v534 v554 v574 v594 v614 v634 v654 v1071), ∀ (k0_h3 : k0_cond3 v78_4 = 1#1), ∀ (k0_h4 : k0_cond4 v78_3 v514 v534 v554 v574 v594 v614 v634 v654 = 1#1), ∀ a x, ((![v1071] : Fin 1 → IVec S16 32) a x).toNat < S16.size a := fun v78_4 v78_3 v514 v534 v554 v574 v594 v614 v634 v654 v1071 k0_hw182 k0_h3 k0_h4 => k0_hw182 k0_h3 k0_h4
@[reducible] def k0_t53_loop : Scf.Loop 32 :=
  let c0_i32_49 : BitVec 32 := 0#32
  let c16_i32_50 : BitVec 32 := 16#32
  let v94 : BitVec 32 := Scalar.addi c0_i32_49 c16_i32_50
  let c1_i32_51 : BitVec 32 := 1#32
  ⟨c0_i32_49, v94, c1_i32_51⟩

def k0_chk183 (v511 : IVec S16 32) : Prop :=
  (∀ a x, ((![v511] : Fin 1 → IVec S16 32) a x).toNat < S16.size a)
theorem k0_idx231_inb : ∀ (v511 : IVec S16 32) (k0_hw183 : k0_chk183 v511), ∀ a x, ((![v511] : Fin 1 → IVec S16 32) a x).toNat < S16.size a := fun v511 k0_hw183 => k0_hw183

def k0_chk184 (v95 : IVec S16 32) : Prop :=
  (∀ a x, ((![v95] : Fin 1 → IVec S16 32) a x).toNat < S16.size a) ∧
  (∀ a x, ((![v95] : Fin 1 → IVec S16 32) a x).toNat < S16.size a)
theorem k0_idx232_inb : ∀ (v95 : IVec S16 32) (k0_hw184 : k0_chk184 v95), ∀ a x, ((![v95] : Fin 1 → IVec S16 32) a x).toNat < S16.size a := fun v95 k0_hw184 => k0_hw184.1
theorem k0_idx233_inb : ∀ (v95 : IVec S16 32) (k0_hw184 : k0_chk184 v95), ∀ a x, ((![v95] : Fin 1 → IVec S16 32) a x).toNat < S16.size a := fun v95 k0_hw184 => k0_hw184.2
@[reducible] def k0_t54_loop : Scf.Loop 32 :=
  let c0_i32_60 : BitVec 32 := 0#32
  let c16_i32_61 : BitVec 32 := 16#32
  let v109 : BitVec 32 := Scalar.addi c0_i32_60 c16_i32_61
  let c1_i32_62 : BitVec 32 := 1#32
  ⟨c0_i32_60, v109, c1_i32_62⟩

def k0_chk185 (v511 : IVec S16 32) : Prop :=
  (∀ a x, ((![v511] : Fin 1 → IVec S16 32) a x).toNat < S16.size a)
theorem k0_idx234_inb : ∀ (v511 : IVec S16 32) (k0_hw185 : k0_chk185 v511), ∀ a x, ((![v511] : Fin 1 → IVec S16 32) a x).toNat < S16.size a := fun v511 k0_hw185 => k0_hw185

def k0_chk186 (v110 : IVec S16 32) : Prop :=
  (∀ a x, ((![v110] : Fin 1 → IVec S16 32) a x).toNat < S16.size a) ∧
  (∀ a x, ((![v110] : Fin 1 → IVec S16 32) a x).toNat < S16.size a)
theorem k0_idx235_inb : ∀ (v110 : IVec S16 32) (k0_hw186 : k0_chk186 v110), ∀ a x, ((![v110] : Fin 1 → IVec S16 32) a x).toNat < S16.size a := fun v110 k0_hw186 => k0_hw186.1
theorem k0_idx236_inb : ∀ (v110 : IVec S16 32) (k0_hw186 : k0_chk186 v110), ∀ a x, ((![v110] : Fin 1 → IVec S16 32) a x).toNat < S16.size a := fun v110 k0_hw186 => k0_hw186.2
@[reducible] def k0_t55_loop : Scf.Loop 32 :=
  let c0_i32_71 : BitVec 32 := 0#32
  let c16_i32_72 : BitVec 32 := 16#32
  let v124 : BitVec 32 := Scalar.addi c0_i32_71 c16_i32_72
  let c1_i32_73 : BitVec 32 := 1#32
  ⟨c0_i32_71, v124, c1_i32_73⟩

def k0_chk187 (v511 : IVec S16 32) : Prop :=
  (∀ a x, ((![v511] : Fin 1 → IVec S16 32) a x).toNat < S16.size a)
theorem k0_idx237_inb : ∀ (v511 : IVec S16 32) (k0_hw187 : k0_chk187 v511), ∀ a x, ((![v511] : Fin 1 → IVec S16 32) a x).toNat < S16.size a := fun v511 k0_hw187 => k0_hw187

def k0_chk188 (v125 : IVec S16 32) : Prop :=
  (∀ a x, ((![v125] : Fin 1 → IVec S16 32) a x).toNat < S16.size a) ∧
  (∀ a x, ((![v125] : Fin 1 → IVec S16 32) a x).toNat < S16.size a)
theorem k0_idx238_inb : ∀ (v125 : IVec S16 32) (k0_hw188 : k0_chk188 v125), ∀ a x, ((![v125] : Fin 1 → IVec S16 32) a x).toNat < S16.size a := fun v125 k0_hw188 => k0_hw188.1
theorem k0_idx239_inb : ∀ (v125 : IVec S16 32) (k0_hw188 : k0_chk188 v125), ∀ a x, ((![v125] : Fin 1 → IVec S16 32) a x).toNat < S16.size a := fun v125 k0_hw188 => k0_hw188.2
@[reducible] def k0_t56_loop : Scf.Loop 32 :=
  let c0_i32_81 : BitVec 32 := 0#32
  let c16_i32_82 : BitVec 32 := 16#32
  let v139 : BitVec 32 := Scalar.addi c0_i32_81 c16_i32_82
  let c1_i32_83 : BitVec 32 := 1#32
  ⟨c0_i32_81, v139, c1_i32_83⟩

def k0_chk189 (v511 : IVec S16 32) : Prop :=
  (∀ a x, ((![v511] : Fin 1 → IVec S16 32) a x).toNat < S16.size a)
theorem k0_idx240_inb : ∀ (v511 : IVec S16 32) (k0_hw189 : k0_chk189 v511), ∀ a x, ((![v511] : Fin 1 → IVec S16 32) a x).toNat < S16.size a := fun v511 k0_hw189 => k0_hw189

def k0_chk190 (v140 : IVec S16 32) : Prop :=
  (∀ a x, ((![v140] : Fin 1 → IVec S16 32) a x).toNat < S16.size a) ∧
  (∀ a x, ((![v140] : Fin 1 → IVec S16 32) a x).toNat < S16.size a)
theorem k0_idx241_inb : ∀ (v140 : IVec S16 32) (k0_hw190 : k0_chk190 v140), ∀ a x, ((![v140] : Fin 1 → IVec S16 32) a x).toNat < S16.size a := fun v140 k0_hw190 => k0_hw190.1
theorem k0_idx242_inb : ∀ (v140 : IVec S16 32) (k0_hw190 : k0_chk190 v140), ∀ a x, ((![v140] : Fin 1 → IVec S16 32) a x).toNat < S16.size a := fun v140 k0_hw190 => k0_hw190.2
@[reducible] def k0_t57_loop : Scf.Loop 32 :=
  let c0_i32_91 : BitVec 32 := 0#32
  let c16_i32_92 : BitVec 32 := 16#32
  let v154 : BitVec 32 := Scalar.addi c0_i32_91 c16_i32_92
  let c1_i32_93 : BitVec 32 := 1#32
  ⟨c0_i32_91, v154, c1_i32_93⟩

def k0_chk191 (v511 : IVec S16 32) : Prop :=
  (∀ a x, ((![v511] : Fin 1 → IVec S16 32) a x).toNat < S16.size a)
theorem k0_idx243_inb : ∀ (v511 : IVec S16 32) (k0_hw191 : k0_chk191 v511), ∀ a x, ((![v511] : Fin 1 → IVec S16 32) a x).toNat < S16.size a := fun v511 k0_hw191 => k0_hw191

def k0_chk192 (v155 : IVec S16 32) : Prop :=
  (∀ a x, ((![v155] : Fin 1 → IVec S16 32) a x).toNat < S16.size a) ∧
  (∀ a x, ((![v155] : Fin 1 → IVec S16 32) a x).toNat < S16.size a)
theorem k0_idx244_inb : ∀ (v155 : IVec S16 32) (k0_hw192 : k0_chk192 v155), ∀ a x, ((![v155] : Fin 1 → IVec S16 32) a x).toNat < S16.size a := fun v155 k0_hw192 => k0_hw192.1
theorem k0_idx245_inb : ∀ (v155 : IVec S16 32) (k0_hw192 : k0_chk192 v155), ∀ a x, ((![v155] : Fin 1 → IVec S16 32) a x).toNat < S16.size a := fun v155 k0_hw192 => k0_hw192.2
@[reducible] def k0_t58_loop : Scf.Loop 32 :=
  let c0_i32_101 : BitVec 32 := 0#32
  let c16_i32_102 : BitVec 32 := 16#32
  let v169 : BitVec 32 := Scalar.addi c0_i32_101 c16_i32_102
  let c1_i32_103 : BitVec 32 := 1#32
  ⟨c0_i32_101, v169, c1_i32_103⟩

def k0_chk193 (v511 : IVec S16 32) : Prop :=
  (∀ a x, ((![v511] : Fin 1 → IVec S16 32) a x).toNat < S16.size a)
theorem k0_idx246_inb : ∀ (v511 : IVec S16 32) (k0_hw193 : k0_chk193 v511), ∀ a x, ((![v511] : Fin 1 → IVec S16 32) a x).toNat < S16.size a := fun v511 k0_hw193 => k0_hw193

def k0_chk194 (v170 : IVec S16 32) : Prop :=
  (∀ a x, ((![v170] : Fin 1 → IVec S16 32) a x).toNat < S16.size a) ∧
  (∀ a x, ((![v170] : Fin 1 → IVec S16 32) a x).toNat < S16.size a)
theorem k0_idx247_inb : ∀ (v170 : IVec S16 32) (k0_hw194 : k0_chk194 v170), ∀ a x, ((![v170] : Fin 1 → IVec S16 32) a x).toNat < S16.size a := fun v170 k0_hw194 => k0_hw194.1
theorem k0_idx248_inb : ∀ (v170 : IVec S16 32) (k0_hw194 : k0_chk194 v170), ∀ a x, ((![v170] : Fin 1 → IVec S16 32) a x).toNat < S16.size a := fun v170 k0_hw194 => k0_hw194.2
@[reducible] def k0_t59_loop : Scf.Loop 32 :=
  let c0_i32_111 : BitVec 32 := 0#32
  let c16_i32_112 : BitVec 32 := 16#32
  let v184 : BitVec 32 := Scalar.addi c0_i32_111 c16_i32_112
  let c1_i32_113 : BitVec 32 := 1#32
  ⟨c0_i32_111, v184, c1_i32_113⟩

def k0_chk195 (v511 : IVec S16 32) : Prop :=
  (∀ a x, ((![v511] : Fin 1 → IVec S16 32) a x).toNat < S16.size a)
theorem k0_idx249_inb : ∀ (v511 : IVec S16 32) (k0_hw195 : k0_chk195 v511), ∀ a x, ((![v511] : Fin 1 → IVec S16 32) a x).toNat < S16.size a := fun v511 k0_hw195 => k0_hw195

def k0_chk196 (v185 : IVec S16 32) : Prop :=
  (∀ a x, ((![v185] : Fin 1 → IVec S16 32) a x).toNat < S16.size a) ∧
  (∀ a x, ((![v185] : Fin 1 → IVec S16 32) a x).toNat < S16.size a)
theorem k0_idx250_inb : ∀ (v185 : IVec S16 32) (k0_hw196 : k0_chk196 v185), ∀ a x, ((![v185] : Fin 1 → IVec S16 32) a x).toNat < S16.size a := fun v185 k0_hw196 => k0_hw196.1
theorem k0_idx251_inb : ∀ (v185 : IVec S16 32) (k0_hw196 : k0_chk196 v185), ∀ a x, ((![v185] : Fin 1 → IVec S16 32) a x).toNat < S16.size a := fun v185 k0_hw196 => k0_hw196.2
@[reducible] def k0_t60_loop : Scf.Loop 32 :=
  let c0_i32_121 : BitVec 32 := 0#32
  let c16_i32_122 : BitVec 32 := 16#32
  let v199 : BitVec 32 := Scalar.addi c0_i32_121 c16_i32_122
  let c1_i32_123 : BitVec 32 := 1#32
  ⟨c0_i32_121, v199, c1_i32_123⟩

def k0_chk197 (v511 : IVec S16 32) : Prop :=
  (∀ a x, ((![v511] : Fin 1 → IVec S16 32) a x).toNat < S16.size a)
theorem k0_idx252_inb : ∀ (v511 : IVec S16 32) (k0_hw197 : k0_chk197 v511), ∀ a x, ((![v511] : Fin 1 → IVec S16 32) a x).toNat < S16.size a := fun v511 k0_hw197 => k0_hw197

def k0_chk198 (v200 : IVec S16 32) : Prop :=
  (∀ a x, ((![v200] : Fin 1 → IVec S16 32) a x).toNat < S16.size a) ∧
  (∀ a x, ((![v200] : Fin 1 → IVec S16 32) a x).toNat < S16.size a)
theorem k0_idx253_inb : ∀ (v200 : IVec S16 32) (k0_hw198 : k0_chk198 v200), ∀ a x, ((![v200] : Fin 1 → IVec S16 32) a x).toNat < S16.size a := fun v200 k0_hw198 => k0_hw198.1
theorem k0_idx254_inb : ∀ (v200 : IVec S16 32) (k0_hw198 : k0_chk198 v200), ∀ a x, ((![v200] : Fin 1 → IVec S16 32) a x).toNat < S16.size a := fun v200 k0_hw198 => k0_hw198.2
@[reducible] def k0_t61_loop : Scf.Loop 32 :=
  let c0_i32_131 : BitVec 32 := 0#32
  let c16_i32_132 : BitVec 32 := 16#32
  let v214 : BitVec 32 := Scalar.addi c0_i32_131 c16_i32_132
  let c1_i32_133 : BitVec 32 := 1#32
  ⟨c0_i32_131, v214, c1_i32_133⟩

def k0_chk199 (v511 : IVec S16 32) : Prop :=
  (∀ a x, ((![v511] : Fin 1 → IVec S16 32) a x).toNat < S16.size a)
theorem k0_idx255_inb : ∀ (v511 : IVec S16 32) (k0_hw199 : k0_chk199 v511), ∀ a x, ((![v511] : Fin 1 → IVec S16 32) a x).toNat < S16.size a := fun v511 k0_hw199 => k0_hw199

def k0_chk200 (v215 : IVec S16 32) : Prop :=
  (∀ a x, ((![v215] : Fin 1 → IVec S16 32) a x).toNat < S16.size a) ∧
  (∀ a x, ((![v215] : Fin 1 → IVec S16 32) a x).toNat < S16.size a)
theorem k0_idx256_inb : ∀ (v215 : IVec S16 32) (k0_hw200 : k0_chk200 v215), ∀ a x, ((![v215] : Fin 1 → IVec S16 32) a x).toNat < S16.size a := fun v215 k0_hw200 => k0_hw200.1
theorem k0_idx257_inb : ∀ (v215 : IVec S16 32) (k0_hw200 : k0_chk200 v215), ∀ a x, ((![v215] : Fin 1 → IVec S16 32) a x).toNat < S16.size a := fun v215 k0_hw200 => k0_hw200.2
@[reducible] def k0_t62_loop : Scf.Loop 32 :=
  let c0_i32_141 : BitVec 32 := 0#32
  let c16_i32_142 : BitVec 32 := 16#32
  let v229 : BitVec 32 := Scalar.addi c0_i32_141 c16_i32_142
  let c1_i32_143 : BitVec 32 := 1#32
  ⟨c0_i32_141, v229, c1_i32_143⟩

def k0_chk201 (v511 : IVec S16 32) : Prop :=
  (∀ a x, ((![v511] : Fin 1 → IVec S16 32) a x).toNat < S16.size a)
theorem k0_idx258_inb : ∀ (v511 : IVec S16 32) (k0_hw201 : k0_chk201 v511), ∀ a x, ((![v511] : Fin 1 → IVec S16 32) a x).toNat < S16.size a := fun v511 k0_hw201 => k0_hw201

def k0_chk202 (v230 : IVec S16 32) : Prop :=
  (∀ a x, ((![v230] : Fin 1 → IVec S16 32) a x).toNat < S16.size a) ∧
  (∀ a x, ((![v230] : Fin 1 → IVec S16 32) a x).toNat < S16.size a)
theorem k0_idx259_inb : ∀ (v230 : IVec S16 32) (k0_hw202 : k0_chk202 v230), ∀ a x, ((![v230] : Fin 1 → IVec S16 32) a x).toNat < S16.size a := fun v230 k0_hw202 => k0_hw202.1
theorem k0_idx260_inb : ∀ (v230 : IVec S16 32) (k0_hw202 : k0_chk202 v230), ∀ a x, ((![v230] : Fin 1 → IVec S16 32) a x).toNat < S16.size a := fun v230 k0_hw202 => k0_hw202.2
@[reducible] def k0_t63_loop : Scf.Loop 32 :=
  let c0_i32_151 : BitVec 32 := 0#32
  let c16_i32_152 : BitVec 32 := 16#32
  let v244 : BitVec 32 := Scalar.addi c0_i32_151 c16_i32_152
  let c1_i32_153 : BitVec 32 := 1#32
  ⟨c0_i32_151, v244, c1_i32_153⟩

def k0_chk203 (v511 : IVec S16 32) : Prop :=
  (∀ a x, ((![v511] : Fin 1 → IVec S16 32) a x).toNat < S16.size a)
theorem k0_idx261_inb : ∀ (v511 : IVec S16 32) (k0_hw203 : k0_chk203 v511), ∀ a x, ((![v511] : Fin 1 → IVec S16 32) a x).toNat < S16.size a := fun v511 k0_hw203 => k0_hw203

def k0_chk204 (v245 : IVec S16 32) : Prop :=
  (∀ a x, ((![v245] : Fin 1 → IVec S16 32) a x).toNat < S16.size a) ∧
  (∀ a x, ((![v245] : Fin 1 → IVec S16 32) a x).toNat < S16.size a)
theorem k0_idx262_inb : ∀ (v245 : IVec S16 32) (k0_hw204 : k0_chk204 v245), ∀ a x, ((![v245] : Fin 1 → IVec S16 32) a x).toNat < S16.size a := fun v245 k0_hw204 => k0_hw204.1
theorem k0_idx263_inb : ∀ (v245 : IVec S16 32) (k0_hw204 : k0_chk204 v245), ∀ a x, ((![v245] : Fin 1 → IVec S16 32) a x).toNat < S16.size a := fun v245 k0_hw204 => k0_hw204.2
@[reducible] def k0_t64_loop : Scf.Loop 32 :=
  let c0_i32_161 : BitVec 32 := 0#32
  let c16_i32_162 : BitVec 32 := 16#32
  let v259 : BitVec 32 := Scalar.addi c0_i32_161 c16_i32_162
  let c1_i32_163 : BitVec 32 := 1#32
  ⟨c0_i32_161, v259, c1_i32_163⟩

def k0_chk205 (v511 : IVec S16 32) : Prop :=
  (∀ a x, ((![v511] : Fin 1 → IVec S16 32) a x).toNat < S16.size a)
theorem k0_idx264_inb : ∀ (v511 : IVec S16 32) (k0_hw205 : k0_chk205 v511), ∀ a x, ((![v511] : Fin 1 → IVec S16 32) a x).toNat < S16.size a := fun v511 k0_hw205 => k0_hw205

def k0_chk206 (v260 : IVec S16 32) : Prop :=
  (∀ a x, ((![v260] : Fin 1 → IVec S16 32) a x).toNat < S16.size a) ∧
  (∀ a x, ((![v260] : Fin 1 → IVec S16 32) a x).toNat < S16.size a)
theorem k0_idx265_inb : ∀ (v260 : IVec S16 32) (k0_hw206 : k0_chk206 v260), ∀ a x, ((![v260] : Fin 1 → IVec S16 32) a x).toNat < S16.size a := fun v260 k0_hw206 => k0_hw206.1
theorem k0_idx266_inb : ∀ (v260 : IVec S16 32) (k0_hw206 : k0_chk206 v260), ∀ a x, ((![v260] : Fin 1 → IVec S16 32) a x).toNat < S16.size a := fun v260 k0_hw206 => k0_hw206.2

def k0_chk207 (v264 : IVec S16 32) : Prop :=
  (∀ a x, ((![v264] : Fin 1 → IVec S16 32) a x).toNat < S16.size a)
theorem k0_idx267_inb : ∀ (v264 : IVec S16 32) (k0_hw207 : k0_chk207 v264), ∀ a x, ((![v264] : Fin 1 → IVec S16 32) a x).toNat < S16.size a := fun v264 k0_hw207 => k0_hw207

def k0_chk208 (v268 : IVec S16 32) : Prop :=
  (∀ a x, ((![v268] : Fin 1 → IVec S16 32) a x).toNat < S16.size a)
theorem k0_idx268_inb : ∀ (v268 : IVec S16 32) (k0_hw208 : k0_chk208 v268), ∀ a x, ((![v268] : Fin 1 → IVec S16 32) a x).toNat < S16.size a := fun v268 k0_hw208 => k0_hw208
@[reducible] def k0_t65_loop : Scf.Loop 32 :=
  let c0_i32_172 : BitVec 32 := 0#32
  let c16_i32_173 : BitVec 32 := 16#32
  let v277 : BitVec 32 := Scalar.addi c0_i32_172 c16_i32_173
  let c1_i32_174 : BitVec 32 := 1#32
  ⟨c0_i32_172, v277, c1_i32_174⟩

def k0_chk209 (v511 : IVec S16 32) : Prop :=
  (∀ a x, ((![v511] : Fin 1 → IVec S16 32) a x).toNat < S16.size a)
theorem k0_idx269_inb : ∀ (v511 : IVec S16 32) (k0_hw209 : k0_chk209 v511), ∀ a x, ((![v511] : Fin 1 → IVec S16 32) a x).toNat < S16.size a := fun v511 k0_hw209 => k0_hw209

def k0_chk210 (v278 : IVec S16 32) : Prop :=
  (∀ a x, ((![v278] : Fin 1 → IVec S16 32) a x).toNat < S16.size a) ∧
  (∀ a x, ((![v278] : Fin 1 → IVec S16 32) a x).toNat < S16.size a)
theorem k0_idx270_inb : ∀ (v278 : IVec S16 32) (k0_hw210 : k0_chk210 v278), ∀ a x, ((![v278] : Fin 1 → IVec S16 32) a x).toNat < S16.size a := fun v278 k0_hw210 => k0_hw210.1
theorem k0_idx271_inb : ∀ (v278 : IVec S16 32) (k0_hw210 : k0_chk210 v278), ∀ a x, ((![v278] : Fin 1 → IVec S16 32) a x).toNat < S16.size a := fun v278 k0_hw210 => k0_hw210.2

def k0_chk211 (v282 : IVec S16 32) : Prop :=
  (∀ a x, ((![v282] : Fin 1 → IVec S16 32) a x).toNat < S16.size a)
theorem k0_idx272_inb : ∀ (v282 : IVec S16 32) (k0_hw211 : k0_chk211 v282), ∀ a x, ((![v282] : Fin 1 → IVec S16 32) a x).toNat < S16.size a := fun v282 k0_hw211 => k0_hw211

def k0_chk212 (v286 : IVec S16 32) : Prop :=
  (∀ a x, ((![v286] : Fin 1 → IVec S16 32) a x).toNat < S16.size a)
theorem k0_idx273_inb : ∀ (v286 : IVec S16 32) (k0_hw212 : k0_chk212 v286), ∀ a x, ((![v286] : Fin 1 → IVec S16 32) a x).toNat < S16.size a := fun v286 k0_hw212 => k0_hw212
@[reducible] def k0_t66_loop : Scf.Loop 32 :=
  let c0_i32_184 : BitVec 32 := 0#32
  let c16_i32_185 : BitVec 32 := 16#32
  let v295 : BitVec 32 := Scalar.addi c0_i32_184 c16_i32_185
  let c1_i32_186 : BitVec 32 := 1#32
  ⟨c0_i32_184, v295, c1_i32_186⟩

def k0_chk213 (v511 : IVec S16 32) : Prop :=
  (∀ a x, ((![v511] : Fin 1 → IVec S16 32) a x).toNat < S16.size a)
theorem k0_idx274_inb : ∀ (v511 : IVec S16 32) (k0_hw213 : k0_chk213 v511), ∀ a x, ((![v511] : Fin 1 → IVec S16 32) a x).toNat < S16.size a := fun v511 k0_hw213 => k0_hw213

def k0_chk214 (v296 : IVec S16 32) : Prop :=
  (∀ a x, ((![v296] : Fin 1 → IVec S16 32) a x).toNat < S16.size a) ∧
  (∀ a x, ((![v296] : Fin 1 → IVec S16 32) a x).toNat < S16.size a)
theorem k0_idx275_inb : ∀ (v296 : IVec S16 32) (k0_hw214 : k0_chk214 v296), ∀ a x, ((![v296] : Fin 1 → IVec S16 32) a x).toNat < S16.size a := fun v296 k0_hw214 => k0_hw214.1
theorem k0_idx276_inb : ∀ (v296 : IVec S16 32) (k0_hw214 : k0_chk214 v296), ∀ a x, ((![v296] : Fin 1 → IVec S16 32) a x).toNat < S16.size a := fun v296 k0_hw214 => k0_hw214.2

def k0_chk215 (v300 : IVec S16 32) : Prop :=
  (∀ a x, ((![v300] : Fin 1 → IVec S16 32) a x).toNat < S16.size a)
theorem k0_idx277_inb : ∀ (v300 : IVec S16 32) (k0_hw215 : k0_chk215 v300), ∀ a x, ((![v300] : Fin 1 → IVec S16 32) a x).toNat < S16.size a := fun v300 k0_hw215 => k0_hw215

def k0_chk216 (v304 : IVec S16 32) : Prop :=
  (∀ a x, ((![v304] : Fin 1 → IVec S16 32) a x).toNat < S16.size a)
theorem k0_idx278_inb : ∀ (v304 : IVec S16 32) (k0_hw216 : k0_chk216 v304), ∀ a x, ((![v304] : Fin 1 → IVec S16 32) a x).toNat < S16.size a := fun v304 k0_hw216 => k0_hw216
@[reducible] def k0_t67_loop : Scf.Loop 32 :=
  let c0_i32_196 : BitVec 32 := 0#32
  let c16_i32_197 : BitVec 32 := 16#32
  let v313 : BitVec 32 := Scalar.addi c0_i32_196 c16_i32_197
  let c1_i32_198 : BitVec 32 := 1#32
  ⟨c0_i32_196, v313, c1_i32_198⟩

def k0_chk217 (v511 : IVec S16 32) : Prop :=
  (∀ a x, ((![v511] : Fin 1 → IVec S16 32) a x).toNat < S16.size a)
theorem k0_idx279_inb : ∀ (v511 : IVec S16 32) (k0_hw217 : k0_chk217 v511), ∀ a x, ((![v511] : Fin 1 → IVec S16 32) a x).toNat < S16.size a := fun v511 k0_hw217 => k0_hw217

def k0_chk218 (v314 : IVec S16 32) : Prop :=
  (∀ a x, ((![v314] : Fin 1 → IVec S16 32) a x).toNat < S16.size a) ∧
  (∀ a x, ((![v314] : Fin 1 → IVec S16 32) a x).toNat < S16.size a)
theorem k0_idx280_inb : ∀ (v314 : IVec S16 32) (k0_hw218 : k0_chk218 v314), ∀ a x, ((![v314] : Fin 1 → IVec S16 32) a x).toNat < S16.size a := fun v314 k0_hw218 => k0_hw218.1
theorem k0_idx281_inb : ∀ (v314 : IVec S16 32) (k0_hw218 : k0_chk218 v314), ∀ a x, ((![v314] : Fin 1 → IVec S16 32) a x).toNat < S16.size a := fun v314 k0_hw218 => k0_hw218.2

def k0_chk219 (v318 : IVec S16 32) : Prop :=
  (∀ a x, ((![v318] : Fin 1 → IVec S16 32) a x).toNat < S16.size a)
theorem k0_idx282_inb : ∀ (v318 : IVec S16 32) (k0_hw219 : k0_chk219 v318), ∀ a x, ((![v318] : Fin 1 → IVec S16 32) a x).toNat < S16.size a := fun v318 k0_hw219 => k0_hw219

def k0_chk220 (v322 : IVec S16 32) : Prop :=
  (∀ a x, ((![v322] : Fin 1 → IVec S16 32) a x).toNat < S16.size a)
theorem k0_idx283_inb : ∀ (v322 : IVec S16 32) (k0_hw220 : k0_chk220 v322), ∀ a x, ((![v322] : Fin 1 → IVec S16 32) a x).toNat < S16.size a := fun v322 k0_hw220 => k0_hw220
@[reducible] def k0_t68_loop : Scf.Loop 32 :=
  let c0_i32_208 : BitVec 32 := 0#32
  let c16_i32_209 : BitVec 32 := 16#32
  let v331 : BitVec 32 := Scalar.addi c0_i32_208 c16_i32_209
  let c1_i32_210 : BitVec 32 := 1#32
  ⟨c0_i32_208, v331, c1_i32_210⟩

def k0_chk221 (v511 : IVec S16 32) : Prop :=
  (∀ a x, ((![v511] : Fin 1 → IVec S16 32) a x).toNat < S16.size a)
theorem k0_idx284_inb : ∀ (v511 : IVec S16 32) (k0_hw221 : k0_chk221 v511), ∀ a x, ((![v511] : Fin 1 → IVec S16 32) a x).toNat < S16.size a := fun v511 k0_hw221 => k0_hw221

def k0_chk222 (v332 : IVec S16 32) : Prop :=
  (∀ a x, ((![v332] : Fin 1 → IVec S16 32) a x).toNat < S16.size a) ∧
  (∀ a x, ((![v332] : Fin 1 → IVec S16 32) a x).toNat < S16.size a)
theorem k0_idx285_inb : ∀ (v332 : IVec S16 32) (k0_hw222 : k0_chk222 v332), ∀ a x, ((![v332] : Fin 1 → IVec S16 32) a x).toNat < S16.size a := fun v332 k0_hw222 => k0_hw222.1
theorem k0_idx286_inb : ∀ (v332 : IVec S16 32) (k0_hw222 : k0_chk222 v332), ∀ a x, ((![v332] : Fin 1 → IVec S16 32) a x).toNat < S16.size a := fun v332 k0_hw222 => k0_hw222.2

def k0_chk223 (v336 : IVec S16 32) : Prop :=
  (∀ a x, ((![v336] : Fin 1 → IVec S16 32) a x).toNat < S16.size a)
theorem k0_idx287_inb : ∀ (v336 : IVec S16 32) (k0_hw223 : k0_chk223 v336), ∀ a x, ((![v336] : Fin 1 → IVec S16 32) a x).toNat < S16.size a := fun v336 k0_hw223 => k0_hw223

def k0_chk224 (v340 : IVec S16 32) : Prop :=
  (∀ a x, ((![v340] : Fin 1 → IVec S16 32) a x).toNat < S16.size a)
theorem k0_idx288_inb : ∀ (v340 : IVec S16 32) (k0_hw224 : k0_chk224 v340), ∀ a x, ((![v340] : Fin 1 → IVec S16 32) a x).toNat < S16.size a := fun v340 k0_hw224 => k0_hw224
@[reducible] def k0_t69_loop : Scf.Loop 32 :=
  let c0_i32_220 : BitVec 32 := 0#32
  let c16_i32_221 : BitVec 32 := 16#32
  let v349 : BitVec 32 := Scalar.addi c0_i32_220 c16_i32_221
  let c1_i32_222 : BitVec 32 := 1#32
  ⟨c0_i32_220, v349, c1_i32_222⟩

def k0_chk225 (v511 : IVec S16 32) : Prop :=
  (∀ a x, ((![v511] : Fin 1 → IVec S16 32) a x).toNat < S16.size a)
theorem k0_idx289_inb : ∀ (v511 : IVec S16 32) (k0_hw225 : k0_chk225 v511), ∀ a x, ((![v511] : Fin 1 → IVec S16 32) a x).toNat < S16.size a := fun v511 k0_hw225 => k0_hw225

def k0_chk226 (v350 : IVec S16 32) : Prop :=
  (∀ a x, ((![v350] : Fin 1 → IVec S16 32) a x).toNat < S16.size a) ∧
  (∀ a x, ((![v350] : Fin 1 → IVec S16 32) a x).toNat < S16.size a)
theorem k0_idx290_inb : ∀ (v350 : IVec S16 32) (k0_hw226 : k0_chk226 v350), ∀ a x, ((![v350] : Fin 1 → IVec S16 32) a x).toNat < S16.size a := fun v350 k0_hw226 => k0_hw226.1
theorem k0_idx291_inb : ∀ (v350 : IVec S16 32) (k0_hw226 : k0_chk226 v350), ∀ a x, ((![v350] : Fin 1 → IVec S16 32) a x).toNat < S16.size a := fun v350 k0_hw226 => k0_hw226.2

def k0_chk227 (v354 : IVec S16 32) : Prop :=
  (∀ a x, ((![v354] : Fin 1 → IVec S16 32) a x).toNat < S16.size a)
theorem k0_idx292_inb : ∀ (v354 : IVec S16 32) (k0_hw227 : k0_chk227 v354), ∀ a x, ((![v354] : Fin 1 → IVec S16 32) a x).toNat < S16.size a := fun v354 k0_hw227 => k0_hw227

def k0_chk228 (v358 : IVec S16 32) : Prop :=
  (∀ a x, ((![v358] : Fin 1 → IVec S16 32) a x).toNat < S16.size a)
theorem k0_idx293_inb : ∀ (v358 : IVec S16 32) (k0_hw228 : k0_chk228 v358), ∀ a x, ((![v358] : Fin 1 → IVec S16 32) a x).toNat < S16.size a := fun v358 k0_hw228 => k0_hw228
@[reducible] def k0_t70_loop : Scf.Loop 32 :=
  let c0_i32_232 : BitVec 32 := 0#32
  let c16_i32_233 : BitVec 32 := 16#32
  let v367 : BitVec 32 := Scalar.addi c0_i32_232 c16_i32_233
  let c1_i32_234 : BitVec 32 := 1#32
  ⟨c0_i32_232, v367, c1_i32_234⟩

def k0_chk229 (v511 : IVec S16 32) : Prop :=
  (∀ a x, ((![v511] : Fin 1 → IVec S16 32) a x).toNat < S16.size a)
theorem k0_idx294_inb : ∀ (v511 : IVec S16 32) (k0_hw229 : k0_chk229 v511), ∀ a x, ((![v511] : Fin 1 → IVec S16 32) a x).toNat < S16.size a := fun v511 k0_hw229 => k0_hw229

def k0_chk230 (v368 : IVec S16 32) : Prop :=
  (∀ a x, ((![v368] : Fin 1 → IVec S16 32) a x).toNat < S16.size a) ∧
  (∀ a x, ((![v368] : Fin 1 → IVec S16 32) a x).toNat < S16.size a)
theorem k0_idx295_inb : ∀ (v368 : IVec S16 32) (k0_hw230 : k0_chk230 v368), ∀ a x, ((![v368] : Fin 1 → IVec S16 32) a x).toNat < S16.size a := fun v368 k0_hw230 => k0_hw230.1
theorem k0_idx296_inb : ∀ (v368 : IVec S16 32) (k0_hw230 : k0_chk230 v368), ∀ a x, ((![v368] : Fin 1 → IVec S16 32) a x).toNat < S16.size a := fun v368 k0_hw230 => k0_hw230.2

def k0_chk231 (v372 : IVec S16 32) : Prop :=
  (∀ a x, ((![v372] : Fin 1 → IVec S16 32) a x).toNat < S16.size a)
theorem k0_idx297_inb : ∀ (v372 : IVec S16 32) (k0_hw231 : k0_chk231 v372), ∀ a x, ((![v372] : Fin 1 → IVec S16 32) a x).toNat < S16.size a := fun v372 k0_hw231 => k0_hw231

def k0_chk232 (v376 : IVec S16 32) : Prop :=
  (∀ a x, ((![v376] : Fin 1 → IVec S16 32) a x).toNat < S16.size a)
theorem k0_idx298_inb : ∀ (v376 : IVec S16 32) (k0_hw232 : k0_chk232 v376), ∀ a x, ((![v376] : Fin 1 → IVec S16 32) a x).toNat < S16.size a := fun v376 k0_hw232 => k0_hw232
@[reducible] def k0_t71_loop : Scf.Loop 32 :=
  let c0_i32_244 : BitVec 32 := 0#32
  let c16_i32_245 : BitVec 32 := 16#32
  let v385 : BitVec 32 := Scalar.addi c0_i32_244 c16_i32_245
  let c1_i32_246 : BitVec 32 := 1#32
  ⟨c0_i32_244, v385, c1_i32_246⟩

def k0_chk233 (v511 : IVec S16 32) : Prop :=
  (∀ a x, ((![v511] : Fin 1 → IVec S16 32) a x).toNat < S16.size a)
theorem k0_idx299_inb : ∀ (v511 : IVec S16 32) (k0_hw233 : k0_chk233 v511), ∀ a x, ((![v511] : Fin 1 → IVec S16 32) a x).toNat < S16.size a := fun v511 k0_hw233 => k0_hw233

def k0_chk234 (v386 : IVec S16 32) : Prop :=
  (∀ a x, ((![v386] : Fin 1 → IVec S16 32) a x).toNat < S16.size a) ∧
  (∀ a x, ((![v386] : Fin 1 → IVec S16 32) a x).toNat < S16.size a)
theorem k0_idx300_inb : ∀ (v386 : IVec S16 32) (k0_hw234 : k0_chk234 v386), ∀ a x, ((![v386] : Fin 1 → IVec S16 32) a x).toNat < S16.size a := fun v386 k0_hw234 => k0_hw234.1
theorem k0_idx301_inb : ∀ (v386 : IVec S16 32) (k0_hw234 : k0_chk234 v386), ∀ a x, ((![v386] : Fin 1 → IVec S16 32) a x).toNat < S16.size a := fun v386 k0_hw234 => k0_hw234.2

def k0_chk235 (v390 : IVec S16 32) : Prop :=
  (∀ a x, ((![v390] : Fin 1 → IVec S16 32) a x).toNat < S16.size a)
theorem k0_idx302_inb : ∀ (v390 : IVec S16 32) (k0_hw235 : k0_chk235 v390), ∀ a x, ((![v390] : Fin 1 → IVec S16 32) a x).toNat < S16.size a := fun v390 k0_hw235 => k0_hw235

def k0_chk236 (v394 : IVec S16 32) : Prop :=
  (∀ a x, ((![v394] : Fin 1 → IVec S16 32) a x).toNat < S16.size a)
theorem k0_idx303_inb : ∀ (v394 : IVec S16 32) (k0_hw236 : k0_chk236 v394), ∀ a x, ((![v394] : Fin 1 → IVec S16 32) a x).toNat < S16.size a := fun v394 k0_hw236 => k0_hw236
@[reducible] def k0_t72_loop : Scf.Loop 32 :=
  let c0_i32_256 : BitVec 32 := 0#32
  let c16_i32_257 : BitVec 32 := 16#32
  let v403 : BitVec 32 := Scalar.addi c0_i32_256 c16_i32_257
  let c1_i32_258 : BitVec 32 := 1#32
  ⟨c0_i32_256, v403, c1_i32_258⟩

def k0_chk237 (v511 : IVec S16 32) : Prop :=
  (∀ a x, ((![v511] : Fin 1 → IVec S16 32) a x).toNat < S16.size a)
theorem k0_idx304_inb : ∀ (v511 : IVec S16 32) (k0_hw237 : k0_chk237 v511), ∀ a x, ((![v511] : Fin 1 → IVec S16 32) a x).toNat < S16.size a := fun v511 k0_hw237 => k0_hw237

def k0_chk238 (v404 : IVec S16 32) : Prop :=
  (∀ a x, ((![v404] : Fin 1 → IVec S16 32) a x).toNat < S16.size a) ∧
  (∀ a x, ((![v404] : Fin 1 → IVec S16 32) a x).toNat < S16.size a)
theorem k0_idx305_inb : ∀ (v404 : IVec S16 32) (k0_hw238 : k0_chk238 v404), ∀ a x, ((![v404] : Fin 1 → IVec S16 32) a x).toNat < S16.size a := fun v404 k0_hw238 => k0_hw238.1
theorem k0_idx306_inb : ∀ (v404 : IVec S16 32) (k0_hw238 : k0_chk238 v404), ∀ a x, ((![v404] : Fin 1 → IVec S16 32) a x).toNat < S16.size a := fun v404 k0_hw238 => k0_hw238.2

def k0_chk239 (v408 : IVec S16 32) : Prop :=
  (∀ a x, ((![v408] : Fin 1 → IVec S16 32) a x).toNat < S16.size a)
theorem k0_idx307_inb : ∀ (v408 : IVec S16 32) (k0_hw239 : k0_chk239 v408), ∀ a x, ((![v408] : Fin 1 → IVec S16 32) a x).toNat < S16.size a := fun v408 k0_hw239 => k0_hw239

def k0_chk240 (v412 : IVec S16 32) : Prop :=
  (∀ a x, ((![v412] : Fin 1 → IVec S16 32) a x).toNat < S16.size a)
theorem k0_idx308_inb : ∀ (v412 : IVec S16 32) (k0_hw240 : k0_chk240 v412), ∀ a x, ((![v412] : Fin 1 → IVec S16 32) a x).toNat < S16.size a := fun v412 k0_hw240 => k0_hw240
@[reducible] def k0_t73_loop : Scf.Loop 32 :=
  let c0_i32_268 : BitVec 32 := 0#32
  let c16_i32_269 : BitVec 32 := 16#32
  let v421 : BitVec 32 := Scalar.addi c0_i32_268 c16_i32_269
  let c1_i32_270 : BitVec 32 := 1#32
  ⟨c0_i32_268, v421, c1_i32_270⟩

def k0_chk241 (v511 : IVec S16 32) : Prop :=
  (∀ a x, ((![v511] : Fin 1 → IVec S16 32) a x).toNat < S16.size a)
theorem k0_idx309_inb : ∀ (v511 : IVec S16 32) (k0_hw241 : k0_chk241 v511), ∀ a x, ((![v511] : Fin 1 → IVec S16 32) a x).toNat < S16.size a := fun v511 k0_hw241 => k0_hw241

def k0_chk242 (v422 : IVec S16 32) : Prop :=
  (∀ a x, ((![v422] : Fin 1 → IVec S16 32) a x).toNat < S16.size a) ∧
  (∀ a x, ((![v422] : Fin 1 → IVec S16 32) a x).toNat < S16.size a)
theorem k0_idx310_inb : ∀ (v422 : IVec S16 32) (k0_hw242 : k0_chk242 v422), ∀ a x, ((![v422] : Fin 1 → IVec S16 32) a x).toNat < S16.size a := fun v422 k0_hw242 => k0_hw242.1
theorem k0_idx311_inb : ∀ (v422 : IVec S16 32) (k0_hw242 : k0_chk242 v422), ∀ a x, ((![v422] : Fin 1 → IVec S16 32) a x).toNat < S16.size a := fun v422 k0_hw242 => k0_hw242.2

def k0_chk243 (v426 : IVec S16 32) : Prop :=
  (∀ a x, ((![v426] : Fin 1 → IVec S16 32) a x).toNat < S16.size a)
theorem k0_idx312_inb : ∀ (v426 : IVec S16 32) (k0_hw243 : k0_chk243 v426), ∀ a x, ((![v426] : Fin 1 → IVec S16 32) a x).toNat < S16.size a := fun v426 k0_hw243 => k0_hw243

def k0_chk244 (v430 : IVec S16 32) : Prop :=
  (∀ a x, ((![v430] : Fin 1 → IVec S16 32) a x).toNat < S16.size a)
theorem k0_idx313_inb : ∀ (v430 : IVec S16 32) (k0_hw244 : k0_chk244 v430), ∀ a x, ((![v430] : Fin 1 → IVec S16 32) a x).toNat < S16.size a := fun v430 k0_hw244 => k0_hw244
@[reducible] def k0_t74_loop : Scf.Loop 32 :=
  let c0_i32_280 : BitVec 32 := 0#32
  let c16_i32_281 : BitVec 32 := 16#32
  let v439 : BitVec 32 := Scalar.addi c0_i32_280 c16_i32_281
  let c1_i32_282 : BitVec 32 := 1#32
  ⟨c0_i32_280, v439, c1_i32_282⟩

def k0_chk245 (v511 : IVec S16 32) : Prop :=
  (∀ a x, ((![v511] : Fin 1 → IVec S16 32) a x).toNat < S16.size a)
theorem k0_idx314_inb : ∀ (v511 : IVec S16 32) (k0_hw245 : k0_chk245 v511), ∀ a x, ((![v511] : Fin 1 → IVec S16 32) a x).toNat < S16.size a := fun v511 k0_hw245 => k0_hw245

def k0_chk246 (v440 : IVec S16 32) : Prop :=
  (∀ a x, ((![v440] : Fin 1 → IVec S16 32) a x).toNat < S16.size a) ∧
  (∀ a x, ((![v440] : Fin 1 → IVec S16 32) a x).toNat < S16.size a)
theorem k0_idx315_inb : ∀ (v440 : IVec S16 32) (k0_hw246 : k0_chk246 v440), ∀ a x, ((![v440] : Fin 1 → IVec S16 32) a x).toNat < S16.size a := fun v440 k0_hw246 => k0_hw246.1
theorem k0_idx316_inb : ∀ (v440 : IVec S16 32) (k0_hw246 : k0_chk246 v440), ∀ a x, ((![v440] : Fin 1 → IVec S16 32) a x).toNat < S16.size a := fun v440 k0_hw246 => k0_hw246.2

def k0_chk247 (v444 : IVec S16 32) : Prop :=
  (∀ a x, ((![v444] : Fin 1 → IVec S16 32) a x).toNat < S16.size a)
theorem k0_idx317_inb : ∀ (v444 : IVec S16 32) (k0_hw247 : k0_chk247 v444), ∀ a x, ((![v444] : Fin 1 → IVec S16 32) a x).toNat < S16.size a := fun v444 k0_hw247 => k0_hw247

def k0_chk248 (v448 : IVec S16 32) : Prop :=
  (∀ a x, ((![v448] : Fin 1 → IVec S16 32) a x).toNat < S16.size a)
theorem k0_idx318_inb : ∀ (v448 : IVec S16 32) (k0_hw248 : k0_chk248 v448), ∀ a x, ((![v448] : Fin 1 → IVec S16 32) a x).toNat < S16.size a := fun v448 k0_hw248 => k0_hw248
@[reducible] def k0_t75_loop : Scf.Loop 32 :=
  let c0_i32_292 : BitVec 32 := 0#32
  let c16_i32_293 : BitVec 32 := 16#32
  let v457 : BitVec 32 := Scalar.addi c0_i32_292 c16_i32_293
  let c1_i32_294 : BitVec 32 := 1#32
  ⟨c0_i32_292, v457, c1_i32_294⟩

def k0_chk249 (v511 : IVec S16 32) : Prop :=
  (∀ a x, ((![v511] : Fin 1 → IVec S16 32) a x).toNat < S16.size a)
theorem k0_idx319_inb : ∀ (v511 : IVec S16 32) (k0_hw249 : k0_chk249 v511), ∀ a x, ((![v511] : Fin 1 → IVec S16 32) a x).toNat < S16.size a := fun v511 k0_hw249 => k0_hw249

def k0_chk250 (v458 : IVec S16 32) : Prop :=
  (∀ a x, ((![v458] : Fin 1 → IVec S16 32) a x).toNat < S16.size a) ∧
  (∀ a x, ((![v458] : Fin 1 → IVec S16 32) a x).toNat < S16.size a)
theorem k0_idx320_inb : ∀ (v458 : IVec S16 32) (k0_hw250 : k0_chk250 v458), ∀ a x, ((![v458] : Fin 1 → IVec S16 32) a x).toNat < S16.size a := fun v458 k0_hw250 => k0_hw250.1
theorem k0_idx321_inb : ∀ (v458 : IVec S16 32) (k0_hw250 : k0_chk250 v458), ∀ a x, ((![v458] : Fin 1 → IVec S16 32) a x).toNat < S16.size a := fun v458 k0_hw250 => k0_hw250.2

def k0_chk251 (v462 : IVec S16 32) : Prop :=
  (∀ a x, ((![v462] : Fin 1 → IVec S16 32) a x).toNat < S16.size a)
theorem k0_idx322_inb : ∀ (v462 : IVec S16 32) (k0_hw251 : k0_chk251 v462), ∀ a x, ((![v462] : Fin 1 → IVec S16 32) a x).toNat < S16.size a := fun v462 k0_hw251 => k0_hw251

def k0_chk252 (v466 : IVec S16 32) : Prop :=
  (∀ a x, ((![v466] : Fin 1 → IVec S16 32) a x).toNat < S16.size a)
theorem k0_idx323_inb : ∀ (v466 : IVec S16 32) (k0_hw252 : k0_chk252 v466), ∀ a x, ((![v466] : Fin 1 → IVec S16 32) a x).toNat < S16.size a := fun v466 k0_hw252 => k0_hw252
@[reducible] def k0_t76_loop : Scf.Loop 32 :=
  let c0_i32_304 : BitVec 32 := 0#32
  let c16_i32_305 : BitVec 32 := 16#32
  let v475 : BitVec 32 := Scalar.addi c0_i32_304 c16_i32_305
  let c1_i32_306 : BitVec 32 := 1#32
  ⟨c0_i32_304, v475, c1_i32_306⟩

def k0_chk253 (v511 : IVec S16 32) : Prop :=
  (∀ a x, ((![v511] : Fin 1 → IVec S16 32) a x).toNat < S16.size a)
theorem k0_idx324_inb : ∀ (v511 : IVec S16 32) (k0_hw253 : k0_chk253 v511), ∀ a x, ((![v511] : Fin 1 → IVec S16 32) a x).toNat < S16.size a := fun v511 k0_hw253 => k0_hw253

def k0_chk254 (v476 : IVec S16 32) : Prop :=
  (∀ a x, ((![v476] : Fin 1 → IVec S16 32) a x).toNat < S16.size a) ∧
  (∀ a x, ((![v476] : Fin 1 → IVec S16 32) a x).toNat < S16.size a)
theorem k0_idx325_inb : ∀ (v476 : IVec S16 32) (k0_hw254 : k0_chk254 v476), ∀ a x, ((![v476] : Fin 1 → IVec S16 32) a x).toNat < S16.size a := fun v476 k0_hw254 => k0_hw254.1
theorem k0_idx326_inb : ∀ (v476 : IVec S16 32) (k0_hw254 : k0_chk254 v476), ∀ a x, ((![v476] : Fin 1 → IVec S16 32) a x).toNat < S16.size a := fun v476 k0_hw254 => k0_hw254.2

def k0_chk255 (v479 : IVec S16 32) : Prop :=
  (∀ a x, ((![v479] : Fin 1 → IVec S16 32) a x).toNat < S16.size a)
theorem k0_idx327_inb : ∀ (v479 : IVec S16 32) (k0_hw255 : k0_chk255 v479), ∀ a x, ((![v479] : Fin 1 → IVec S16 32) a x).toNat < S16.size a := fun v479 k0_hw255 => k0_hw255

def k0_chk256 (v485 : IVec S16 32) : Prop :=
  (∀ a x, ((![v485] : Fin 1 → IVec S16 32) a x).toNat < S16.size a) ∧
  (∀ a x, ((![v485] : Fin 1 → IVec S16 32) a x).toNat < S16.size a)
theorem k0_idx328_inb : ∀ (v485 : IVec S16 32) (k0_hw256 : k0_chk256 v485), ∀ a x, ((![v485] : Fin 1 → IVec S16 32) a x).toNat < S16.size a := fun v485 k0_hw256 => k0_hw256.1
theorem k0_idx329_inb : ∀ (v485 : IVec S16 32) (k0_hw256 : k0_chk256 v485), ∀ a x, ((![v485] : Fin 1 → IVec S16 32) a x).toNat < S16.size a := fun v485 k0_hw256 => k0_hw256.2

def k0_chk257 (v489 : IVec S16 32) : Prop :=
  (∀ a x, ((![v489] : Fin 1 → IVec S16 32) a x).toNat < S16.size a) ∧
  (∀ a x, ((![v489] : Fin 1 → IVec S16 32) a x).toNat < S16.size a)
theorem k0_idx330_inb : ∀ (v489 : IVec S16 32) (k0_hw257 : k0_chk257 v489), ∀ a x, ((![v489] : Fin 1 → IVec S16 32) a x).toNat < S16.size a := fun v489 k0_hw257 => k0_hw257.1
theorem k0_idx331_inb : ∀ (v489 : IVec S16 32) (k0_hw257 : k0_chk257 v489), ∀ a x, ((![v489] : Fin 1 → IVec S16 32) a x).toNat < S16.size a := fun v489 k0_hw257 => k0_hw257.2
def k0_off5 (k0_t2 : Fin k0_t2_loop.trips) (k0_t3 : Fin k0_t3_loop.trips) : Fin 1 → Nat :=
  let c0_i32_17 : BitVec 32 := 0#32
  let c1_i32_18 : BitVec 32 := 1#32
  let arg18 : BitVec 32 := Scf.iv c0_i32_17 c1_i32_18 k0_t2
  let c16_i32_320 : BitVec 32 := 16#32
  let v506 : BitVec 32 := Scalar.muli arg18 c16_i32_320
  let c0_i32_23 : BitVec 32 := 0#32
  let c1_i32_25 : BitVec 32 := 1#32
  let arg19 : BitVec 32 := Scf.iv c0_i32_23 c1_i32_25 k0_t3
  let v507 : BitVec 32 := Scalar.addi v506 arg19
  let c16_i32_321 : BitVec 32 := 16#32
  let v508 : BitVec 32 := Scalar.muli v507 c16_i32_321
  let v509 : Index := Scalar.indexCast v508
  ![v509.toNat]
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c4096_i32_20 : BitVec 32 := 4096#32
  let v36 : BitVec 32 := Scalar.muli v18 c4096_i32_20
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v37 : BitVec 32 := Scalar.addi v36 v29
  let c16_i32 : BitVec 32 := 16#32
  let v38 : BitVec 32 := Scalar.muli v37 c16_i32
  ![v38.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x3 : Shape := ⟨3, ![4, 4096, 3]⟩
abbrev S4x3x4096 : Shape := ⟨3, ![4, 3, 4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x16 : Shape := ⟨3, ![4, 4096, 16]⟩
abbrev S4096 : Shape := ⟨1, ![4096]⟩
abbrev S1x4096x1 : Shape := ⟨3, ![1, 4096, 1]⟩
abbrev S1x4x4096x16 : Shape := ⟨4, ![1, 4, 4096, 16]⟩
abbrev S2x4x4096x16 : Shape := ⟨4, ![2, 4, 4096, 16]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x3x4096, .f32⟩
  | .hbm, ⟨2, _⟩ => ⟨S4x4096x4096, .f32⟩
  | .hbm, ⟨3, _⟩ => ⟨S_, .f32⟩
  | .hbm, ⟨4, _⟩ => ⟨S4x4096x4096, .f32⟩
  | .hbm, ⟨5, _⟩ => ⟨S4x4096x4096, .f32⟩
  | .hbm, ⟨6, _⟩ => ⟨S4x4096x3, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S4x4096x4096, .f32⟩
  | .hbm, ⟨11, _⟩ => ⟨S4x4096x4096, .f32⟩
  | .hbm, ⟨12, _⟩ => ⟨S4x1x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096x4096, .f32⟩
  | .hbm, ⟨17, _⟩ => ⟨S4x4096x4096, .i1⟩
  | .hbm, ⟨18, _⟩ => ⟨S_, .f32⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S4x4096x16, .f32⟩
  | .hbm, ⟨24, _⟩ => ⟨S4x4096x16, .i32⟩
  | .hbm, ⟨25, _⟩ => ⟨S4096, .i32⟩
  | .hbm, ⟨26, _⟩ => ⟨S1x4096x1, .i32⟩
  | .hbm, ⟨27, _⟩ => ⟨S4x4096x16, .i32⟩
  | .hbm, ⟨28, _⟩ => ⟨S1x4x4096x16, .i32⟩
  | .hbm, ⟨29, _⟩ => ⟨S1x4x4096x16, .i32⟩
  | .hbm, ⟨30, _⟩ => ⟨S2x4x4096x16, .i32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v14 : Ref sig .tc := ⟨.hbm, 21, rfl⟩
abbrev main_v15 : Ref sig .tc := ⟨.hbm, 22, rfl⟩
abbrev main_values : Ref sig .tc := ⟨.hbm, 23, rfl⟩
abbrev main_indices : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.Runs.lean ====
/-
  A judgement for a subcore's computation between its copies. `Runs c s p Φ` says: from the subcore's twelve vector-memory
  buffers, seven of them (`Coords`: the three coordinate arrays of its batch, the three scaled ones, the squared norms) at
  `c` and five (`Mem`: the candidate keys and indices, the output rows, the two one-register scratches) at `s`, the program
  `p` runs to a value and contents satisfying `Φ`, the seven unchanged. The rules below take one operation off the head of a
  program; none of them mentions the separation logic, which is met only here.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Tactic

@[expose] public section

noncomputable section

namespace Cert.Proof.Knn

open Cert.KernelIdeal Cert.KernelIdeal.Gen

open Idealize.ShloMosaic
open Idealize.ShloMosaic.SparseCore (S V T)
open Idealize.ShloMosaic.Rounds
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ

abbrev UU : Type := UH × Counters

local notation "𝕄" => MT nD τ sig (HIx 1) (Elt F) ℕ UU ℕ

abbrev xV : Memref sig .scVector .vmem S4096 .f32 := Memref.whole cc0_scratch0
abbrev yV : Memref sig .scVector .vmem S4096 .f32 := Memref.whole cc0_scratch1
abbrev zV : Memref sig .scVector .vmem S4096 .f32 := Memref.whole cc0_scratch2
abbrev x2V : Memref sig .scVector .vmem S4096 .f32 := Memref.whole cc0_scratch3
abbrev y2V : Memref sig .scVector .vmem S4096 .f32 := Memref.whole cc0_scratch4
abbrev z2V : Memref sig .scVector .vmem S4096 .f32 := Memref.whole cc0_scratch5
abbrev csV : Memref sig .scVector .vmem S4096 .f32 := Memref.whole cc0_scratch6
abbrev bdV : Memref sig .scVector .vmem S224 .f32 := Memref.whole cc0_scratch7
abbrev biV : Memref sig .scVector .vmem S224 .i32 := Memref.whole cc0_scratch8
abbrev obV : Memref sig .scVector .vmem S8192 .i32 := Memref.whole cc0_scratch9
abbrev tfV : Memref sig .scVector .vmem S16 .f32 := Memref.whole cc0_scratch10
abbrev tiV : Memref sig .scVector .vmem S16 .i32 := Memref.whole cc0_scratch11

/-- The contents the rows only read: a batch's coordinates, the same scaled by −2, and the squared norms. -/
structure Coords (F : FTy → Type) where
  x : Vec F S4096 .f32
  y : Vec F S4096 .f32
  z : Vec F S4096 .f32
  x2 : Vec F S4096 .f32
  y2 : Vec F S4096 .f32
  z2 : Vec F S4096 .f32
  cs : Vec F S4096 .f32

/-- The contents the rows change: candidate keys and indices, output rows, the two one-register scratches. -/
structure Mem (F : FTy → Type) where
  bd : Vec F S224 .f32
  bi : Vec F S224 .i32
  ob : Vec F S8192 .i32
  tf : Vec F S16 .f32
  ti : Vec F S16 .i32

section Rules

variable [FloatOps F] (d : Dev nD) (i : grid0.Coords)

/-- The vector subcore at grid coordinates `i`. -/
abbrev thr (i : grid0.Coords) : Thread nD τ := V d ((i 0).castLE hcore0) ((i 1).castLE hsub0)

abbrev pts {b : Ref sig .scVector} (f : Buf (Elt F) ((thr d i).loc b)) : sProp 𝕄 := (thr d i).loc b ↦{fullShare} f

def Own (c : Coords F) (s : Mem F) : sProp 𝕄 :=
  iprop(pts d i (b := cc0_scratch0) c.x ∗ pts d i (b := cc0_scratch1) c.y ∗ pts d i (b := cc0_scratch2) c.z
    ∗ pts d i (b := cc0_scratch3) c.x2 ∗ pts d i (b := cc0_scratch4) c.y2 ∗ pts d i (b := cc0_scratch5) c.z2
    ∗ pts d i (b := cc0_scratch6) c.cs ∗ pts d i (b := cc0_scratch7) s.bd ∗ pts d i (b := cc0_scratch8) s.bi
    ∗ pts d i (b := cc0_scratch9) s.ob ∗ pts d i (b := cc0_scratch10) s.tf ∗ pts d i (b := cc0_scratch11) s.ti)

abbrev Pg (i : grid0.Coords) (α : Type) : Type 1 :=
  Prog (TpuEff nD τ sig (Elt F) Λ₀ (.scVector ((i 0).castLE hcore0) ((i 1).castLE hsub0))) α

/-- From the coordinates `c` and the memory `s`, `p` runs to a value and a memory satisfying `Φ`, `c` unchanged. -/
def Runs {α : Type} (c : Coords F) (s : Mem F) (p : Pg (F := F) i α) (Φ : α → Mem F → Prop) : Prop :=
  Own d i c s ⊢ wp (M := 𝕄) frame (wpE (defs₀ (F := F)) 𝒱₀ (thr d i) none) Set.univ p
    fun a => iprop(∃ s', ⌜Φ a s'⌝ ∗ Own d i c s')

variable {d i}
variable {α β : Type} {c : Coords F} {bd : Vec F S224 .f32} {bi : Vec F S224 .i32} {ob : Vec F S8192 .i32}
  {tf : Vec F S16 .f32} {ti : Vec F S16 .i32} {s : Mem F} {Φ : α → Mem F → Prop}

theorem Runs.ret {a : α} (h : Φ a s) : Runs d i c s (pure a : Pg (F := F) i α) Φ := by
  unfold Runs
  refine BIBase.Entails.trans ?_ (le_wp_ret _ _ _ _ _)
  iintro H
  iexists s
  isplitr
  · ipureintro; exact h
  · iexact H

theorem Runs.mono {Ψ : α → Mem F → Prop} {p : Pg (F := F) i α} (h : Runs d i c s p Ψ) (hΦ : ∀ a s, Ψ a s → Φ a s) :
    Runs d i c s p Φ := by
  refine BIBase.Entails.trans h (wp_mono _ _ _ fun a => ?_)
  iintro ⟨%s', %h', H⟩
  iexists s'
  isplitr
  · ipureintro; exact hΦ _ _ h'
  · iexact H

theorem Runs.bind {p : Pg (F := F) i β} {k : β → Pg (F := F) i α} (h : Runs d i c s p fun b s' => Runs d i c s' (k b) Φ) :
    Runs d i c s (p >>= k) Φ := by
  unfold Runs at h ⊢
  rw [wp_bind]
  refine BIBase.Entails.trans h (wp_mono _ _ _ fun a => ?_)
  iintro ⟨%s', %h', H⟩
  iapply h'
  iexact H

theorem Runs.assoc {γ : Type} {p : Pg (F := F) i γ} {f : γ → Pg (F := F) i β} {k : β → Pg (F := F) i α}
    (h : Runs d i c s (p >>= fun x => f x >>= k) Φ) : Runs d i c s ((p >>= f) >>= k) Φ := by
  rw [Prog.bind_assoc]; exact h

theorem Runs.pure_bind {a : β} {k : β → Pg (F := F) i α} (h : Runs d i c s (k a) Φ) :
    Runs d i c s ((pure a : Pg (F := F) i β) >>= k) Φ := h

theorem Runs.assume {P : Prop} {dec : Decidable P} {k : PLift P → Pg (F := F) i α} (hP : P)
    (h : Runs d i c s (k ⟨hP⟩) Φ) : Runs d i c s (Prog.lift (TpuEff.assume P dec) >>= k) Φ :=
  BIBase.Entails.trans h (wp_assume 𝒱₀ (thr d i) none Set.univ hP)

theorem Runs.ite {P : Prop} [Decidable P] {p : P → Pg (F := F) i α} {q : ¬P → Pg (F := F) i α}
    (ht : ∀ h : P, Runs d i c s (p h) Φ) (hf : ∀ h : ¬P, Runs d i c s (q h) Φ) :
    Runs d i c s (if h : P then p h else q h) Φ := by
  split
  · exact ht _
  · exact hf _

theorem Runs.ite_bind {P : Prop} [Decidable P] {p : P → Pg (F := F) i β} {q : ¬P → Pg (F := F) i β} {k : β → Pg (F := F) i α}
    (ht : ∀ h : P, Runs d i c s (p h >>= k) Φ) (hf : ∀ h : ¬P, Runs d i c s (q h >>= k) Φ) :
    Runs d i c s ((if h : P then p h else q h) >>= k) Φ := by
  split
  · exact ht _
  · exact hf _

/-- A counted loop, by an invariant of the trip, the carried value and the memory. -/
theorem Runs.loop {l : Scf.Loop 32} {hok : l.OK} {init : β} {body : Fin l.trips → β → Pg (F := F) i β}
    {k : β → Pg (F := F) i α} (I : ℕ → β → Mem F → Prop) (h0 : I 0 init s)
    (hstep : ∀ (n : Fin l.trips) b s, I n b s → Runs d i c s (body n b) (I (n + 1)))
    (hk : ∀ b s, I l.trips b s → Runs d i c s (k b) Φ) :
    Runs d i c s (Scf.Loop.for l hok init body >>= k) Φ := by
  refine Runs.bind (Runs.mono (Ψ := I l.trips) ?_ hk)
  rw [Scf.Loop.for, Scf.for_eq]
  have key : ∀ (ks : List (Fin l.trips)) (n : ℕ), ks = (List.finRange l.trips).drop n → n ≤ l.trips →
      ∀ b s, I n b s → Runs d i c s (Scf.forFrom body ks b) (I l.trips) := by
    intro ks
    induction ks with
    | nil =>
      intro n hks hn b s hI
      have : l.trips ≤ n := by
        have := congrArg List.length hks
        simp at this; omega
      obtain rfl : n = l.trips := le_antisymm hn this
      exact Runs.ret hI
    | cons j js ih =>
      intro n hks hn b s hI
      have hlt : n < l.trips := by
        have := congrArg List.length hks
        simp at this; omega
      have hd := List.drop_eq_getElem_cons (l := List.finRange l.trips) (i := n) (by simpa using hlt)
      rw [hd] at hks
      obtain ⟨hj, hjs⟩ := List.cons.inj hks
      have hjn : j.val = n := by rw [hj]; simp
      rw [Scf.forFrom_cons]
      refine Runs.bind (Runs.mono (hstep j b s (by rw [hjn]; exact hI)) fun b' s' h' => ?_)
      exact ih (n + 1) hjs hlt b' s' (by rw [hjn] at h'; exact h')
  exact key _ 0 rfl (Nat.zero_le _) _ _ h0

/-! ### Loads and stores -/

/-- What a load through the rectangle `r` reads of `f`. -/
def rd {s : Shape} {e : EltTy} (r : LoadRect s) (f : Vec F s e) : Vec F r.shape e := fun x => f (r.idx x)

/-- Lane `x` of a gather out of one register's worth of words: the word `idx x` names. -/
def gat {e : EltTy} (f : Vec F S16 e) (idx : IVec S16 32) : Vec F S16 e :=
  fun x => f fun a => ⟨(idx x).toNat % 16, by obtain rfl : a = 0 := Subsingleton.elim _ _; exact Nat.mod_lt _ (by decide)⟩

/-- `f'` is `f` with the masked lanes of `v` scattered to the words `idx` names, all of which are in range. -/
def Upd {s : Shape} {e : EltTy} (f : Vec F s e) (idx : Fin s.rank → IVec S16 32) (v : Vec F S16 e) (m : IVec S16 1) (f' : Vec F s e) : Prop :=
  ∃ h : ∀ a x, (idx a x).toNat < s.size a, f' = storeIdx f idx v m false h

theorem loadIdx_eq_gat {e : EltTy} (f : Vec F S16 e) (idx : IVec S16 32) (h : ∀ a x, ((![idx] : Fin 1 → IVec S16 32) a x).toNat < S16.size a) :
    loadIdx (s := S16) f ![idx] h = gat f idx := by
  funext x
  show f _ = f _
  congr 1
  funext a
  apply Fin.ext
  obtain rfl : a = 0 := Subsingleton.elim _ _
  exact (Nat.mod_eq_of_lt (h 0 x)).symm

/-- Holding `f` whole in the buffer `b`, aside from `R`: a load's step. -/
theorem load_step {cs : CoreSpace} {s' : Shape} {e : EltTy} {m : Memref sig .scVector cs s' e} {r : LoadRect s'}
    {hl : m.view.LoadsAt r} {k : (r.shape.Idx → Elt F e) → Pg (F := F) i α} {f : Buf (Elt F) (m.view.loc (thr d i))}
    (ho : Own d i c s ⊢ iprop((m.view.loc (thr d i) ↦{fullShare} f) ∗ ((m.view.loc (thr d i) ↦{fullShare} f) -∗ Own d i c s)))
    (h : Runs d i c s (k (m.view.readAt (Elt F) r f)) Φ) : Runs d i c s (Prog.lift (.load m r hl) >>= k) Φ := by
  refine BIBase.Entails.trans ho ?_
  iintro ⟨H, Hc⟩
  iapply (wp_load (defs := defs₀ (F := F)) 𝒱₀ (thr d i) none Set.univ (m := m) (r := r) (hl := hl) (k := k) (f := f) (q := fullShare)
    (S := Finset.univ) (Finset.subset_univ _)) $$ H
  iintro H
  ihave H := Hc $$ H
  iapply (show Own d i c _ ⊢ _ from h)
  iexact H

theorem store_step {cs : CoreSpace} {s' : Shape} {e : EltTy} {m : Memref sig .scVector cs s' e} {r : Rect s'} {w : r.shape.Idx → Elt F e}
    {hx : (m.access r).Stores Finset.univ} {hm : (Finset.univ : Finset r.shape.Idx) = Finset.univ ∨ ∀ a, r.stride a = 1}
    {k : PUnit → Pg (F := F) i α} {f f' : Buf (Elt F) (m.view.loc (thr d i))} {s₁ : Mem F}
    (hw : (m.access r).write (Elt F) f w Finset.univ = f')
    (ho : Own d i c s ⊢ iprop((m.view.loc (thr d i) ↦{fullShare} f) ∗ ((m.view.loc (thr d i) ↦{fullShare} f') -∗ Own d i c s₁)))
    (h : Runs d i c s₁ (k ⟨⟩) Φ) : Runs d i c s (Prog.lift (.store m r w Finset.univ hx hm) >>= k) Φ := by
  subst hw
  refine BIBase.Entails.trans ho ?_
  iintro ⟨H, Hc⟩
  iapply (wp_store (defs := defs₀ (F := F)) 𝒱₀ (thr d i) none Set.univ (m := m) (r := r) (w := w) (hx := hx) (hm := hm) (k := k) (f := f)
    (S := Finset.univ) (Finset.subset_univ _)) $$ H
  iintro H
  ihave H := Hc $$ H
  iapply (show Own d i c _ ⊢ _ from h)
  iexact H

theorem gather_step {s' t : Shape} {e : EltTy} {m : Memref sig .scVector .vmem s' e} {idxs : Fin s'.rank → IVec t 32}
    {hi : ∀ a x, (idxs a x).toNat < s'.size a} {hl : m.view.Loads} {k : Vec F t e → Pg (F := F) i α} {f : Buf (Elt F) (m.view.loc (thr d i))}
    (ho : Own d i c s ⊢ iprop((m.view.loc (thr d i) ↦{fullShare} f) ∗ ((m.view.loc (thr d i) ↦{fullShare} f) -∗ Own d i c s)))
    (h : Runs d i c s (k (loadIdx ((m.access (.whole s')).read (Elt F) f) idxs hi)) Φ) :
    Runs d i c s (SparseCore.vectorLoadIdx m idxs hi hl >>= k) Φ := by
  refine BIBase.Entails.trans ho ?_
  iintro ⟨H, Hc⟩
  iapply (SparseCore.wp_vectorLoadIdx (defs := defs₀ (F := F)) 𝒱₀ (thr d i) none Set.univ (base := m) (idxs := idxs) (h := hi) (hl := hl) (k := k)
    (f := f) (q := fullShare) (S := Finset.univ) (Finset.subset_univ _)) $$ H
  iintro H
  ihave H := Hc $$ H
  iapply (show Own d i c _ ⊢ _ from h)
  iexact H

theorem scatter_step {s' : Shape} {e : EltTy} {m : Memref sig .scVector .vmem s' e} {idxs : Fin s'.rank → IVec S16 32} {v : Vec F S16 e}
    {mask : IVec S16 1} {hi : ∀ a x, (idxs a x).toNat < s'.size a} {hs : (m.access (.whole s')).Stores Finset.univ}
    {k : PUnit → Pg (F := F) i α} {f f' : Buf (Elt F) (m.view.loc (thr d i))} {s₁ : Mem F}
    (hw : (m.access (.whole s')).write (Elt F) f (storeIdx ((m.access (.whole s')).read (Elt F) f) idxs v mask false hi) Finset.univ = f')
    (ho : Own d i c s ⊢ iprop((m.view.loc (thr d i) ↦{fullShare} f) ∗ ((m.view.loc (thr d i) ↦{fullShare} f') -∗ Own d i c s₁)))
    (h : Runs d i c s₁ (k ⟨⟩) Φ) : Runs d i c s (SparseCore.vectorStoreIdx m idxs v mask false hi hs >>= k) Φ := by
  show Own d i c s ⊢ wp frame (wpE (defs₀ (F := F)) 𝒱₀ (thr d i) none) Set.univ
    (.op (.load m (.whole s') (View.loadsAt_rect hs.loads)) fun f' => .op (.store m (.whole s') (storeIdx f' idxs v mask false hi) Finset.univ hs (.inl rfl)) k) _
  subst hw
  refine BIBase.Entails.trans ho ?_
  iintro ⟨H, Hc⟩
  iapply (wp_load_rect (defs := defs₀ (F := F)) 𝒱₀ (thr d i) none Set.univ (m := m) (r := Rect.whole s') (hl := View.loadsAt_rect hs.loads)
    (k := fun f' => .op (.store m (.whole s') (storeIdx f' idxs v mask false hi) Finset.univ hs (.inl rfl)) k)
    (q := fullShare) (f := f) (S := Finset.univ) (Finset.subset_univ _)) $$ H
  iintro H
  iapply (wp_store (defs := defs₀ (F := F)) 𝒱₀ (thr d i) none Set.univ (m := m) (r := .whole s') (Mk := Finset.univ)
    (hx := hs) (hm := .inl rfl) (k := k) (f := f) (S := Finset.univ) (Finset.subset_univ _)) $$ H
  iintro H
  ihave H := Hc $$ H
  iapply (show Own d i c _ ⊢ _ from h)
  iexact H

theorem focus_hd {A A' R : sProp 𝕄} : iprop(A ∗ R) ⊢ iprop(A ∗ (A' -∗ (A' ∗ R))) := by
  iintro ⟨H, Hr⟩
  isplitl [H]
  · iexact H
  · iintro H
    isplitl [H]
    · iexact H
    · iexact Hr

theorem focus_last {A A' : sProp 𝕄} : A ⊢ iprop(A ∗ (A' -∗ A')) := by
  iintro H
  isplitl [H]
  · iexact H
  · iintro H
    iexact H

theorem focus_tl {A A' B R R' : sProp 𝕄} (h : R ⊢ iprop(A ∗ (A' -∗ R'))) : iprop(B ∗ R) ⊢ iprop(A ∗ (A' -∗ (B ∗ R'))) := by
  iintro ⟨Hb, Hr⟩
  ihave Hr := h $$ Hr
  icases Hr with ⟨HA, Hr⟩
  isplitl [HA]
  · iexact HA
  · iintro HA
    isplitl [Hb]
    · iexact Hb
    · iapply Hr
      iexact HA

theorem own_bd (f' : Vec F S224 .f32) : Own d i c ⟨bd, bi, ob, tf, ti⟩ ⊢ iprop(pts d i (b := cc0_scratch7) bd
    ∗ (pts d i (b := cc0_scratch7) f' -∗ Own d i c ⟨f', bi, ob, tf, ti⟩)) := by
  unfold Own
  dsimp only
  iterate 7 refine focus_tl ?_
  exact focus_hd

theorem own_bi (f' : Vec F S224 .i32) : Own d i c ⟨bd, bi, ob, tf, ti⟩ ⊢ iprop(pts d i (b := cc0_scratch8) bi
    ∗ (pts d i (b := cc0_scratch8) f' -∗ Own d i c ⟨bd, f', ob, tf, ti⟩)) := by
  unfold Own
  dsimp only
  iterate 8 refine focus_tl ?_
  exact focus_hd

theorem own_ob (f' : Vec F S8192 .i32) : Own d i c ⟨bd, bi, ob, tf, ti⟩ ⊢ iprop(pts d i (b := cc0_scratch9) ob
    ∗ (pts d i (b := cc0_scratch9) f' -∗ Own d i c ⟨bd, bi, f', tf, ti⟩)) := by
  unfold Own
  dsimp only
  iterate 9 refine focus_tl ?_
  exact focus_hd

theorem own_tf (f' : Vec F S16 .f32) : Own d i c ⟨bd, bi, ob, tf, ti⟩ ⊢ iprop(pts d i (b := cc0_scratch10) tf
    ∗ (pts d i (b := cc0_scratch10) f' -∗ Own d i c ⟨bd, bi, ob, f', ti⟩)) := by
  unfold Own
  dsimp only
  iterate 10 refine focus_tl ?_
  exact focus_hd

theorem own_ti (f' : Vec F S16 .i32) : Own d i c ⟨bd, bi, ob, tf, ti⟩ ⊢ iprop(pts d i (b := cc0_scratch11) ti
    ∗ (pts d i (b := cc0_scratch11) f' -∗ Own d i c ⟨bd, bi, ob, tf, f'⟩)) := by
  unfold Own
  dsimp only
  iterate 11 refine focus_tl ?_
  exact focus_last

theorem Runs.load_x {r : LoadRect S4096} {hl : (xV).view.LoadsAt r} {k : (r.shape.Idx → Elt F .f32) → Pg (F := F) i α}
    (h : Runs d i c s (k (rd r c.x)) Φ) : Runs d i c s (Prog.lift (.load xV r hl) >>= k) Φ :=
  load_step (f := c.x) (focus_hd) h

theorem Runs.load_y {r : LoadRect S4096} {hl : (yV).view.LoadsAt r} {k : (r.shape.Idx → Elt F .f32) → Pg (F := F) i α}
    (h : Runs d i c s (k (rd r c.y)) Φ) : Runs d i c s (Prog.lift (.load yV r hl) >>= k) Φ :=
  load_step (f := c.y) (focus_tl (focus_hd)) h

theorem Runs.load_z {r : LoadRect S4096} {hl : (zV).view.LoadsAt r} {k : (r.shape.Idx → Elt F .f32) → Pg (F := F) i α}
    (h : Runs d i c s (k (rd r c.z)) Φ) : Runs d i c s (Prog.lift (.load zV r hl) >>= k) Φ :=
  load_step (f := c.z) (focus_tl (focus_tl (focus_hd))) h

theorem Runs.load_x2 {r : LoadRect S4096} {hl : (x2V).view.LoadsAt r} {k : (r.shape.Idx → Elt F .f32) → Pg (F := F) i α}
    (h : Runs d i c s (k (rd r c.x2)) Φ) : Runs d i c s (Prog.lift (.load x2V r hl) >>= k) Φ :=
  load_step (f := c.x2) (focus_tl (focus_tl (focus_tl (focus_hd)))) h

theorem Runs.load_y2 {r : LoadRect S4096} {hl : (y2V).view.LoadsAt r} {k : (r.shape.Idx → Elt F .f32) → Pg (F := F) i α}
    (h : Runs d i c s (k (rd r c.y2)) Φ) : Runs d i c s (Prog.lift (.load y2V r hl) >>= k) Φ :=
  load_step (f := c.y2) (focus_tl (focus_tl (focus_tl (focus_tl (focus_hd))))) h

theorem Runs.load_z2 {r : LoadRect S4096} {hl : (z2V).view.LoadsAt r} {k : (r.shape.Idx → Elt F .f32) → Pg (F := F) i α}
    (h : Runs d i c s (k (rd r c.z2)) Φ) : Runs d i c s (Prog.lift (.load z2V r hl) >>= k) Φ :=
  load_step (f := c.z2) (focus_tl (focus_tl (focus_tl (focus_tl (focus_tl (focus_hd)))))) h

theorem Runs.load_cs {r : LoadRect S4096} {hl : (csV).view.LoadsAt r} {k : (r.shape.Idx → Elt F .f32) → Pg (F := F) i α}
    (h : Runs d i c s (k (rd r c.cs)) Φ) : Runs d i c s (Prog.lift (.load csV r hl) >>= k) Φ :=
  load_step (f := c.cs) (focus_tl (focus_tl (focus_tl (focus_tl (focus_tl (focus_tl (focus_hd))))))) h

theorem Runs.load_bd {r : LoadRect S224} {hl : (bdV).view.LoadsAt r} {k : (r.shape.Idx → Elt F .f32) → Pg (F := F) i α}
    (h : Runs d i c ⟨bd, bi, ob, tf, ti⟩ (k (rd r bd)) Φ) : Runs d i c ⟨bd, bi, ob, tf, ti⟩ (Prog.lift (.load bdV r hl) >>= k) Φ :=
  load_step (f := bd) (own_bd _) h

theorem Runs.load_bi {r : LoadRect S224} {hl : (biV).view.LoadsAt r} {k : (r.shape.Idx → Elt F .i32) → Pg (F := F) i α}
    (h : Runs d i c ⟨bd, bi, ob, tf, ti⟩ (k (rd r bi)) Φ) : Runs d i c ⟨bd, bi, ob, tf, ti⟩ (Prog.lift (.load biV r hl) >>= k) Φ :=
  load_step (f := bi) (own_bi _) h

theorem Runs.load_ob {r : LoadRect S8192} {hl : (obV).view.LoadsAt r} {k : (r.shape.Idx → Elt F .i32) → Pg (F := F) i α}
    (h : Runs d i c ⟨bd, bi, ob, tf, ti⟩ (k (rd r ob)) Φ) : Runs d i c ⟨bd, bi, ob, tf, ti⟩ (Prog.lift (.load obV r hl) >>= k) Φ :=
  load_step (f := ob) (own_ob _) h

theorem Runs.load_tf {hl : (tfV).view.LoadsAt (Rect.unit (s := S16) ![0] S16.size inb_S16_S16_0).toLoadRect} {k : (S16.Idx → Elt F .f32) → Pg (F := F) i α}
    (h : Runs d i c ⟨bd, bi, ob, tf, ti⟩ (k tf) Φ) :
    Runs d i c ⟨bd, bi, ob, tf, ti⟩ (Prog.lift (.load tfV (Rect.unit (s := S16) ![0] S16.size inb_S16_S16_0).toLoadRect hl) >>= k) Φ := by
  refine load_step (f := tf) (own_tf _) ?_
  have e := Memref.readAt_unit_zero (Elt F) cc0_scratch10 (off := ![0]) (funext fun a => by fin_cases a; rfl) inb_S16_S16_0 tf
  exact (congrArg (fun w => Runs d i c ⟨bd, bi, ob, tf, ti⟩ (k w) Φ) e).mpr h

theorem Runs.store_tf {w : S16.Idx → Elt F .f32} {hx : ((tfV).access (Rect.unit (s := S16) ![0] S16.size inb_S16_S16_0)).Stores Finset.univ}
    {hm : (Finset.univ : Finset S16.Idx) = Finset.univ ∨ ∀ a, (Rect.unit (s := S16) ![0] S16.size inb_S16_S16_0).stride a = 1} {k : PUnit → Pg (F := F) i α}
    (h : Runs d i c ⟨bd, bi, ob, w, ti⟩ (k ⟨⟩) Φ) :
    Runs d i c ⟨bd, bi, ob, tf, ti⟩ (Prog.lift (.store tfV (Rect.unit (s := S16) ![0] S16.size inb_S16_S16_0) w Finset.univ hx hm) >>= k) Φ := by
  exact store_step (f := tf) (f' := w)
    (Memref.write_access_unit_zero_univ (Elt F) cc0_scratch10 (off := ![0]) (funext fun a => by fin_cases a; rfl) inb_S16_S16_0 tf w)
    (own_tf w) h

theorem Runs.gather_tf {idx : IVec S16 32} {hi : ∀ a x, ((![idx] : Fin 1 → IVec S16 32) a x).toNat < S16.size a} {hl : (tfV).view.Loads}
    {k : Vec F S16 .f32 → Pg (F := F) i α} (h : Runs d i c ⟨bd, bi, ob, tf, ti⟩ (k (gat tf idx)) Φ) :
    Runs d i c ⟨bd, bi, ob, tf, ti⟩ (SparseCore.vectorLoadIdx tfV ![idx] hi hl >>= k) Φ := by
  refine gather_step (f := tf) (own_tf _) ?_
  have e : loadIdx ((tfV).access (.whole S16) |>.read (Elt F) tf) ![idx] hi = gat tf idx :=
    (congrArg (fun w => loadIdx w ![idx] hi) (Memref.read_access_whole (Elt F) cc0_scratch10 tf)).trans (loadIdx_eq_gat _ _ hi)
  exact (congrArg (fun w => Runs d i c ⟨bd, bi, ob, tf, ti⟩ (k w) Φ) e).mpr h

theorem Runs.load_ti {hl : (tiV).view.LoadsAt (Rect.unit (s := S16) ![0] S16.size inb_S16_S16_0).toLoadRect} {k : (S16.Idx → Elt F .i32) → Pg (F := F) i α}
    (h : Runs d i c ⟨bd, bi, ob, tf, ti⟩ (k ti) Φ) :
    Runs d i c ⟨bd, bi, ob, tf, ti⟩ (Prog.lift (.load tiV (Rect.unit (s := S16) ![0] S16.size inb_S16_S16_0).toLoadRect hl) >>= k) Φ := by
  refine load_step (f := ti) (own_ti _) ?_
  have e := Memref.readAt_unit_zero (Elt F) cc0_scratch11 (off := ![0]) (funext fun a => by fin_cases a; rfl) inb_S16_S16_0 ti
  exact (congrArg (fun w => Runs d i c ⟨bd, bi, ob, tf, ti⟩ (k w) Φ) e).mpr h

theorem Runs.store_ti {w : S16.Idx → Elt F .i32} {hx : ((tiV).access (Rect.unit (s := S16) ![0] S16.size inb_S16_S16_0)).Stores Finset.univ}
    {hm : (Finset.univ : Finset S16.Idx) = Finset.univ ∨ ∀ a, (Rect.unit (s := S16) ![0] S16.size inb_S16_S16_0).stride a = 1} {k : PUnit → Pg (F := F) i α}
    (h : Runs d i c ⟨bd, bi, ob, tf, w⟩ (k ⟨⟩) Φ) :
    Runs d i c ⟨bd, bi, ob, tf, ti⟩ (Prog.lift (.store tiV (Rect.unit (s := S16) ![0] S16.size inb_S16_S16_0) w Finset.univ hx hm) >>= k) Φ := by
  exact store_step (f := ti) (f' := w)
    (Memref.write_access_unit_zero_univ (Elt F) cc0_scratch11 (off := ![0]) (funext fun a => by fin_cases a; rfl) inb_S16_S16_0 ti w)
    (own_ti w) h

theorem Runs.gather_ti {idx : IVec S16 32} {hi : ∀ a x, ((![idx] : Fin 1 → IVec S16 32) a x).toNat < S16.size a} {hl : (tiV).view.Loads}
    {k : Vec F S16 .i32 → Pg (F := F) i α} (h : Runs d i c ⟨bd, bi, ob, tf, ti⟩ (k (gat ti idx)) Φ) :
    Runs d i c ⟨bd, bi, ob, tf, ti⟩ (SparseCore.vectorLoadIdx tiV ![idx] hi hl >>= k) Φ := by
  refine gather_step (f := ti) (own_ti _) ?_
  have e : loadIdx ((tiV).access (.whole S16) |>.read (Elt F) ti) ![idx] hi = gat ti idx :=
    (congrArg (fun w => loadIdx w ![idx] hi) (Memref.read_access_whole (Elt F) cc0_scratch11 ti)).trans (loadIdx_eq_gat _ _ hi)
  exact (congrArg (fun w => Runs d i c ⟨bd, bi, ob, tf, ti⟩ (k w) Φ) e).mpr h

theorem Runs.scatter_bd {idx : IVec S16 32} {v : Vec F S16 .f32} {mask : IVec S16 1}
    {hi : ∀ a x, ((![idx] : Fin 1 → IVec S16 32) a x).toNat < S224.size a} {hs : ((bdV).access (.whole S224)).Stores Finset.univ}
    {k : PUnit → Pg (F := F) i α} (h : ∀ f', Upd bd ![idx] v mask f' → Runs d i c ⟨f', bi, ob, tf, ti⟩ (k ⟨⟩) Φ) :
    Runs d i c ⟨bd, bi, ob, tf, ti⟩ (SparseCore.vectorStoreIdx bdV ![idx] v mask false hi hs >>= k) Φ := by
  exact scatter_step (f := bd) (f' := storeIdx bd ![idx] v mask false hi)
    ((Memref.write_access_whole_univ (Elt F) cc0_scratch7 _ _).trans
      (congrArg (fun w => storeIdx w ![idx] v mask false hi) (Memref.read_access_whole (Elt F) cc0_scratch7 bd)))
    (own_bd _) (h _ ⟨hi, rfl⟩)

theorem Runs.scatter_bi {idx : IVec S16 32} {v : Vec F S16 .i32} {mask : IVec S16 1}
    {hi : ∀ a x, ((![idx] : Fin 1 → IVec S16 32) a x).toNat < S224.size a} {hs : ((biV).access (.whole S224)).Stores Finset.univ}
    {k : PUnit → Pg (F := F) i α} (h : ∀ f', Upd bi ![idx] v mask f' → Runs d i c ⟨bd, f', ob, tf, ti⟩ (k ⟨⟩) Φ) :
    Runs d i c ⟨bd, bi, ob, tf, ti⟩ (SparseCore.vectorStoreIdx biV ![idx] v mask false hi hs >>= k) Φ := by
  exact scatter_step (f := bi) (f' := storeIdx bi ![idx] v mask false hi)
    ((Memref.write_access_whole_univ (Elt F) cc0_scratch8 _ _).trans
      (congrArg (fun w => storeIdx w ![idx] v mask false hi) (Memref.read_access_whole (Elt F) cc0_scratch8 bi)))
    (own_bi _) (h _ ⟨hi, rfl⟩)

theorem Runs.scatter_tf {idx : IVec S16 32} {v : Vec F S16 .f32} {mask : IVec S16 1}
    {hi : ∀ a x, ((![idx] : Fin 1 → IVec S16 32) a x).toNat < S16.size a} {hs : ((tfV).access (.whole S16)).Stores Finset.univ}
    {k : PUnit → Pg (F := F) i α} (h : ∀ f', Upd tf ![idx] v mask f' → Runs d i c ⟨bd, bi, ob, f', ti⟩ (k ⟨⟩) Φ) :
    Runs d i c ⟨bd, bi, ob, tf, ti⟩ (SparseCore.vectorStoreIdx tfV ![idx] v mask false hi hs >>= k) Φ := by
  exact scatter_step (f := tf) (f' := storeIdx tf ![idx] v mask false hi)
    ((Memref.write_access_whole_univ (Elt F) cc0_scratch10 _ _).trans
      (congrArg (fun w => storeIdx w ![idx] v mask false hi) (Memref.read_access_whole (Elt F) cc0_scratch10 tf)))
    (own_tf _) (h _ ⟨hi, rfl⟩)

theorem Runs.scatter_ti {idx : IVec S16 32} {v : Vec F S16 .i32} {mask : IVec S16 1}
    {hi : ∀ a x, ((![idx] : Fin 1 → IVec S16 32) a x).toNat < S16.size a} {hs : ((tiV).access (.whole S16)).Stores Finset.univ}
    {k : PUnit → Pg (F := F) i α} (h : ∀ f', Upd ti ![idx] v mask f' → Runs d i c ⟨bd, bi, ob, tf, f'⟩ (k ⟨⟩) Φ) :
    Runs d i c ⟨bd, bi, ob, tf, ti⟩ (SparseCore.vectorStoreIdx tiV ![idx] v mask false hi hs >>= k) Φ := by
  exact scatter_step (f := ti) (f' := storeIdx ti ![idx] v mask false hi)
    ((Memref.write_access_whole_univ (Elt F) cc0_scratch11 _ _).trans
      (congrArg (fun w => storeIdx w ![idx] v mask false hi) (Memref.read_access_whole (Elt F) cc0_scratch11 ti)))
    (own_ti _) (h _ ⟨hi, rfl⟩)

end Rules

end Cert.Proof.Knn
-- ==== Proof.Sort.lean ====
/-
  The computation's vocabulary, over any float values: the rank of a lane among a register's keys, one register sorted
  (`SortR`), two sorted registers merged (`MergeR`), the candidate buffer's blocks merged (`Tour`) and the best sixteen
  brought up to date with them (`FlushR`) — each as a relation between what is read and what is left, and the rule for the
  loop that computes the ranks.
-/
module

public import proofs.«01_k».proof.Proof.Runs

@[expose] public section

noncomputable section

namespace Cert.Proof.Knn

open Cert.KernelIdeal Cert.KernelIdeal.Gen

open Idealize.ShloMosaic
open Idealize.SL.Sem

variable {F : FTy → Type} [FloatOps F]

/-- The lanes' numbers. -/
abbrev lanes : IVec S16 32 := iota .scVector S16 32 [0] iota_S16_d0_w32_scVector

/-- One trip of the rank computation: lane `l` counts the key of lane `n = iv` if it is smaller than its own, or equal and
    of a lower lane. -/
def rankStep (key : FVec F S16 .f32) (iv : BitVec 32) (acc : IVec S16 32) : IVec S16 32 :=
  addi acc (extui 32 (ori
    (andi (cmpi .sgt lanes (broadcast S16 iv)) (cmpf .ole (gat (F := F) (e := .f32) key (broadcast S16 iv)) key))
    (andi (cmpi .slt lanes (broadcast S16 iv)) (cmpf .olt (gat (F := F) (e := .f32) key (broadcast S16 iv)) key))) natLt_1_32)

def rankTo (key : FVec F S16 .f32) : ℕ → IVec S16 32
  | 0 => broadcast S16 0#32
  | n + 1 => rankStep key (Scf.iv 0#32 1#32 n) (rankTo key n)

/-- The keys' ranks: of each lane, how many keys come before its own. -/
def rankV (key : FVec F S16 .f32) : IVec S16 32 := rankTo key 16

/-- The sixteen keys of a block at positions `off + lane`, those at or past `pos` replaced by infinity. -/
def maskB (off pos : BitVec 32) (v : Vec F S16 .f32) : Vec F S16 .f32 :=
  select (cmpi .slt (addi lanes (broadcast S16 off)) (broadcast S16 pos)) v (broadcast S16 (Scalar.ofBits .f32 0x7F800000#32))

/-- Lanes in reverse. -/
abbrev rev : IVec S16 32 := subi (broadcast S16 15#32) lanes

def mergeKey (a b : Vec F S16 .f32) : Vec F S16 .f32 := select (cmpf .olt b a) b a
def mergeIdx (a b : Vec F S16 .f32) (ai bi : Vec F S16 .i32) : Vec F S16 .i32 := select (cmpf .olt b a) bi ai

abbrev ones : IVec S16 1 := fun _ => 1#1

/-- `k'`, `v'`: keys `k` and values `v` moved to their keys' ranks. -/
def SortR (k : Vec F S16 .f32) (v : Vec F S16 .i32) (k' : Vec F S16 .f32) (v' : Vec F S16 .i32) : Prop :=
  (∃ tf, Upd (s := S16) tf ![rankV k] k ones k') ∧ ∃ ti : Vec F S16 .i32, Upd (s := S16) ti ![rankV k] v ones v'

/-- `k'`, `v'`: the sixteen smallest keys, with their values, of the sorted `a` and `b`. -/
def MergeR (a : Vec F S16 .f32) (ai : Vec F S16 .i32) (b : Vec F S16 .f32) (bi : Vec F S16 .i32)
    (k' : Vec F S16 .f32) (v' : Vec F S16 .i32) : Prop :=
  SortR (mergeKey a (gat b rev)) (mergeIdx a (gat b rev) ai (gat bi rev)) k' v'

/-- The blocks of the candidate buffer at positions `lo` to `hi`, sorted and merged. -/
inductive Tour (bd : Vec F S224 .f32) (bi : Vec F S224 .i32) (pos : BitVec 32) : ℕ → ℕ → Vec F S16 .f32 → Vec F S16 .i32 → Prop
  | leaf (n : ℕ) (inb : ∀ a, (![n] : Fin 1 → ℕ) a + S16.size a ≤ S224.size a) {k' : Vec F S16 .f32} {v' : Vec F S16 .i32}
      (h : SortR (maskB (BitVec.ofNat 32 n) pos (rd (Rect.unit (s := S224) ![n] S16.size inb).toLoadRect bd))
        (rd (Rect.unit (s := S224) ![n] S16.size inb).toLoadRect bi) k' v') : Tour bd bi pos n (n + 16) k' v'
  | node {lo mid hi : ℕ} {a b k' : Vec F S16 .f32} {ai bi' v' : Vec F S16 .i32} (h : MergeR a ai b bi' k' v')
      (ha : Tour bd bi pos lo mid a ai) (hb : Tour bd bi pos mid hi b bi') : Tour bd bi pos lo hi k' v'

/-- The best sixteen `tv`, `tx` brought up to date with the first `pos` words of the candidate buffer. -/
def FlushR (bd : Vec F S224 .f32) (bi : Vec F S224 .i32) (pos : BitVec 32) (tv : Vec F S16 .f32) (tx : Vec F S16 .i32)
    (tv' : Vec F S16 .f32) (tx' : Vec F S16 .i32) : Prop :=
  ∃ k v, MergeR tv tx k v tv' tx' ∧ Tour bd bi pos 0 192 k v

theorem Tour.leaf' {bd : Vec F S224 .f32} {bi : Vec F S224 .i32} {pos : BitVec 32} {k' : Vec F S16 .f32} {v' : Vec F S16 .i32} {n : ℕ}
    {tf K : Vec F S16 .f32} {ti V : Vec F S16 .i32} {r r' : IVec S16 32} (inb : ∀ a, (![n] : Fin 1 → ℕ) a + S16.size a ≤ S224.size a)
    (h₁ : Upd (s := S16) tf ![r] K ones k') (h₂ : Upd (s := S16) ti ![r'] V ones v') (hr : r = rankV K) (hr' : r' = rankV K)
    (hK : K = maskB (BitVec.ofNat 32 n) pos (rd (Rect.unit (s := S224) ![n] S16.size inb).toLoadRect bd))
    (hV : V = rd (Rect.unit (s := S224) ![n] S16.size inb).toLoadRect bi) : Tour bd bi pos n (n + 16) k' v' := by
  subst hr hr' hK hV; exact .leaf n inb ⟨⟨_, h₁⟩, ⟨_, h₂⟩⟩

theorem Tour.node' {bd : Vec F S224 .f32} {bi : Vec F S224 .i32} {pos : BitVec 32} {lo mid hi : ℕ} {a b k' : Vec F S16 .f32}
    {ai bi' v' : Vec F S16 .i32} {tf K : Vec F S16 .f32} {ti V : Vec F S16 .i32} {r r' : IVec S16 32}
    (h₁ : Upd (s := S16) tf ![r] K ones k') (h₂ : Upd (s := S16) ti ![r'] V ones v') (hr : r = rankV K) (hr' : r' = rankV K)
    (hK : K = mergeKey a (gat b rev)) (hV : V = mergeIdx a (gat b rev) ai (gat bi' rev))
    (ha : Tour bd bi pos lo mid a ai) (hb : Tour bd bi pos mid hi b bi') : Tour bd bi pos lo hi k' v' := by
  subst hr hr' hK hV; exact .node ⟨⟨_, h₁⟩, ⟨_, h₂⟩⟩ ha hb

theorem FlushR.mk' {bd : Vec F S224 .f32} {bi : Vec F S224 .i32} {pos : BitVec 32} {a b k' : Vec F S16 .f32}
    {ai bi' v' : Vec F S16 .i32} {tf K : Vec F S16 .f32} {ti V : Vec F S16 .i32} {r r' : IVec S16 32}
    (h₁ : Upd (s := S16) tf ![r] K ones k') (h₂ : Upd (s := S16) ti ![r'] V ones v') (hr : r = rankV K) (hr' : r' = rankV K)
    (hK : K = mergeKey a (gat b rev)) (hV : V = mergeIdx a (gat b rev) ai (gat bi' rev))
    (hb : Tour bd bi pos 0 192 b bi') : FlushR bd bi pos a ai k' v' := by
  subst hr hr' hK hV; exact ⟨_, _, ⟨⟨_, h₁⟩, ⟨_, h₂⟩⟩, hb⟩

/-! ## Words that index a register -/

theorem inb_of_lt {n : ℕ} {idx : IVec S16 32} (h : ∀ x, (idx x).toNat < n) :
    ∀ a x, ((![idx] : Fin 1 → IVec S16 32) a x).toNat < (⟨1, ![n]⟩ : Shape).size a := by
  intro a x
  obtain rfl : a = 0 := Subsingleton.elim _ _
  exact h x

theorem iv_toNat (n : ℕ) (h : n < 16) : (Scf.iv 0#32 1#32 n).toNat = n := by
  simp [Scf.iv, BitVec.toNat_ofNat]
  omega

theorem iv_lt {n : ℕ} (h : n < 16) : ∀ x, ((broadcast S16 (Scf.iv 0#32 1#32 n) : IVec S16 32) x).toNat < 16 :=
  fun _ => by show (Scf.iv 0#32 1#32 n).toNat < 16; rw [iv_toNat n h]; exact h

section Rules

variable {d : Idealize.ShloMosaic.Dev nD} {i : grid0.Coords}
variable {α β : Type} {c : Coords F} {bd : Vec F S224 .f32} {bi : Vec F S224 .i32} {ob : Vec F S8192 .i32}
  {key : Vec F S16 .f32} {ti : Vec F S16 .i32} {Φ : α → Mem F → Prop}

/-- The loop that ranks the keys in the one-register scratch. -/
theorem Runs.rank {l : Scf.Loop 32} {hok : l.OK} {init : IVec S16 32} {body : Fin l.trips → IVec S16 32 → Pg (F := F) i (IVec S16 32)}
    {k : IVec S16 32 → Pg (F := F) i α} (hl : l.trips = 16) (hi : init = broadcast S16 0#32)
    (hb : ∀ (n : Fin l.trips) acc (Ψ : IVec S16 32 → Mem F → Prop), n.val < 16 → Ψ (rankStep key (Scf.iv 0#32 1#32 n) acc) ⟨bd, bi, ob, key, ti⟩ →
      Runs d i c ⟨bd, bi, ob, key, ti⟩ (body n acc) Ψ)
    (h : Runs d i c ⟨bd, bi, ob, key, ti⟩ (k (rankV key)) Φ) :
    Runs d i c ⟨bd, bi, ob, key, ti⟩ (Scf.Loop.for l hok init body >>= k) Φ := by
  refine Runs.loop (fun n b s => b = rankTo key n ∧ s = ⟨bd, bi, ob, key, ti⟩) ⟨hi, rfl⟩ ?_ ?_
  · rintro n b s ⟨rfl, rfl⟩
    exact hb n _ _ (hl ▸ n.isLt) ⟨rfl, rfl⟩
  · rintro b s ⟨hb', rfl⟩
    obtain rfl : b = rankV key := by rw [hb', hl]; rfl
    exact h

end Rules

end Cert.Proof.Knn
-- ==== Proof.Words.lean ====
/-
  The words a register operation leaves, lane by lane: what a scatter writes, and how many masked lanes a prefix sum counts.
-/
module

public import proofs.«01_k».proof.Proof.Sort

@[expose] public section

noncomputable section

namespace Cert.Proof.Knn

open Cert.KernelIdeal Cert.KernelIdeal.Gen

open Idealize.ShloMosaic

variable {F : FTy → Type} [FloatOps F]

/-- Lane `k` of a register. -/
abbrev ln (k : Fin 16) : S16.Idx := Shape.ofLane (d := ![16]) k

theorem eq_ln (x : S16.Idx) : x = ln (x 0) := by
  funext a
  obtain rfl : a = 0 := Subsingleton.elim _ _
  rfl

@[simp] theorem ln_zero (k : Fin 16) : (ln k) 0 = k := rfl

/-- The word at position `p` of a rank-one array. -/
def wd {n : ℕ} {e : EltTy} (f : Vec F ⟨1, ![n]⟩ e) (p : Fin n) : Elt F e := f fun a => p.cast (by obtain rfl : a = 0 := Subsingleton.elim _ _; rfl)

theorem wd_S16 {e : EltTy} (f : Vec F S16 e) (k : Fin 16) : wd (n := 16) f k = f (ln k) := rfl

section Fold

variable {n : ℕ} {e : EltTy} {v : Vec F S16 e} {m : IVec S16 1} {t : Fin 16 → (⟨1, ![n]⟩ : Shape).Idx}
  {st : Vec F ⟨1, ![n]⟩ e → Fin 16 → Vec F ⟨1, ![n]⟩ e}

private theorem fold_miss (h₀ : ∀ g k, m (ln k) ≠ 1 → st g k = g) (h₁ : ∀ g k j, m (ln k) = 1 → j ≠ t k → st g k j = g j)
    (j : (⟨1, ![n]⟩ : Shape).Idx) : ∀ (l : List (Fin 16)) (g : Vec F ⟨1, ![n]⟩ e),
    (∀ k ∈ l, m (ln k) = 1 → j ≠ t k) → l.foldl st g j = g j := by
  intro l
  induction l with
  | nil => intros; rfl
  | cons k l ih =>
    intro g h
    rw [List.foldl_cons, ih _ fun k' hk' => h k' (List.mem_cons_of_mem _ hk')]
    by_cases hm : m (ln k) = 1
    · exact h₁ g k j hm (h k List.mem_cons_self hm)
    · rw [h₀ g k hm]

private theorem fold_hit (h₀ : ∀ g k, m (ln k) ≠ 1 → st g k = g) (h₁ : ∀ g k j, m (ln k) = 1 → j ≠ t k → st g k j = g j)
    (h₂ : ∀ g k, m (ln k) = 1 → st g k (t k) = v (ln k))
    (k : Fin 16) (hk : m (ln k) = 1) (hinj : ∀ k', m (ln k') = 1 → t k' = t k → k' = k) :
    ∀ (l : List (Fin 16)) (g : Vec F ⟨1, ![n]⟩ e), l.Nodup → k ∈ l → l.foldl st g (t k) = v (ln k) := by
  intro l
  induction l with
  | nil => intro _ _ h; cases h
  | cons k₁ l ih =>
    intro g hnd hmem
    rw [List.foldl_cons]
    rcases List.mem_cons.mp hmem with rfl | hmem
    · rw [fold_miss h₀ h₁ _ l _ fun k' hk' hm' hj => ?_, h₂ _ _ hk]
      obtain rfl := hinj k' hm' hj.symm
      exact (List.nodup_cons.mp hnd).1 hk'
    · exact ih _ (List.nodup_cons.mp hnd).2 hmem

end Fold

/-- The place a lane's word goes to. -/
def place {n : ℕ} (idx : IVec S16 32) (hb : ∀ a x, ((![idx] : Fin 1 → IVec S16 32) a x).toNat < (⟨1, ![n]⟩ : Shape).size a) (k : Fin 16) :
    (⟨1, ![n]⟩ : Shape).Idx := idxAt (s := ⟨1, ![n]⟩) ![idx] hb (ln k)

/-- One lane's step of a scatter. -/
def scatStep {n : ℕ} {e : EltTy} (idx : IVec S16 32) (v : Vec F S16 e) (m : IVec S16 1)
    (hb : ∀ a x, ((![idx] : Fin 1 → IVec S16 32) a x).toNat < (⟨1, ![n]⟩ : Shape).size a) (g : Vec F ⟨1, ![n]⟩ e) (k : Fin 16) : Vec F ⟨1, ![n]⟩ e :=
  if m (ln k) = 1 then fun j => if (∀ a, (j a).val = (place idx hb k a).val) then v (ln k) else g j else g

theorem storeIdx_eq {n : ℕ} {e : EltTy} (f : Vec F ⟨1, ![n]⟩ e) (idx : IVec S16 32) (v : Vec F S16 e) (m : IVec S16 1)
    (hb : ∀ a x, ((![idx] : Fin 1 → IVec S16 32) a x).toNat < (⟨1, ![n]⟩ : Shape).size a) :
    storeIdx (s := ⟨1, ![n]⟩) f ![idx] v m false hb = (List.finRange 16).foldl (scatStep idx v m hb) f := by
  unfold storeIdx
  show List.foldl _ f (List.finRange 16) = _
  congr 1
  funext g k j
  unfold scatStep place
  by_cases hm : m (ln k) = 1
  · rw [if_pos hm]
    dsimp only
    rw [if_pos hm]
    by_cases hj : ∀ a, (j a).val = (idxAt (s := ⟨1, ![n]⟩) ![idx] hb (ln k) a).val
    · exact (if_pos hj).trans (if_pos hj).symm
    · exact (if_neg hj).trans (if_neg hj).symm
  · rw [if_neg hm]
    dsimp only
    rw [if_neg hm]

theorem scat₀ {n : ℕ} {e : EltTy} {idx : IVec S16 32} {v : Vec F S16 e} {m : IVec S16 1}
    {hb : ∀ a x, ((![idx] : Fin 1 → IVec S16 32) a x).toNat < (⟨1, ![n]⟩ : Shape).size a} (g : Vec F ⟨1, ![n]⟩ e) (k : Fin 16)
    (h : m (ln k) ≠ 1) : scatStep idx v m hb g k = g := if_neg h

theorem scat₁ {n : ℕ} {e : EltTy} {idx : IVec S16 32} {v : Vec F S16 e} {m : IVec S16 1}
    {hb : ∀ a x, ((![idx] : Fin 1 → IVec S16 32) a x).toNat < (⟨1, ![n]⟩ : Shape).size a} (g : Vec F ⟨1, ![n]⟩ e) (k : Fin 16)
    (j : (⟨1, ![n]⟩ : Shape).Idx) (h : m (ln k) = 1) (hj : j ≠ place idx hb k) : scatStep idx v m hb g k j = g j := by
  unfold scatStep
  rw [if_pos h]
  exact if_neg fun h' => hj (funext fun a => Fin.ext (h' a))

theorem scat₂ {n : ℕ} {e : EltTy} {idx : IVec S16 32} {v : Vec F S16 e} {m : IVec S16 1}
    {hb : ∀ a x, ((![idx] : Fin 1 → IVec S16 32) a x).toNat < (⟨1, ![n]⟩ : Shape).size a} (g : Vec F ⟨1, ![n]⟩ e) (k : Fin 16)
    (h : m (ln k) = 1) : scatStep idx v m hb g k (place idx hb k) = v (ln k) := by
  unfold scatStep
  rw [if_pos h]
  exact if_pos fun _ => rfl

theorem place_val {n : ℕ} {idx : IVec S16 32} {hb : ∀ a x, ((![idx] : Fin 1 → IVec S16 32) a x).toNat < (⟨1, ![n]⟩ : Shape).size a}
    (k : Fin 16) : (place (n := n) idx hb k 0).val = (idx (ln k)).toNat := rfl

theorem wd_eq {n : ℕ} {e : EltTy} (f : Vec F ⟨1, ![n]⟩ e) (p : Fin n) (j : (⟨1, ![n]⟩ : Shape).Idx) (h : p.val = (j 0).val) : wd f p = f j := by
  unfold wd
  congr 1
  funext a
  obtain rfl : a = 0 := Subsingleton.elim _ _
  exact Fin.ext h

/-- A scatter of the masked lanes to distinct words: their words. -/
theorem Upd.hit {n : ℕ} {e : EltTy} {f f' : Vec F ⟨1, ![n]⟩ e} {idx : IVec S16 32} {v : Vec F S16 e} {m : IVec S16 1}
    (h : Upd (s := ⟨1, ![n]⟩) f ![idx] v m f') (k : Fin 16) (hk : m (ln k) = 1)
    (hinj : ∀ k', m (ln k') = 1 → (idx (ln k')).toNat = (idx (ln k)).toNat → k' = k) (p : Fin n) (hp : p.val = (idx (ln k)).toNat) :
    wd f' p = v (ln k) := by
  obtain ⟨hb, rfl⟩ := h
  rw [wd_eq _ p (place idx hb k) (hp.trans (place_val (hb := hb) k).symm), storeIdx_eq]
  exact fold_hit scat₀ scat₁ scat₂ k hk
    (fun k' hm' h' => hinj k' hm' (by rw [← place_val (hb := hb), ← place_val (hb := hb), h'])) (List.finRange 16) f
    (List.nodup_finRange 16) (List.mem_finRange k)

/-- A scatter of the masked lanes: every other word. -/
theorem Upd.miss {n : ℕ} {e : EltTy} {f f' : Vec F ⟨1, ![n]⟩ e} {idx : IVec S16 32} {v : Vec F S16 e} {m : IVec S16 1}
    (h : Upd (s := ⟨1, ![n]⟩) f ![idx] v m f') (p : Fin n) (hp : ∀ k, m (ln k) = 1 → p.val ≠ (idx (ln k)).toNat) :
    wd f' p = wd f p := by
  obtain ⟨hb, rfl⟩ := h
  rw [storeIdx_eq]
  refine fold_miss scat₀ scat₁ _ (List.finRange 16) f fun k _ hm hj => hp k hm ?_
  rw [← place_val (hb := hb), ← hj]
  rfl

/-! ## Counting masked lanes -/

/-- How many lanes before `k` (`k` included, for `cntLe`) are masked. -/
def cntLt (m : IVec S16 1) (k : Fin 16) : ℕ := (Finset.univ.filter fun l : Fin 16 => l < k ∧ m (ln l) = 1).card
def cntLe (m : IVec S16 1) (k : Fin 16) : ℕ := (Finset.univ.filter fun l : Fin 16 => l ≤ k ∧ m (ln l) = 1).card
def cntAll (m : IVec S16 1) : ℕ := (Finset.univ.filter fun l : Fin 16 => m (ln l) = 1).card

theorem cntLe_eq (m : IVec S16 1) (k : Fin 16) : cntLe m k = cntLt m k + if m (ln k) = 1 then 1 else 0 := by
  unfold cntLe cntLt
  split
  next h =>
    rw [← Finset.card_insert_of_notMem (a := k) (by simp)]
    congr 1
    ext l
    simp only [Finset.mem_filter, Finset.mem_univ, true_and, Finset.mem_insert, le_iff_lt_or_eq]
    constructor
    · rintro ⟨hl | rfl, hm⟩
      · exact .inr ⟨hl, hm⟩
      · exact .inl rfl
    · rintro (rfl | ⟨hl, hm⟩)
      · exact ⟨.inr rfl, h⟩
      · exact ⟨.inl hl, hm⟩
  next h =>
    rw [Nat.add_zero]
    congr 1
    ext l
    simp only [Finset.mem_filter, Finset.mem_univ, true_and, le_iff_lt_or_eq]
    constructor
    · rintro ⟨hl | rfl, hm⟩
      · exact ⟨hl, hm⟩
      · exact (h hm).elim
    · rintro ⟨hl, hm⟩
      exact ⟨.inl hl, hm⟩

theorem cntLt_le (m : IVec S16 1) (k : Fin 16) : cntLt m k ≤ k.val := by
  refine (Finset.card_le_card (t := Finset.Iio k) ?_).trans (by simp)
  intro l; simp only [Finset.mem_filter, Finset.mem_univ, true_and, Finset.mem_Iio]; exact fun h => h.1

theorem cntAll_le (m : IVec S16 1) : cntAll m ≤ 16 := (Finset.card_filter_le _ _).trans (by simp)

theorem cntLe_last (m : IVec S16 1) : cntLe m 15 = cntAll m := by
  unfold cntLe cntAll
  congr 1
  ext l
  simp only [Finset.mem_filter, Finset.mem_univ, true_and, and_iff_right_iff_imp]
  intro _
  have := l.isLt
  show l.val ≤ 15
  omega

theorem cntLt_lt {m : IVec S16 1} {k l : Fin 16} (h : k < l) (hk : m (ln k) = 1) : cntLt m k < cntLt m l := by
  have h1 := cntLe_eq m k
  rw [if_pos hk] at h1
  have : cntLe m k ≤ cntLt m l := Finset.card_le_card fun a => by
    simp only [Finset.mem_filter, Finset.mem_univ, true_and]
    exact fun ⟨ha, hm⟩ => ⟨lt_of_le_of_lt ha h, hm⟩
  omega

theorem cntLt_lt_all {m : IVec S16 1} {k : Fin 16} (hk : m (ln k) = 1) : cntLt m k < cntAll m := by
  have h1 := cntLe_eq m k
  rw [if_pos hk] at h1
  have : cntLe m k ≤ cntAll m := Finset.card_le_card fun a => by
    simp only [Finset.mem_filter, Finset.mem_univ, true_and]
    exact fun ⟨_, hm⟩ => hm
  omega

theorem cntLt_inj {m : IVec S16 1} {k l : Fin 16} (hk : m (ln k) = 1) (hl : m (ln l) = 1) (h : cntLt m k = cntLt m l) : k = l := by
  rcases lt_trichotomy k l with h' | h' | h'
  · have := cntLt_lt h' hk; omega
  · exact h'
  · have := cntLt_lt h' hl; omega

theorem cntLt_surj {m : IVec S16 1} {r : ℕ} (h : r < cntAll m) : ∃ k, m (ln k) = 1 ∧ cntLt m k = r := by
  have hmaps : ∀ k ∈ (Finset.univ.filter fun l : Fin 16 => m (ln l) = 1), cntLt m k ∈ Finset.range (cntAll m) := by
    intro k hk
    exact Finset.mem_range.mpr (cntLt_lt_all (Finset.mem_filter.mp hk).2)
  have hinj : Set.InjOn (cntLt m) ↑(Finset.univ.filter fun l : Fin 16 => m (ln l) = 1) := by
    intro k hk l hl he
    exact cntLt_inj (Finset.mem_filter.mp (Finset.mem_coe.mp hk)).2 (Finset.mem_filter.mp (Finset.mem_coe.mp hl)).2 he
  have := Finset.surj_on_of_inj_on_of_card_le (fun k _ => cntLt m k) hmaps (fun k l hk hl he => hinj hk hl he)
    (by rw [Finset.card_range]; rfl) r (Finset.mem_range.mpr h)
  obtain ⟨k, hk, he⟩ := this
  exact ⟨k, (Finset.mem_filter.mp hk).2, he.symm⟩

/-- The running count of masked lanes. -/
def cum (m : IVec S16 1) : IVec S16 32 := scan .sum (extui 32 m natLt_1_32)

private theorem fold_sum (v : Fin 16 → BitVec 32) (p : Fin 16 → Prop) [DecidablePred p]
    (hv : ∀ k, v k = if p k then 1#32 else 0#32) : ∀ (l : List (Fin 16)) (r : BitVec 32) (n : ℕ), r = BitVec.ofNat 32 n →
    l.foldl (fun r k => r + v k) r = BitVec.ofNat 32 (n + l.countP fun k => decide (p k)) := by
  intro l
  induction l with
  | nil => intro r n h; simpa using h
  | cons k l ih =>
    intro r n h
    rw [List.foldl_cons, List.countP_cons, ih _ (n + if p k then 1 else 0) ?_]
    · congr 1
      by_cases hp : p k <;> simp [hp] <;> omega
    · rw [h, hv]
      by_cases hp : p k
      · simp [hp, BitVec.ofNat_add]
      · simp [hp]

theorem bit_one_or (b : BitVec 1) : b = 1#1 ∨ b = 0#1 := by
  revert b; decide

theorem ext_bit (m : IVec S16 1) (x : S16.Idx) : extui 32 m natLt_1_32 x = if m x = 1 then 1#32 else 0#32 := by
  show (m x).setWidth 32 = _
  rcases bit_one_or (m x) with h | h <;> rw [h] <;> rfl

theorem cum_toNat (m : IVec S16 1) (k : Fin 16) : (cum m (ln k)).toNat = cntLe m k := by
  have h0 : extui 32 m natLt_1_32 (ln 0) = BitVec.ofNat 32 (if m (ln 0) = 1 then 1 else 0) := by
    rw [ext_bit]; split <;> rfl
  have := fold_sum (fun k => extui 32 m natLt_1_32 (ln k)) (fun k => m (ln k) = 1) (fun k => ext_bit m _)
    ((List.finRange 16).filter fun j => decide (0 < j.val ∧ j.val ≤ k.val)) _ _ h0
  have e : cum m (ln k) = ((List.finRange 16).filter fun j => decide (0 < j.val ∧ j.val ≤ k.val)).foldl
      (fun r k => r + extui 32 m natLt_1_32 (ln k)) (extui 32 m natLt_1_32 (ln 0)) := rfl
  rw [e, this, BitVec.toNat_ofNat]
  have hcard : (if m (ln 0) = 1 then 1 else 0) + List.countP (fun j => decide (m (ln j) = 1))
      ((List.finRange 16).filter fun j => decide (0 < j.val ∧ j.val ≤ k.val)) = cntLe m k := by
    have hc : cntLe m k = (List.finRange 16).countP fun l => decide (l ≤ k ∧ m (ln l) = 1) := by
      unfold cntLe
      rw [List.countP_eq_length_filter]
      rfl
    rw [hc, List.countP_filter, List.finRange_succ, List.countP_cons, List.countP_cons, List.countP_map, List.countP_map]
    have : (List.countP ((fun l => decide (l ≤ k ∧ m (ln l) = 1)) ∘ Fin.succ) (List.finRange 15))
        = (List.countP ((fun a => (decide (m (ln a) = 1) && decide (0 < a.val ∧ a.val ≤ k.val))) ∘ Fin.succ) (List.finRange 15)) := by
      congr 1
      funext l
      simp only [Function.comp]
      rw [← Bool.decide_and, decide_eq_decide]
      exact ⟨fun ⟨a, b⟩ => ⟨b, Nat.succ_pos _, a⟩, fun ⟨a, _, b⟩ => ⟨b, a⟩⟩
    rw [this]
    simp
    omega
  rw [hcard]
  have h1 := cntLe_eq m k
  have h2 := cntLt_le m k
  have := k.isLt
  split at h1 <;> omega

end Cert.Proof.Knn
-- ==== Proof.Rank.lean ====
/-
  The ranks: of a lane, how many lanes' keys come before its own — a smaller key, or the same key in a lower lane.
-/
module

public import proofs.«01_k».proof.Proof.Words

@[expose] public section

noncomputable section

namespace Cert.Proof.Knn

open Cert.KernelIdeal Cert.KernelIdeal.Gen

open Idealize.ShloMosaic

variable {F : FTy → Type} [FloatOps F]

theorem lanes_ln (k : Fin 16) : lanes (ln k) = BitVec.ofNat 32 k.val := by
  revert k; decide

theorem lanes_toNat (k : Fin 16) : (lanes (ln k)).toNat = k.val := by
  rw [lanes_ln, BitVec.toNat_ofNat]
  have := k.isLt
  omega

theorem rev_ln (k : Fin 16) : ((rev : IVec S16 32) (ln k)).toNat = 15 - k.val := by
  revert k; decide

theorem rev_lt : ∀ x, ((rev : IVec S16 32) x).toNat < 16 := by
  intro x
  obtain ⟨k, rfl⟩ : ∃ k : Fin 16, x = ln k := ⟨x 0, eq_ln x⟩
  rw [rev_ln]
  omega

theorem gat_ln {e : EltTy} (f : Vec F S16 e) (idx : IVec S16 32) (k : Fin 16) (n : Fin 16) (h : (idx (ln k)).toNat = n.val) :
    gat f idx (ln k) = f (ln n) := by
  unfold gat
  congr 1
  funext a
  obtain rfl : a = 0 := Subsingleton.elim _ _
  apply Fin.ext
  show (idx (ln k)).toNat % 16 = n.val
  rw [h]
  exact Nat.mod_eq_of_lt n.isLt

theorem gat_rev {e : EltTy} (f : Vec F S16 e) (k : Fin 16) : gat f rev (ln k) = f (ln k.rev) :=
  gat_ln f rev k k.rev ((rev_ln k).trans (by rw [Fin.val_rev]; omega))

/-- Lane `n`'s key comes before lane `l`'s. -/
def Before (key : FVec F S16 .f32) (n l : Fin 16) : Prop :=
  n < l ∧ FloatOps.cmpf .ole (key (ln n)) (key (ln l)) = 1#1 ∨ l < n ∧ FloatOps.cmpf .olt (key (ln n)) (key (ln l)) = 1#1

instance (key : FVec F S16 .f32) (n l : Fin 16) : Decidable (Before key n l) := by unfold Before; infer_instance

theorem cmp_lanes : ∀ n l : Fin 16, IntOp.cmpi .sgt (lanes (ln l)) (Scf.iv 0#32 1#32 n.val) = (if n < l then 1#1 else 0#1)
    ∧ IntOp.cmpi .slt (lanes (ln l)) (Scf.iv 0#32 1#32 n.val) = (if l < n then 1#1 else 0#1) := by
  decide

theorem bits_or (a b : BitVec 1) (p q : Prop) [Decidable p] [Decidable q] :
    ((((if p then 1#1 else 0#1) &&& a) ||| ((if q then 1#1 else 0#1) &&& b) : BitVec 1)).setWidth 32
      = if p ∧ a = 1#1 ∨ q ∧ b = 1#1 then 1#32 else 0#32 := by
  by_cases hp : p <;> by_cases hq : q <;> rcases bit_one_or a with rfl | rfl <;> rcases bit_one_or b with rfl | rfl <;> simp [hp, hq]

theorem rankStep_ln (key : FVec F S16 .f32) (n l : Fin 16) (acc : IVec S16 32) :
    rankStep key (Scf.iv 0#32 1#32 n.val) acc (ln l) = acc (ln l) + if Before key n l then 1#32 else 0#32 := by
  have hg : gat (F := F) (e := .f32) key (broadcast S16 (Scf.iv 0#32 1#32 n.val)) (ln l) = key (ln n) :=
    gat_ln (F := F) (e := .f32) key _ l n (iv_toNat n.val n.isLt)
  obtain ⟨h1, h2⟩ := cmp_lanes n l
  have := bits_or (FloatOps.cmpf .ole (key (ln n)) (key (ln l))) (FloatOps.cmpf .olt (key (ln n)) (key (ln l))) (n < l) (l < n)
  rw [← h1, ← h2] at this
  refine Eq.trans ?_ (congrArg (acc (ln l) + ·) this)
  show acc (ln l) + ((IntOp.cmpi .sgt (lanes (ln l)) (Scf.iv 0#32 1#32 n.val) &&& FloatOps.cmpf .ole (gat (F := F) (e := .f32) key (broadcast S16 (Scf.iv 0#32 1#32 n.val)) (ln l)) (key (ln l)))
    ||| (IntOp.cmpi .slt (lanes (ln l)) (Scf.iv 0#32 1#32 n.val) &&& FloatOps.cmpf .olt (gat (F := F) (e := .f32) key (broadcast S16 (Scf.iv 0#32 1#32 n.val)) (ln l)) (key (ln l)))).setWidth 32 = _
  rw [hg]

theorem rankTo_toNat (key : FVec F S16 .f32) (l : Fin 16) : ∀ n : ℕ, n ≤ 16 →
    (rankTo key n (ln l)).toNat = (Finset.univ.filter fun m : Fin 16 => m.val < n ∧ Before key m l).card := by
  intro n
  induction n with
  | zero => intro _; simp [rankTo, broadcast]
  | succ n ih =>
    intro hn
    have hs := rankStep_ln key ⟨n, hn⟩ l (rankTo key n)
    have ih := ih (by omega)
    have hle : (Finset.univ.filter fun m : Fin 16 => m.val < n ∧ Before key m l).card ≤ 16 := (Finset.card_filter_le _ _).trans (by simp)
    show (rankStep key (Scf.iv 0#32 1#32 n) (rankTo key n) (ln l)).toNat = _
    rw [hs, BitVec.toNat_add, ih]
    by_cases hb : Before key ⟨n, hn⟩ l
    · have : (Finset.univ.filter fun m : Fin 16 => m.val < n + 1 ∧ Before key m l)
          = insert ⟨n, hn⟩ (Finset.univ.filter fun m : Fin 16 => m.val < n ∧ Before key m l) := by
        ext m
        simp only [Finset.mem_filter, Finset.mem_univ, true_and, Finset.mem_insert]
        constructor
        · rintro ⟨h, hb'⟩
          rcases Nat.lt_succ_iff_lt_or_eq.mp h with h | h
          · exact .inr ⟨h, hb'⟩
          · exact .inl (Fin.ext h)
        · rintro (rfl | ⟨h, hb'⟩)
          · exact ⟨Nat.lt_succ_self _, hb⟩
          · exact ⟨Nat.lt_succ_of_lt h, hb'⟩
      rw [this, Finset.card_insert_of_notMem (by simp), if_pos hb]
      simp only [BitVec.toNat_ofNat]
      omega
    · have : (Finset.univ.filter fun m : Fin 16 => m.val < n + 1 ∧ Before key m l)
          = (Finset.univ.filter fun m : Fin 16 => m.val < n ∧ Before key m l) := by
        ext m
        simp only [Finset.mem_filter, Finset.mem_univ, true_and]
        constructor
        · rintro ⟨h, hb'⟩
          rcases Nat.lt_succ_iff_lt_or_eq.mp h with h | h
          · exact ⟨h, hb'⟩
          · exact (hb ((Fin.ext h : m = ⟨n, hn⟩) ▸ hb')).elim
        · rintro ⟨h, hb'⟩
          exact ⟨Nat.lt_succ_of_lt h, hb'⟩
      rw [this, if_neg hb]
      simp only [BitVec.toNat_ofNat]
      omega

theorem rankV_toNat (key : FVec F S16 .f32) (l : Fin 16) :
    (rankV key (ln l)).toNat = (Finset.univ.filter fun m : Fin 16 => Before key m l).card := by
  unfold rankV
  rw [rankTo_toNat key l 16 le_rfl]
  congr 1
  ext m
  simp

theorem rankV_lt (key : FVec F S16 .f32) : ∀ x, (rankV key x).toNat < 16 := by
  intro x
  obtain ⟨l, rfl⟩ : ∃ k : Fin 16, x = ln k := ⟨x 0, eq_ln x⟩
  rw [rankV_toNat]
  have : (Finset.univ.filter fun m : Fin 16 => Before key m l) ⊆ Finset.univ.erase l := by
    intro m
    simp only [Finset.mem_filter, Finset.mem_univ, true_and, Finset.mem_erase, and_true]
    rintro (h | h) rfl
    · exact lt_irrefl _ h.1
    · exact lt_irrefl _ h.1
  have h := Finset.card_le_card this
  rw [Finset.card_erase_of_mem (Finset.mem_univ _), Finset.card_univ, Fintype.card_fin] at h
  omega

end Cert.Proof.Knn
-- ==== Proof.Append.lean ====
/-
  The candidate buffer and one row's algorithm, over any float values: where a masked lane is appended, the eight appends of
  a chunk, the state between chunks (`St`) and the states a row can be in after `n` chunks (`Reach`).
-/
module

public import proofs.«01_k».proof.Proof.Rank

@[expose] public section

noncomputable section

namespace Cert.Proof.Knn

open Cert.KernelIdeal Cert.KernelIdeal.Gen

open Idealize.ShloMosaic

variable {F : FTy → Type} [FloatOps F]

/-! ## Appending a register's masked lanes -/

/-- The position each masked lane is appended at, from the buffer's length `pos`. -/
def slot (pos : BitVec 32) (m : IVec S16 1) : IVec S16 32 := addi (broadcast S16 pos) (subi (cum m) (extui 32 m natLt_1_32))

/-- How many lanes are masked, as the program counts them. -/
def cnt (m : IVec S16 1) : BitVec 32 := extractAt ![15] (cum m) inpos_S16_p15

/-- The indices of the candidates in the block at `base + off`. -/
def idxV (base off : BitVec 32) : IVec S16 32 := addi lanes (broadcast S16 (Scalar.addi base off))

theorem slot_toNat {pos : BitVec 32} (m : IVec S16 1) (k : Fin 16) (h : pos.toNat ≤ 1000) :
    (slot pos m (ln k)).toNat = pos.toNat + cntLt m k := by
  show (pos + (cum m (ln k) - extui 32 m natLt_1_32 (ln k))).toNat = _
  have h1 := cum_toNat m k
  have h2 := cntLe_eq m k
  have h3 := cntLt_le m k
  have h4 := ext_bit m (ln k)
  have := k.isLt
  by_cases hm : m (ln k) = 1
  · rw [if_pos hm] at h2 h4
    rw [h4, BitVec.toNat_add, BitVec.toNat_sub, h1, h2]
    simp only [BitVec.toNat_ofNat]
    omega
  · rw [if_neg hm] at h2 h4
    rw [h4, BitVec.toNat_add, BitVec.toNat_sub, h1, h2]
    simp only [BitVec.toNat_ofNat]
    omega

theorem slot_lt {pos : BitVec 32} {m : IVec S16 1} (h : pos.toNat ≤ 208) : ∀ x, (slot pos m x).toNat < 224 := by
  intro x
  obtain ⟨k, rfl⟩ : ∃ k : Fin 16, x = ln k := ⟨x 0, eq_ln x⟩
  rw [slot_toNat m k (by omega)]
  have := cntLt_le m k
  have := k.isLt
  omega

theorem cnt_toNat (m : IVec S16 1) : (cnt m).toNat = cntAll m := by
  rw [← cntLe_last, ← cum_toNat]
  rfl

theorem addi_cnt {pos : BitVec 32} (m : IVec S16 1) (h : pos.toNat ≤ 1000) :
    (Scalar.addi pos (cnt m)).toNat = pos.toNat + cntAll m := by
  show (pos + cnt m).toNat = _
  have := cntAll_le m
  rw [BitVec.toNat_add, cnt_toNat]
  omega

theorem addi_cnt_le {pos : BitVec 32} {m : IVec S16 1} {n : ℕ} (h : pos.toNat ≤ n) (hn : n ≤ 1000) :
    (Scalar.addi pos (cnt m)).toNat ≤ n + 16 := by
  rw [addi_cnt m (h.trans hn)]
  have := cntAll_le m
  omega

/-- One register's masked lanes, keys `de` and indices `ix`, appended. -/
structure App1 (ix : IVec S16 32) (de : Vec F S16 .f32) (m : IVec S16 1) (bd : Vec F S224 .f32) (bi : Vec F S224 .i32) (pos : BitVec 32)
    (bd' : Vec F S224 .f32) (bi' : Vec F S224 .i32) (pos' : BitVec 32) : Prop where
  keys : Upd (s := S224) bd ![slot pos m] de m bd'
  idxs : Upd (s := S224) (e := .i32) (F := F) bi ![slot pos m] ix m bi'
  len : pos' = Scalar.addi pos (cnt m)

/-- The first `u` of a chunk's eight registers appended. -/
inductive AppR (de : ℕ → Vec F S16 .f32) (ms : ℕ → IVec S16 1) (base : BitVec 32) (bd : Vec F S224 .f32) (bi : Vec F S224 .i32) (pos : BitVec 32) :
    ℕ → Vec F S224 .f32 → Vec F S224 .i32 → BitVec 32 → Prop
  | zero : AppR de ms base bd bi pos 0 bd bi pos
  | succ {u : ℕ} {bd₁ bd₂ : Vec F S224 .f32} {bi₁ bi₂ : Vec F S224 .i32} {pos₁ pos₂ : BitVec 32} (h : AppR de ms base bd bi pos u bd₁ bi₁ pos₁)
      (ha : App1 (idxV base (BitVec.ofNat 32 (16 * u))) (de u) (ms u) bd₁ bi₁ pos₁ bd₂ bi₂ pos₂) : AppR de ms base bd bi pos (u + 1) bd₂ bi₂ pos₂

/-! ## One row -/

/-- The state between chunks: the best sixteen and their indices, the bound, the buffer's length and contents. -/
structure St (F : FTy → Type) where
  tv : Vec F S16 .f32
  tx : Vec F S16 .i32
  bound : Vec F S16 .f32
  pos : BitVec 32
  bd : Vec F S224 .f32
  bi : Vec F S224 .i32

/-- A chunk's masked lanes taken in: appended if there are any, and the buffer merged into the best sixteen if it has
    come to sixty-four. -/
inductive Absorb (de : ℕ → Vec F S16 .f32) (ms : ℕ → IVec S16 1) (base : BitVec 32) (s : St F) : St F → Prop
  | none (h : ∀ u < 8, ∀ k, ms u (ln k) ≠ 1) : Absorb de ms base s s
  | keep {bd : Vec F S224 .f32} {bi : Vec F S224 .i32} {pos : BitVec 32} (h : AppR de ms base s.bd s.bi s.pos 8 bd bi pos)
      (hp : pos.toNat ≤ 63) : Absorb de ms base s ⟨s.tv, s.tx, s.bound, pos, bd, bi⟩
  | flush {bd : Vec F S224 .f32} {bi : Vec F S224 .i32} {pos : BitVec 32} {tv : Vec F S16 .f32} {tx : Vec F S16 .i32}
      (h : AppR de ms base s.bd s.bi s.pos 8 bd bi pos) (hf : FlushR bd bi pos s.tv s.tx tv tx) :
      Absorb de ms base s ⟨tv, tx, gat tv (broadcast S16 15#32), 0#32, bd, bi⟩

/-- Infinity in every lane. -/
abbrev infV : Vec F S16 .f32 := broadcast S16 (Scalar.ofBits .f32 0x7F800000#32)

/-- The masked keys of a block: the distances of sixteen points from the row's, those above a half replaced by infinity. -/
def dist (bx bY bz sq x2 y2 z2 cs : Vec F S16 .f32) : Vec F S16 .f32 :=
  have d : FVec F S16 .f32 := addf (addf sq (addf (addf (mulf bx x2) (mulf bY y2)) (mulf bz z2))) cs
  select (cmpf .ogt d (broadcast S16 (Scalar.ofBits .f32 0x3F000000#32))) infV d

/-- The lanes whose keys are below the bound. -/
def maskOf (de : ℕ → ℕ → Vec F S16 .f32) (n : ℕ) (b : Vec F S16 .f32) (u : ℕ) : IVec S16 1 := cmpf .olt (de n u) b

/-- The states after `n` chunks taken in, with the bound chunk `n`'s lanes were masked by; `de n u`: block `u` of chunk
    `n`'s keys. -/
inductive Reach (de : ℕ → ℕ → Vec F S16 .f32) (bd : Vec F S224 .f32) (bi : Vec F S224 .i32) : ℕ → St F → Vec F S16 .f32 → Prop
  | zero : Reach de bd bi 0 ⟨infV, lanes, infV, 0#32, bd, bi⟩ infV
  | succ {n : ℕ} {s s' : St F} {b : Vec F S16 .f32} (h : Reach de bd bi n s b)
      (ha : Absorb (de n) (maskOf de n b) (BitVec.ofNat 32 (128 * n)) s s') : Reach de bd bi (n + 1) s' s.bound

/-- What a row stores, from its final best sixteen: two neighbours of one key in the order of their indices. -/
def fixup (v : Vec F S16 .f32) (x : Vec F S16 .i32) : Vec F S16 .i32 :=
  have up : IVec S16 32 := minsi (addi lanes (broadcast S16 1#32)) (broadcast S16 15#32)
  have dn : IVec S16 32 := maxsi (subi lanes (broadcast S16 1#32)) (broadcast S16 0#32)
  select (andi (cmpf .oeq v (gat v up)) (cmpi .sgt x (gat (F := F) (e := .i32) x up))) (gat (F := F) (e := .i32) x up)
    (select (andi (cmpf .oeq v (gat v dn)) (cmpi .sgt (gat (F := F) (e := .i32) x dn) x)) (gat (F := F) (e := .i32) x dn) x)

/-- What a row with keys `de` may store. -/
def RowR (de : ℕ → ℕ → Vec F S16 .f32) (w : Vec F S16 .i32) : Prop :=
  ∃ bd bi s b s' tv tx, Reach de bd bi 31 s b ∧ Absorb (de 31) (maskOf de 31 b) (BitVec.ofNat 32 (128 * 31)) s s'
    ∧ FlushR s'.bd s'.bi s'.pos s'.tv s'.tx tv tx ∧ w = fixup tv tx

end Cert.Proof.Knn
-- ==== Proof.Flush.lean ====
/-
  The flush inside the loop over chunks, run: the candidate buffer's twelve blocks sorted and merged pairwise, then with the
  best sixteen.
-/
module

public import proofs.«01_k».proof.Proof.Append

@[expose] public section

noncomputable section

namespace Cert.Proof.Knn

open Cert.KernelIdeal Cert.KernelIdeal.Gen

open Idealize.ShloMosaic
open Idealize.SL.Sem

variable {F : FTy → Type} [FloatOps F]

variable {d : Idealize.ShloMosaic.Dev nD} {i : grid0.Coords}
  {arg2 : Memref sig .scVector .hbm S16384 .f32} {harg2 : arg2.IsWhole} {arg3 : Memref sig .scVector .hbm S16384 .f32} {harg3 : arg3.IsWhole}
  {arg4 : Memref sig .scVector .hbm S16384 .f32} {harg4 : arg4.IsWhole} {arg5 : Memref sig .scVector .hbm S262144 .i32} {harg5 : arg5.IsWhole}
  {hx : (xV).IsWhole} {hy : (yV).IsWhole} {hz : (zV).IsWhole} {hx2 : (x2V).IsWhole} {hy2 : (y2V).IsWhole} {hz2 : (z2V).IsWhole} {hcs : (csV).IsWhole}
  {hbd : (bdV).IsWhole} {hbi : (biV).IsWhole} {hob : (obV).IsWhole} {htf : (tfV).IsWhole} {hti : (tiV).IsWhole}
  {r0 r1 r2 r3 : DmaSems sig S_}

attribute [local irreducible] Upd rankV gat rd

set_option maxHeartbeats 2000000 in
/-- A flush inside the loop over chunks. -/
theorem part14_run {c : Coords F} {bd : Vec F S224 .f32} {bi : Vec F S224 .i32} {ob : Vec F S8192 .i32}
    {tf : Vec F S16 .f32} {ti : Vec F S16 .i32} (tv : FVec F S16 .f32) (tx : IVec S16 32)
    (arg24 arg25 : BitVec 32) (k0_h1 : k0_cond1 arg25 = 1#1) (v698 v718 v738 v758 v778 v798 v818 v838 pos : BitVec 32)
    (k0_h2 : k0_cond2 arg24 v698 v718 v738 v758 v778 v798 v818 v838 = 1#1) :
    Runs d i c ⟨bd, bi, ob, tf, ti⟩
      (k0_part14 i arg2 harg2 arg3 harg3 arg4 harg4 arg5 harg5 xV hx yV hy zV hz x2V hx2 y2V hy2 z2V hz2 csV hcs bdV hbd biV hbi obV hob
        tfV htf tiV hti r0 r1 r2 r3 lanes tv tx arg24 arg25 k0_h1 v698 v718 v738 v758 v778 v798 v818 v838 pos k0_h2)
      (fun r s => r = s.tf ∧ s.bd = bd ∧ s.bi = bi ∧ s.ob = ob ∧ FlushR bd bi pos tv tx s.tf s.ti) := by
  rw [k0_part14_eq_skeleton]; unfold k0_part14_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  repeat first
    | with_reducible refine Runs.assoc ?_
    | with_reducible refine Runs.load_tf ?_
    | with_reducible refine Runs.load_ti ?_
    | with_reducible refine Runs.store_tf ?_
    | with_reducible refine Runs.store_ti ?_
    | with_reducible refine Runs.load_bd ?_
    | with_reducible refine Runs.load_bi ?_
    | (refine Runs.rank rfl rfl (fun n acc Ψ hn hΨ => ?_) ?_
       on_goal 1 =>
        refine Runs.assume ?_ ?_
        · exact fun _ _ => inb_of_lt (iv_lt hn)
        with_reducible refine Runs.gather_tf ?_
        exact Runs.ret hΨ)
    | (with_reducible refine Runs.assume ?_ ?_
       · first
          | exact ⟨fun _ _ => inb_of_lt (rankV_lt (F := F) _), fun _ _ => inb_of_lt (rankV_lt (F := F) _)⟩
          | exact fun _ _ => inb_of_lt rev_lt)
    | with_reducible refine Runs.scatter_tf fun tf' htf' => ?_
    | with_reducible refine Runs.scatter_ti fun ti' hti' => ?_
    | with_reducible refine Runs.gather_tf ?_
    | with_reducible refine Runs.gather_ti ?_
    | with_reducible refine Runs.pure_bind ?_
    | unfold k0_part1_skel
    | unfold k0_part2_skel
    | unfold k0_part3_skel
    | unfold k0_part4_skel
    | unfold k0_part5_skel
    | unfold k0_part6_skel
    | unfold k0_part7_skel
    | unfold k0_part8_skel
    | unfold k0_part9_skel
    | unfold k0_part10_skel
    | unfold k0_part11_skel
    | unfold k0_part12_skel
    | unfold k0_part13_skel
  refine Runs.ret ⟨rfl, rfl, rfl, rfl, ?_⟩
  dsimp only
  apply FlushR.mk'
  iterate 2 assumption
  iterate 4 exact rfl
  iterate 2
    apply Tour.node'
    iterate 2 assumption
    iterate 4 exact rfl
  iterate 3
    apply Tour.node'
    iterate 2 assumption
    iterate 4 exact rfl
    iterate 2
      apply Tour.node'
      iterate 2 assumption
      iterate 4 exact rfl
      iterate 2
        apply Tour.leaf'
        iterate 2 assumption
        iterate 4 exact rfl

end Cert.Proof.Knn
-- ==== Proof.Chunk.lean ====
/-
  One trip of the loop over chunks, run: the next chunk's keys and masks computed, the pending chunk's masked lanes appended
  and, if the buffer has come to sixty-four, the buffer merged.
-/
module

public import proofs.«01_k».proof.Proof.Flush

@[expose] public section

noncomputable section

namespace Cert.Proof.Knn

open Cert.KernelIdeal Cert.KernelIdeal.Gen

open Idealize.ShloMosaic
open Idealize.SL.Sem

variable {F : FTy → Type} [FloatOps F]

/-! ## Blocks of the coordinate arrays -/

/-- Sixteen words from position `p`. -/
def blk {n : ℕ} {e : EltTy} (f : Vec F ⟨1, ![n]⟩ e) (hn : 0 < n) (p : ℕ) : Vec F S16 e := fun x => wd f ⟨(p + (x 0).val) % n, Nat.mod_lt _ hn⟩

theorem rd_unit {n : ℕ} {e : EltTy} (f : Vec F ⟨1, ![n]⟩ e) (hn : 0 < n) {off : Fin 1 → ℕ} (inb : ∀ a, off a + S16.size a ≤ (⟨1, ![n]⟩ : Shape).size a) :
    rd (Rect.unit (s := ⟨1, ![n]⟩) off S16.size inb).toLoadRect f = blk f hn (off 0) := by
  funext x
  show f _ = f _
  congr 1
  funext a
  obtain rfl : a = 0 := Subsingleton.elim _ _
  apply Fin.ext
  have h1 : off 0 + 16 ≤ n := inb 0
  have h2 : (x 0).val < 16 := (x 0).isLt
  show off 0 + 1 * (x 0).val = (off 0 + (x 0).val) % n
  rw [Nat.mod_eq_of_lt (by omega), Nat.one_mul]

/-- Eight values as a sequence. -/
def seq8 {α : Type} (a0 a1 a2 a3 a4 a5 a6 a7 : α) : ℕ → α
  | 0 => a0 | 1 => a1 | 2 => a2 | 3 => a3 | 4 => a4 | 5 => a5 | 6 => a6 | _ => a7

/-- The lanes masked in any of eight masks. -/
def or8 (m : ℕ → IVec S16 1) : IVec S16 1 := ori (ori (ori (ori (ori (ori (ori (m 0) (m 1)) (m 2)) (m 3)) (m 4)) (m 5)) (m 6)) (m 7)

theorem AppR.congr {de de' : ℕ → Vec F S16 .f32} {ms ms' : ℕ → IVec S16 1} {base pos : BitVec 32} {bd : Vec F S224 .f32} {bi : Vec F S224 .i32}
    {u : ℕ} {bd' : Vec F S224 .f32} {bi' : Vec F S224 .i32} {pos' : BitVec 32} (hd : ∀ n < u, de n = de' n) (hm : ∀ n < u, ms n = ms' n)
    (h : AppR de ms base bd bi pos u bd' bi' pos') : AppR de' ms' base bd bi pos u bd' bi' pos' := by
  induction h with
  | zero => exact .zero
  | succ h ha ih =>
    refine .succ (ih (fun n hn => hd n (by omega)) fun n hn => hm n (by omega)) ?_
    rw [← hd _ (Nat.lt_succ_self _), ← hm _ (Nat.lt_succ_self _)]
    exact ha

/-- One more register appended, the parts of the step given apart. -/
theorem AppR.step {de : ℕ → Vec F S16 .f32} {ms : ℕ → IVec S16 1} {base pos : BitVec 32} {bd : Vec F S224 .f32} {bi : Vec F S224 .i32}
    {u : ℕ} {bd₁ bd₂ : Vec F S224 .f32} {bi₁ bi₂ : Vec F S224 .i32} {pos₁ pos₂ : BitVec 32} {r r' w : IVec S16 32} {v : Vec F S16 .f32} {m m' : IVec S16 1}
    (h₁ : Upd (s := S224) bd₁ ![r] v m bd₂) (h₂ : Upd (s := S224) (e := .i32) (F := F) bi₁ ![r'] w m' bi₂)
    (hp : pos₂ = Scalar.addi pos₁ (cnt (ms u))) (hr : r = slot pos₁ (ms u)) (hr' : r' = slot pos₁ (ms u)) (hv : v = de u)
    (hw : w = idxV base (BitVec.ofNat 32 (16 * u))) (hm : m = ms u) (hm' : m' = ms u) (h : AppR de ms base bd bi pos u bd₁ bi₁ pos₁) :
    AppR de ms base bd bi pos (u + 1) bd₂ bi₂ pos₂ := by
  subst hr hr' hv hw hm hm'
  exact h.succ ⟨h₁, h₂, hp⟩

theorem AppR.len {de : ℕ → Vec F S16 .f32} {ms : ℕ → IVec S16 1} {base pos : BitVec 32} {bd : Vec F S224 .f32} {bi : Vec F S224 .i32}
    {u : ℕ} {bd' : Vec F S224 .f32} {bi' : Vec F S224 .i32} {pos' : BitVec 32} (hp : pos.toNat ≤ 63) (hu : u ≤ 8)
    (h : AppR de ms base bd bi pos u bd' bi' pos') : pos'.toNat ≤ 63 + 16 * u := by
  induction h with
  | zero => exact hp
  | succ h ha ih =>
    have := ih (by omega)
    rw [ha.len]
    exact (addi_cnt_le this (by omega)).trans (by omega)

theorem Absorb.congr {de de' : ℕ → Vec F S16 .f32} {ms ms' : ℕ → IVec S16 1} {base : BitVec 32} {s s' : St F}
    (hd : ∀ n < 8, de n = de' n) (hm : ∀ n < 8, ms n = ms' n) (h : Absorb de ms base s s') : Absorb de' ms' base s s' := by
  cases h with
  | none h => exact .none fun u hu => hm u hu ▸ h u hu
  | keep h hp => exact .keep (h.congr hd hm) hp
  | flush h hf => exact .flush (h.congr hd hm) hf

theorem ne_extui (b : BitVec 1) : Scalar.cmpi .ne (Scalar.extui b) 0#32 = b := by
  revert b; decide

theorem cond_sgt {w : BitVec 32} (h : w.toNat ≤ 1000) : Scalar.cmpi .ne (Scalar.extui (Scalar.cmpi .sgt w 0#32)) 0#32 = 1#1 ↔ 0 < w.toNat := by
  rw [ne_extui]
  have e : w.toInt = w.toNat := BitVec.toInt_eq_toNat_of_lt (by omega)
  simp only [Scalar.cmpi, IntOp.cmpi, BitVec.slt, e]
  by_cases h0 : 0 < w.toNat <;> simp [h0]

theorem cond_sge {w : BitVec 32} (h : w.toNat ≤ 1000) : Scalar.cmpi .ne (Scalar.extui (Scalar.cmpi .sge w 64#32)) 0#32 = 1#1 ↔ 64 ≤ w.toNat := by
  rw [ne_extui]
  have e : w.toInt = w.toNat := BitVec.toInt_eq_toNat_of_lt (by omega)
  simp only [Scalar.cmpi, IntOp.cmpi, BitVec.sle, e]
  by_cases h0 : 64 ≤ w.toNat
  · have : (64 : ℤ) ≤ w.toNat := by exact_mod_cast h0
    simp [h0, this]
  · have : ¬ (64 : ℤ) ≤ w.toNat := by exact_mod_cast h0
    simp [h0, this]

theorem cntAll_zero {m : IVec S16 1} (h : cntAll m = 0) (k : Fin 16) : m (ln k) ≠ 1 := by
  intro hk
  have := cntLt_lt_all hk
  omega

/-- No lane is masked in eight masks if their disjunction counts none. -/
theorem or8_none {m : ℕ → IVec S16 1} (h : cntAll (or8 m) = 0) : ∀ u < 8, ∀ k, m u (ln k) ≠ 1 := by
  intro u hu k
  have h := cntAll_zero h k
  have e : or8 m (ln k) = m 0 (ln k) ||| m 1 (ln k) ||| m 2 (ln k) ||| m 3 (ln k) ||| m 4 (ln k) ||| m 5 (ln k) ||| m 6 (ln k) ||| m 7 (ln k) := rfl
  rw [e] at h
  intro hk
  apply h
  have all : ∀ a b : BitVec 1, a ||| b = 1 ↔ a = 1 ∨ b = 1 := by decide
  simp only [all]
  interval_cases u <;> simp only [hk, true_or, or_true]

/-- The masked keys of the block at position `p`, for the row with coordinates `bx`, `bY`, `bz` and squared norm `sq`. -/
def key (c : Coords F) (bx bY bz sq : Vec F S16 .f32) (p : ℕ) : Vec F S16 .f32 :=
  dist bx bY bz sq (blk c.x2 (by decide) p) (blk c.y2 (by decide) p) (blk c.z2 (by decide) p) (blk c.cs (by decide) p)

section Run

variable {d : Idealize.ShloMosaic.Dev nD} {i : grid0.Coords}
  {arg2 : Memref sig .scVector .hbm S16384 .f32} {harg2 : arg2.IsWhole} {arg3 : Memref sig .scVector .hbm S16384 .f32} {harg3 : arg3.IsWhole}
  {arg4 : Memref sig .scVector .hbm S16384 .f32} {harg4 : arg4.IsWhole} {arg5 : Memref sig .scVector .hbm S262144 .i32} {harg5 : arg5.IsWhole}
  {hx : (xV).IsWhole} {hy : (yV).IsWhole} {hz : (zV).IsWhole} {hx2 : (x2V).IsWhole} {hy2 : (y2V).IsWhole} {hz2 : (z2V).IsWhole} {hcs : (csV).IsWhole}
  {hbd : (bdV).IsWhole} {hbi : (biV).IsWhole} {hob : (obV).IsWhole} {htf : (tfV).IsWhole} {hti : (tiV).IsWhole}
  {r0 r1 r2 r3 : DmaSems sig S_}
  {c : Coords F} {bd : Vec F S224 .f32} {bi : Vec F S224 .i32} {ob : Vec F S8192 .i32} {tf : Vec F S16 .f32} {ti : Vec F S16 .i32}

theorem Runs.block_x2 {α : Type} {Φ : α → Mem F → Prop} {s : Mem F} {off : Fin 1 → ℕ} {inb : ∀ a, off a + S16.size a ≤ S4096.size a}
    {hl : (x2V).view.LoadsAt (Rect.unit (s := S4096) off S16.size inb).toLoadRect} {k : (S16.Idx → Elt F .f32) → Pg (F := F) i α}
    (h : Runs d i c s (k (blk c.x2 (by decide) (off 0))) Φ) :
    Runs d i c s (Prog.lift (.load x2V (Rect.unit (s := S4096) off S16.size inb).toLoadRect hl) >>= k) Φ :=
  Runs.load_x2 ((congrArg (fun w => Runs d i c s (k w) Φ) (rd_unit c.x2 (by decide) inb)).mpr h)

theorem Runs.block_y2 {α : Type} {Φ : α → Mem F → Prop} {s : Mem F} {off : Fin 1 → ℕ} {inb : ∀ a, off a + S16.size a ≤ S4096.size a}
    {hl : (y2V).view.LoadsAt (Rect.unit (s := S4096) off S16.size inb).toLoadRect} {k : (S16.Idx → Elt F .f32) → Pg (F := F) i α}
    (h : Runs d i c s (k (blk c.y2 (by decide) (off 0))) Φ) :
    Runs d i c s (Prog.lift (.load y2V (Rect.unit (s := S4096) off S16.size inb).toLoadRect hl) >>= k) Φ :=
  Runs.load_y2 ((congrArg (fun w => Runs d i c s (k w) Φ) (rd_unit c.y2 (by decide) inb)).mpr h)

theorem Runs.block_z2 {α : Type} {Φ : α → Mem F → Prop} {s : Mem F} {off : Fin 1 → ℕ} {inb : ∀ a, off a + S16.size a ≤ S4096.size a}
    {hl : (z2V).view.LoadsAt (Rect.unit (s := S4096) off S16.size inb).toLoadRect} {k : (S16.Idx → Elt F .f32) → Pg (F := F) i α}
    (h : Runs d i c s (k (blk c.z2 (by decide) (off 0))) Φ) :
    Runs d i c s (Prog.lift (.load z2V (Rect.unit (s := S4096) off S16.size inb).toLoadRect hl) >>= k) Φ :=
  Runs.load_z2 ((congrArg (fun w => Runs d i c s (k w) Φ) (rd_unit c.z2 (by decide) inb)).mpr h)

theorem Runs.block_cs {α : Type} {Φ : α → Mem F → Prop} {s : Mem F} {off : Fin 1 → ℕ} {inb : ∀ a, off a + S16.size a ≤ S4096.size a}
    {hl : (csV).view.LoadsAt (Rect.unit (s := S4096) off S16.size inb).toLoadRect} {k : (S16.Idx → Elt F .f32) → Pg (F := F) i α}
    (h : Runs d i c s (k (blk c.cs (by decide) (off 0))) Φ) :
    Runs d i c s (Prog.lift (.load csV (Rect.unit (s := S4096) off S16.size inb).toLoadRect hl) >>= k) Φ :=
  Runs.load_cs ((congrArg (fun w => Runs d i c s (k w) Φ) (rd_unit c.cs (by decide) inb)).mpr h)

attribute [local irreducible] Upd rankV gat rd blk

/-- What a trip, or the code after the loop, may leave of a pending chunk: taken in, or left alone if the count said it had
    no lane. -/
def Pended (panyc : BitVec 32) (de : ℕ → Vec F S16 .f32) (ms : ℕ → IVec S16 1) (base : BitVec 32) (s s' : St F) : Prop :=
  s'.pos.toNat ≤ 63 ∧ ((panyc.toNat = 0 ∧ s' = s) ∨ (panyc.toNat ≠ 0 ∧ Absorb de ms base s s'))

theorem Pended.keep {panyc : BitVec 32} {de : ℕ → Vec F S16 .f32} {ms : ℕ → IVec S16 1} {base pos pos' : BitVec 32}
    {tv bound : Vec F S16 .f32} {tx : Vec F S16 .i32} {bd bd' : Vec F S224 .f32} {bi bi' : Vec F S224 .i32}
    (hc : panyc.toNat ≠ 0) (hp : pos.toNat ≤ 63) (h2 : pos'.toNat ≤ 1000 → ¬ 64 ≤ pos'.toNat) (h : AppR de ms base bd bi pos 8 bd' bi' pos') :
    Pended panyc de ms base ⟨tv, tx, bound, pos, bd, bi⟩ ⟨tv, tx, bound, pos', bd', bi'⟩ :=
  have hl : pos'.toNat ≤ 63 := by have := h.len hp le_rfl; have := h2 (by omega); omega
  ⟨hl, .inr ⟨hc, .keep h hl⟩⟩

set_option maxHeartbeats 4000000 in
/-- A trip of the loop over chunks. -/
theorem t4_run {j : Fin k0_t3_loop.trips} {v48 v50 v52 v57 bx bY bz sq : FVec F S16 .f32} {n : Fin k0_t4_loop.trips} {z o : BitVec 32}
    {a21 a23 a26 a27 a28 a29 a30 a31 a32 a33 : FVec F S16 .f32} {a22 : IVec S16 32} {a24 a25 a42 : BitVec 32} {a34 a35 a36 a37 a38 a39 a40 a41 : IVec S16 1}
    (hp : a24.toNat ≤ 63) (hc : a25.toNat ≤ 16) :
    Runs d i c ⟨bd, bi, ob, tf, ti⟩
      (k0_t4_body i arg2 harg2 arg3 harg3 arg4 harg4 arg5 harg5 xV hx yV hy zV hz x2V hx2 y2V hy2 z2V hz2 csV hcs bdV hbd biV hbi obV hob
        tfV htf tiV hti r0 r1 r2 r3 lanes v48 v50 v52 v57 z o j bx bY bz sq n
        (a21, a22, a23, a24, a25, a26, a27, a28, a29, a30, a31, a32, a33, a34, a35, a36, a37, a38, a39, a40, a41, a42))
      (fun r m => ∃ s' tf' ti', m = ⟨s'.bd, s'.bi, ob, tf', ti'⟩
        ∧ Pended a25 (seq8 a26 a27 a28 a29 a30 a31 a32 a33) (seq8 a34 a35 a36 a37 a38 a39 a40 a41) a42 ⟨a21, a22, a23, a24, bd, bi⟩ s'
        ∧ r = (s'.tv, s'.tx, s'.bound, s'.pos, cnt (or8 (seq8 (cmpf .olt (key c bx bY bz sq (k0_off4 n 0#32 0)) a23) (cmpf .olt (key c bx bY bz sq (k0_off4 n 16#32 0)) a23) (cmpf .olt (key c bx bY bz sq (k0_off4 n 32#32 0)) a23) (cmpf .olt (key c bx bY bz sq (k0_off4 n 48#32 0)) a23) (cmpf .olt (key c bx bY bz sq (k0_off4 n 64#32 0)) a23) (cmpf .olt (key c bx bY bz sq (k0_off4 n 80#32 0)) a23) (cmpf .olt (key c bx bY bz sq (k0_off4 n 96#32 0)) a23) (cmpf .olt (key c bx bY bz sq (k0_off4 n 112#32 0)) a23))),
          key c bx bY bz sq (k0_off4 n 0#32 0), key c bx bY bz sq (k0_off4 n 16#32 0), key c bx bY bz sq (k0_off4 n 32#32 0), key c bx bY bz sq (k0_off4 n 48#32 0), key c bx bY bz sq (k0_off4 n 64#32 0), key c bx bY bz sq (k0_off4 n 80#32 0), key c bx bY bz sq (k0_off4 n 96#32 0), key c bx bY bz sq (k0_off4 n 112#32 0),
          cmpf .olt (key c bx bY bz sq (k0_off4 n 0#32 0)) a23, cmpf .olt (key c bx bY bz sq (k0_off4 n 16#32 0)) a23, cmpf .olt (key c bx bY bz sq (k0_off4 n 32#32 0)) a23, cmpf .olt (key c bx bY bz sq (k0_off4 n 48#32 0)) a23, cmpf .olt (key c bx bY bz sq (k0_off4 n 64#32 0)) a23, cmpf .olt (key c bx bY bz sq (k0_off4 n 80#32 0)) a23, cmpf .olt (key c bx bY bz sq (k0_off4 n 96#32 0)) a23, cmpf .olt (key c bx bY bz sq (k0_off4 n 112#32 0)) a23,
          Scalar.muli (Scf.iv 0#32 1#32 n) 128#32)) := by
  have hcond : k0_cond1 a25 = 1#1 ↔ 0 < a25.toNat := cond_sgt (by omega)
  unfold k0_t4_body
  rw [k0_part18_eq_skeleton, k0_part19_eq_skeleton, k0_part20_eq_skeleton]
  simp only []
  repeat first
    | with_reducible refine Runs.assoc ?_
    | with_reducible refine Runs.block_x2 ?_
    | with_reducible refine Runs.block_y2 ?_
    | with_reducible refine Runs.block_z2 ?_
    | with_reducible refine Runs.block_cs ?_
    | with_reducible refine Runs.pure_bind ?_
    | unfold k0_part18_skel
    | unfold k0_part19_skel
    | unfold k0_part20_skel
  refine Runs.ite (fun h1 => ?_) (fun h1 => ?_)
  rotate_left
  · exact Runs.ret ⟨⟨a21, a22, a23, a24, bd, bi⟩, tf, ti, rfl, ⟨hp, .inl ⟨by have := mt hcond.2 h1; omega, rfl⟩⟩, rfl⟩
  rw [k0_part15_eq_skeleton, k0_part16_eq_skeleton, k0_part17_eq_skeleton]
  repeat first
    | with_reducible refine Runs.assoc ?_
    | (with_reducible refine Runs.assume ?_ ?_
       · refine fun _ => inb_of_lt (slot_lt ?_)
         first
          | exact hp.trans (by decide)
          | (refine addi_cnt_le (n := 192) ?_ (by decide)
             first
              | exact hp.trans (by decide)
              | (refine addi_cnt_le (n := 176) ?_ (by decide)
                 first
                  | exact hp.trans (by decide)
                  | (refine addi_cnt_le (n := 160) ?_ (by decide)
                     first
                      | exact hp.trans (by decide)
                      | (refine addi_cnt_le (n := 144) ?_ (by decide)
                         first
                          | exact hp.trans (by decide)
                          | (refine addi_cnt_le (n := 128) ?_ (by decide)
                             first
                              | exact hp.trans (by decide)
                              | (refine addi_cnt_le (n := 112) ?_ (by decide)
                                 first
                                  | exact hp.trans (by decide)
                                  | (refine addi_cnt_le (n := 96) ?_ (by decide)
                                     exact hp.trans (by decide)))))))))
    | with_reducible refine Runs.scatter_bd fun bd' hbd' => ?_
    | with_reducible refine Runs.scatter_bi fun bi' hbi' => ?_
    | with_reducible refine Runs.pure_bind ?_
    | unfold k0_part15_skel
    | unfold k0_part16_skel
    | unfold k0_part17_skel
  refine Runs.ite (fun h2 => ?_) (fun h2 => ?_)
  · refine Runs.bind (Runs.mono (part14_run _ _ _ _ _ _ _ _ _ _ _ _ _ _ _) ?_)
    rintro _ ⟨bd', bi', ob', tf', ti'⟩ ⟨rfl, rfl, rfl, rfl, hF⟩
    refine Runs.load_ti ?_
    refine Runs.assume ?_ ?_
    · exact fun _ _ => inb_of_lt fun _ => by show (15#32 : BitVec 32).toNat < 16; decide
    refine Runs.load_tf ?_
    refine Runs.store_tf ?_
    refine Runs.gather_tf ?_
    refine Runs.ret ⟨⟨_, _, _, 0#32, _, _⟩, _, _, rfl, ⟨Nat.zero_le _, .inr ⟨by have := hcond.1 h1; omega, .flush ?_ hF⟩⟩, rfl⟩
    iterate 8
      apply AppR.step
      iterate 2 assumption
      iterate 7 exact rfl
    exact .zero
  · refine Runs.ret ⟨⟨_, _, _, _, _, _⟩, _, _, rfl,
      Pended.keep (by have := hcond.1 h1; omega) hp (fun hle => mt (cond_sge hle).2 h2) ?_, rfl⟩
    iterate 8
      apply AppR.step
      iterate 2 assumption
      iterate 7 exact rfl
    exact .zero

end Run

end Cert.Proof.Knn
-- ==== Proof.FlushEnd.lean ====
/-
  The flush after the loop over chunks, run: as the one inside it.
-/
module

public import proofs.«01_k».proof.Proof.Append

@[expose] public section

noncomputable section

namespace Cert.Proof.Knn

open Cert.KernelIdeal Cert.KernelIdeal.Gen

open Idealize.ShloMosaic
open Idealize.SL.Sem

variable {F : FTy → Type} [FloatOps F]

variable {d : Idealize.ShloMosaic.Dev nD} {i : grid0.Coords}
  {arg2 : Memref sig .scVector .hbm S16384 .f32} {harg2 : arg2.IsWhole} {arg3 : Memref sig .scVector .hbm S16384 .f32} {harg3 : arg3.IsWhole}
  {arg4 : Memref sig .scVector .hbm S16384 .f32} {harg4 : arg4.IsWhole} {arg5 : Memref sig .scVector .hbm S262144 .i32} {harg5 : arg5.IsWhole}
  {hx : (xV).IsWhole} {hy : (yV).IsWhole} {hz : (zV).IsWhole} {hx2 : (x2V).IsWhole} {hy2 : (y2V).IsWhole} {hz2 : (z2V).IsWhole} {hcs : (csV).IsWhole}
  {hbd : (bdV).IsWhole} {hbi : (biV).IsWhole} {hob : (obV).IsWhole} {htf : (tfV).IsWhole} {hti : (tiV).IsWhole}
  {r0 r1 r2 r3 : DmaSems sig S_}

attribute [local irreducible] Upd rankV gat rd

set_option maxHeartbeats 2000000 in
/-- A flush after the loop over chunks, of the last chunk. -/
theorem part34_run {c : Coords F} {bd : Vec F S224 .f32} {bi : Vec F S224 .i32} {ob : Vec F S8192 .i32}
    {tf : Vec F S16 .f32} {ti : Vec F S16 .i32} (tv : FVec F S16 .f32) (tx : IVec S16 32)
    (arg24 arg25 : BitVec 32) (k0_h1 : k0_cond3 arg25 = 1#1) (v698 v718 v738 v758 v778 v798 v818 v838 pos : BitVec 32)
    (k0_h2 : k0_cond4 arg24 v698 v718 v738 v758 v778 v798 v818 v838 = 1#1) :
    Runs d i c ⟨bd, bi, ob, tf, ti⟩
      (k0_part34 i arg2 harg2 arg3 harg3 arg4 harg4 arg5 harg5 xV hx yV hy zV hz x2V hx2 y2V hy2 z2V hz2 csV hcs bdV hbd biV hbi obV hob
        tfV htf tiV hti r0 r1 r2 r3 lanes tv tx arg24 arg25 k0_h1 v698 v718 v738 v758 v778 v798 v818 v838 pos k0_h2)
      (fun r s => r = s.tf ∧ s.bd = bd ∧ s.bi = bi ∧ s.ob = ob ∧ FlushR bd bi pos tv tx s.tf s.ti) := by
  rw [k0_part34_eq_skeleton]; unfold k0_part34_skel
  rw [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  repeat first
    | with_reducible refine Runs.assoc ?_
    | with_reducible refine Runs.load_tf ?_
    | with_reducible refine Runs.load_ti ?_
    | with_reducible refine Runs.store_tf ?_
    | with_reducible refine Runs.store_ti ?_
    | with_reducible refine Runs.load_bd ?_
    | with_reducible refine Runs.load_bi ?_
    | (refine Runs.rank rfl rfl (fun n acc Ψ hn hΨ => ?_) ?_
       on_goal 1 =>
        refine Runs.assume ?_ ?_
        · exact fun _ _ => inb_of_lt (iv_lt hn)
        with_reducible refine Runs.gather_tf ?_
        exact Runs.ret hΨ)
    | (with_reducible refine Runs.assume ?_ ?_
       · first
          | exact ⟨fun _ _ => inb_of_lt (rankV_lt (F := F) _), fun _ _ => inb_of_lt (rankV_lt (F := F) _)⟩
          | exact fun _ _ => inb_of_lt rev_lt)
    | with_reducible refine Runs.scatter_tf fun tf' htf' => ?_
    | with_reducible refine Runs.scatter_ti fun ti' hti' => ?_
    | with_reducible refine Runs.gather_tf ?_
    | with_reducible refine Runs.gather_ti ?_
    | with_reducible refine Runs.pure_bind ?_
    | unfold k0_part21_skel
    | unfold k0_part22_skel
    | unfold k0_part23_skel
    | unfold k0_part24_skel
    | unfold k0_part25_skel
    | unfold k0_part26_skel
    | unfold k0_part27_skel
    | unfold k0_part28_skel
    | unfold k0_part29_skel
    | unfold k0_part30_skel
    | unfold k0_part31_skel
    | unfold k0_part32_skel
    | unfold k0_part33_skel
  refine Runs.ret ⟨rfl, rfl, rfl, rfl, ?_⟩
  dsimp only
  apply FlushR.mk'
  iterate 2 assumption
  iterate 4 exact rfl
  iterate 2
    apply Tour.node'
    iterate 2 assumption
    iterate 4 exact rfl
  iterate 3
    apply Tour.node'
    iterate 2 assumption
    iterate 4 exact rfl
    iterate 2
      apply Tour.node'
      iterate 2 assumption
      iterate 4 exact rfl
      iterate 2
        apply Tour.leaf'
        iterate 2 assumption
        iterate 4 exact rfl

end Cert.Proof.Knn
-- ==== Proof.Chunks.lean ====
/-
  The loop over chunks and what follows it, run: a row's point spread over a register, the thirty-two chunks, and the last
  chunk taken in.
-/
module

public import proofs.«01_k».proof.Proof.Chunk
public import proofs.«01_k».proof.Proof.FlushEnd

@[expose] public section

noncomputable section

namespace Cert.Proof.Knn

open Cert.KernelIdeal Cert.KernelIdeal.Gen

open Idealize.ShloMosaic
open Idealize.SL.Sem

variable {F : FTy → Type} [FloatOps F]

/-- A row's masked keys, by chunk and block. -/
def keysOf (c : Coords F) (bx bY bz sq : Vec F S16 .f32) (n u : ℕ) : Vec F S16 .f32 := key c bx bY bz sq (128 * n + 16 * u)

theorem off4_eq (n : Fin k0_t4_loop.trips) (u : ℕ) (hu : u < 8) : k0_off4 n (BitVec.ofNat 32 (16 * u)) 0 = 128 * n.val + 16 * u := by
  have hn : n.val < 32 := n.isLt
  show ((Scf.iv 0#32 1#32 n.val * 128#32) + BitVec.ofNat 32 (16 * u)).toNat = _
  simp only [Scf.iv, BitVec.toNat_add, BitVec.toNat_mul, BitVec.toNat_ofNat]
  omega

theorem base_eq (n : Fin k0_t4_loop.trips) : Scalar.muli (Scf.iv 0#32 1#32 n.val) 128#32 = BitVec.ofNat 32 (128 * n.val) := by
  have hn : n.val < 32 := n.isLt
  apply BitVec.eq_of_toNat_eq
  show (Scf.iv 0#32 1#32 n.val * 128#32).toNat = _
  simp only [Scf.iv, BitVec.toNat_add, BitVec.toNat_mul, BitVec.toNat_ofNat]
  omega

theorem Pended.absorb {de : ℕ → Vec F S16 .f32} {ms : ℕ → IVec S16 1} {base : BitVec 32} {s s' : St F}
    (h : Pended (cnt (or8 ms)) de ms base s s') : Absorb de ms base s s' := by
  rcases h.2 with ⟨h0, rfl⟩ | ⟨-, h⟩
  · rw [cnt_toNat] at h0
    exact .none (or8_none h0)
  · exact h

section Carry

variable (de : ℕ → ℕ → Vec F S16 .f32) (bd : Vec F S224 .f32) (bi : Vec F S224 .i32) (ob : Vec F S8192 .i32)

/-- What the loop over chunks carries into trip `n`, with the memory then: chunk `n - 1` pending. -/
inductive Carry : ℕ → FVec F S16 .f32 × IVec S16 32 × FVec F S16 .f32 × BitVec 32 × BitVec 32 × FVec F S16 .f32 × FVec F S16 .f32 × FVec F S16 .f32 × FVec F S16 .f32 × FVec F S16 .f32 × FVec F S16 .f32 × FVec F S16 .f32 × FVec F S16 .f32 × IVec S16 1 × IVec S16 1 × IVec S16 1 × IVec S16 1 × IVec S16 1 × IVec S16 1 × IVec S16 1 × IVec S16 1 × BitVec 32 → Mem F → Prop
  | init {tf ti d0 d1 d2 d3 d4 d5 d6 d7 m0 m1 m2 m3 m4 m5 m6 m7} :
      Carry 0 (infV, lanes, infV, 0#32, 0#32, d0, d1, d2, d3, d4, d5, d6, d7, m0, m1, m2, m3, m4, m5, m6, m7, 0#32) ⟨bd, bi, ob, tf, ti⟩
  | step {n s b tf ti} (h : Reach de bd bi n s b) (hp : s.pos.toNat ≤ 63) :
      Carry (n + 1) (s.tv, s.tx, s.bound, s.pos, cnt (or8 (maskOf de n b)), de n 0, de n 1, de n 2, de n 3, de n 4, de n 5, de n 6, de n 7,
        maskOf de n b 0, maskOf de n b 1, maskOf de n b 2, maskOf de n b 3, maskOf de n b 4, maskOf de n b 5, maskOf de n b 6, maskOf de n b 7, BitVec.ofNat 32 (128 * n)) ⟨s.bd, s.bi, ob, tf, ti⟩

end Carry

section Run

variable {d : Idealize.ShloMosaic.Dev nD} {i : grid0.Coords}
  {arg2 : Memref sig .scVector .hbm S16384 .f32} {harg2 : arg2.IsWhole} {arg3 : Memref sig .scVector .hbm S16384 .f32} {harg3 : arg3.IsWhole}
  {arg4 : Memref sig .scVector .hbm S16384 .f32} {harg4 : arg4.IsWhole} {arg5 : Memref sig .scVector .hbm S262144 .i32} {harg5 : arg5.IsWhole}
  {hx : (xV).IsWhole} {hy : (yV).IsWhole} {hz : (zV).IsWhole} {hx2 : (x2V).IsWhole} {hy2 : (y2V).IsWhole} {hz2 : (z2V).IsWhole} {hcs : (csV).IsWhole}
  {hbd : (bdV).IsWhole} {hbi : (biV).IsWhole} {hob : (obV).IsWhole} {htf : (tfV).IsWhole} {hti : (tiV).IsWhole}
  {r0 r1 r2 r3 : DmaSems sig S_}
  {c : Coords F} {bd : Vec F S224 .f32} {bi : Vec F S224 .i32} {ob : Vec F S8192 .i32} {tf : Vec F S16 .f32} {ti : Vec F S16 .i32}

theorem Carry.trip {j : Fin k0_t3_loop.trips} {v48 v50 v52 v57 bx bY bz sq : FVec F S16 .f32} (t : Fin k0_t4_loop.trips) {z o : BitVec 32} {v m}
    (h : Carry (keysOf c bx bY bz sq) bd bi ob t.val v m) :
    Runs d i c m (k0_t4_body i arg2 harg2 arg3 harg3 arg4 harg4 arg5 harg5 xV hx yV hy zV hz x2V hx2 y2V hy2 z2V hz2 csV hcs bdV hbd biV hbi obV hob
        tfV htf tiV hti r0 r1 r2 r3 lanes v48 v50 v52 v57 z o j bx bY bz sq t v) (Carry (keysOf c bx bY bz sq) bd bi ob (t.val + 1)) := by
  have e := off4_eq t
  have ho : k0_off4 t 0#32 0 = 128 * t.val + 16 * 0 ∧ k0_off4 t 16#32 0 = 128 * t.val + 16 * 1 ∧ k0_off4 t 32#32 0 = 128 * t.val + 16 * 2 ∧ k0_off4 t 48#32 0 = 128 * t.val + 16 * 3 ∧ k0_off4 t 64#32 0 = 128 * t.val + 16 * 4 ∧ k0_off4 t 80#32 0 = 128 * t.val + 16 * 5 ∧ k0_off4 t 96#32 0 = 128 * t.val + 16 * 6 ∧ k0_off4 t 112#32 0 = 128 * t.val + 16 * 7 :=
    ⟨e 0 (by decide), e 1 (by decide), e 2 (by decide), e 3 (by decide), e 4 (by decide), e 5 (by decide), e 6 (by decide), e 7 (by decide)⟩
  obtain ⟨o0, o1, o2, o3, o4, o5, o6, o7⟩ := ho
  generalize hn : t.val = n at h
  cases h with
  | init =>
    refine (t4_run (by decide) (by decide)).mono ?_
    rintro _ _ ⟨s', tf', ti', rfl, hP, rfl⟩
    obtain ⟨-, ⟨-, rfl⟩ | ⟨h0, -⟩⟩ := hP
    · rw [o0, o1, o2, o3, o4, o5, o6, o7, base_eq, hn]
      exact Carry.step (de := keysOf c bx bY bz sq) .zero (Nat.zero_le _)
    · exact absurd rfl h0
  | step hr hp =>
    refine (t4_run hp (by rw [cnt_toNat]; exact cntAll_le _)).mono ?_
    rintro _ _ ⟨s', tf', ti', rfl, hP, rfl⟩
    rw [o0, o1, o2, o3, o4, o5, o6, o7, base_eq, hn]
    refine Carry.step (de := keysOf c bx bY bz sq) (.succ hr (Absorb.congr (de := seq8 _ _ _ _ _ _ _ _) (ms := seq8 _ _ _ _ _ _ _ _) ?_ ?_ hP.absorb)) hP.1
    · intro u hu; interval_cases u <;> rfl
    · intro u hu; interval_cases u <;> rfl

attribute [local irreducible] Upd rankV gat rd

/-- The splat of lane `j` of a register. -/
abbrev splat (v : Vec F S16 .f32) (j : ℕ) : Vec F S16 .f32 := gat v (broadcast S16 (Scf.iv 0#32 1#32 j))

/-- The keys of row `j` of the group whose coordinates are `x`, `y`, `z`. -/
def rowKeys (c : Coords F) (x y z : Vec F S16 .f32) (j : ℕ) : ℕ → ℕ → Vec F S16 .f32 :=
  keysOf c (splat (k0_pay5 x) j) (splat (k0_pay6 y) j) (splat (k0_pay7 z) j) (splat (k0_pay8 x y z) j)

set_option maxHeartbeats 4000000 in
/-- A row up to the last chunk taken in. -/
theorem part38_run {x y z : Vec F S16 .f32} (j : Fin k0_t3_loop.trips) :
    Runs d i c ⟨bd, bi, ob, tf, ti⟩
      (k0_part38 i arg2 harg2 arg3 harg3 arg4 harg4 arg5 harg5 xV hx yV hy zV hz x2V hx2 y2V hy2 z2V hz2 csV hcs bdV hbd biV hbi obV hob
        tfV htf tiV hti r0 r1 r2 r3 lanes (k0_pay5 x) (k0_pay6 y) (k0_pay7 z) (k0_pay8 x y z) 0#32 1#32 j)
      (fun r m => ∃ s b s' tf' ti', Reach (rowKeys c x y z j) bd bi 31 s b
        ∧ Absorb (rowKeys c x y z j 31) (maskOf (rowKeys c x y z j) 31 b) (BitVec.ofNat 32 (128 * 31)) s s'
        ∧ m = ⟨s'.bd, s'.bi, ob, tf', ti'⟩
        ∧ r = ⟨Scf.iv 0#32 1#32 j, s'.tv, s'.tx, s'.pos, rd (Rect.unit (s := S224) ![0] S16.size inb_S224_S16_0).toLoadRect s'.bd,
          rd (Rect.unit (s := S224) ![0] S16.size inb_S224_S16_0).toLoadRect s'.bi, k0_pay343 lanes s'.pos⟩) := by
  have hj : j.val < 16 := j.isLt
  rw [k0_part38_eq_skeleton]; unfold k0_part38_skel
  repeat first
    | (with_reducible refine Runs.assume ?_ ?_
       · exact inb_of_lt (iv_lt hj))
    | with_reducible refine Runs.load_tf ?_
    | with_reducible refine Runs.store_tf ?_
    | with_reducible refine Runs.gather_tf ?_
  refine Runs.loop (Carry (rowKeys c x y z j) bd bi ob) (.init) (fun t b s h => Carry.trip t h) ?_
  intro v m hv
  change Carry _ bd bi ob (31 + 1) v m at hv
  cases hv with
  | step hr hp =>
  rename_i s b tf ti
  have hP : ∀ s', Pended (cnt (or8 (maskOf (rowKeys c x y z j) 31 b))) (seq8 (rowKeys c x y z j 31 0) (rowKeys c x y z j 31 1) (rowKeys c x y z j 31 2) (rowKeys c x y z j 31 3) (rowKeys c x y z j 31 4) (rowKeys c x y z j 31 5) (rowKeys c x y z j 31 6) (rowKeys c x y z j 31 7))
      (seq8 (maskOf (rowKeys c x y z j) 31 b 0) (maskOf (rowKeys c x y z j) 31 b 1) (maskOf (rowKeys c x y z j) 31 b 2) (maskOf (rowKeys c x y z j) 31 b 3) (maskOf (rowKeys c x y z j) 31 b 4) (maskOf (rowKeys c x y z j) 31 b 5) (maskOf (rowKeys c x y z j) 31 b 6) (maskOf (rowKeys c x y z j) 31 b 7)) (BitVec.ofNat 32 (128 * 31)) s s' →
      Absorb (rowKeys c x y z j 31) (maskOf (rowKeys c x y z j) 31 b) (BitVec.ofNat 32 (128 * 31)) s s' := by
    intro s' h
    refine Absorb.congr (de := seq8 _ _ _ _ _ _ _ _) (ms := seq8 _ _ _ _ _ _ _ _) ?_ ?_ h.absorb
    · intro u hu; interval_cases u <;> rfl
    · intro u hu; interval_cases u <;> rfl
  have hc : (cnt (or8 (maskOf (rowKeys c x y z j) 31 b))).toNat ≤ 16 := by rw [cnt_toNat]; exact cntAll_le _
  simp only []
  obtain ⟨tv, tx, bound, pos, bd1, bi1⟩ := s
  generalize cnt (or8 (maskOf (rowKeys c x y z j) 31 b)) = panyc at hP hc ⊢
  have hcond : k0_cond3 panyc = 1#1 ↔ 0 < panyc.toNat := cond_sgt (by omega)
  refine Runs.ite (fun h1 => ?_) (fun h1 => ?_)
  rotate_left
  · refine Runs.load_bd ?_
    refine Runs.load_bi ?_
    exact Runs.ret ⟨_, _, _, _, _, hr, hP _ ⟨hp, .inl ⟨by have := mt hcond.2 h1; omega, rfl⟩⟩, rfl, rfl⟩
  rw [k0_part35_eq_skeleton, k0_part36_eq_skeleton, k0_part37_eq_skeleton]
  have hp' : pos.toNat ≤ 63 := hp
  repeat first
    | with_reducible refine Runs.assoc ?_
    | (with_reducible refine Runs.assume ?_ ?_
       · refine fun _ => inb_of_lt (slot_lt ?_)
         first
          | exact hp'.trans (by decide)
          | (refine addi_cnt_le (n := 192) ?_ (by decide)
             first
              | exact hp'.trans (by decide)
              | (refine addi_cnt_le (n := 176) ?_ (by decide)
                 first
                  | exact hp'.trans (by decide)
                  | (refine addi_cnt_le (n := 160) ?_ (by decide)
                     first
                      | exact hp'.trans (by decide)
                      | (refine addi_cnt_le (n := 144) ?_ (by decide)
                         first
                          | exact hp'.trans (by decide)
                          | (refine addi_cnt_le (n := 128) ?_ (by decide)
                             first
                              | exact hp'.trans (by decide)
                              | (refine addi_cnt_le (n := 112) ?_ (by decide)
                                 first
                                  | exact hp'.trans (by decide)
                                  | (refine addi_cnt_le (n := 96) ?_ (by decide)
                                     exact hp'.trans (by decide)))))))))
    | with_reducible refine Runs.scatter_bd fun bd' hbd' => ?_
    | with_reducible refine Runs.scatter_bi fun bi' hbi' => ?_
    | with_reducible refine Runs.pure_bind ?_
    | unfold k0_part35_skel
    | unfold k0_part36_skel
    | unfold k0_part37_skel
  refine Runs.ite (fun h2 => ?_) (fun h2 => ?_)
  · refine Runs.bind (Runs.mono (part34_run _ _ _ _ _ _ _ _ _ _ _ _ _ _ _) ?_)
    rintro _ ⟨bd', bi', ob', tf', ti'⟩ ⟨rfl, rfl, rfl, rfl, hF⟩
    refine Runs.load_ti ?_
    refine Runs.assume ?_ ?_
    · exact fun _ _ => inb_of_lt fun _ => by show (15#32 : BitVec 32).toNat < 16; decide
    refine Runs.load_tf ?_
    refine Runs.store_tf ?_
    refine Runs.gather_tf ?_
    refine Runs.load_bd ?_
    refine Runs.load_bi ?_
    refine Runs.ret ⟨_, _, ⟨_, _, _, 0#32, _, _⟩, _, _, hr, hP _ ⟨Nat.zero_le _, .inr ⟨by have := hcond.1 h1; omega, .flush ?_ hF⟩⟩, rfl, rfl⟩
    iterate 8
      apply AppR.step
      iterate 2 assumption
      iterate 7 exact rfl
    exact .zero
  · refine Runs.load_bd ?_
    refine Runs.load_bi ?_
    refine Runs.ret ⟨_, _, ⟨_, _, _, _, _, _⟩, _, _, hr,
      hP _ (Pended.keep (by have := hcond.1 h1; omega) hp' (fun hle => mt (cond_sge hle).2 h2) ?_), rfl, rfl⟩
    iterate 8
      apply AppR.step
      iterate 2 assumption
      iterate 7 exact rfl
    exact .zero

end Run

end Cert.Proof.Knn
-- ==== Proof.Put.lean ====
/-
  A register stored into a rank-one buffer (`put`), and the loop that prepares the scaled coordinates and the squared norms,
  run.
-/
module

public import proofs.«01_k».proof.Proof.Words

@[expose] public section

noncomputable section

namespace Cert.Proof.Knn

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (Idealize.ShloMosaic.SparseCore.Cfg.HIx 1) (Elt F) ℕ UU ℕ

/-- `f` with the register `w` at position `p`. -/
def put {n : ℕ} {e : EltTy} (f : Vec F ⟨1, ![n]⟩ e) (p : ℕ) (w : Vec F S16 e) : Vec F ⟨1, ![n]⟩ e :=
  fun y => if p ≤ (y 0).val ∧ (y 0).val < p + 16 then w (ln ⟨((y 0).val - p) % 16, Nat.mod_lt _ (by decide)⟩) else f y

theorem put_hit {n : ℕ} {e : EltTy} (f : Vec F ⟨1, ![n]⟩ e) (p : ℕ) (w : Vec F S16 e) (q : Fin n) (k : Fin 16) (h : q.val = p + k.val) :
    wd (put f p w) q = w (ln k) := by
  unfold wd put
  rw [if_pos ⟨by show p ≤ q.val; omega, by show q.val < p + 16; omega⟩]
  congr 2
  apply Fin.ext
  show (q.val - p) % 16 = k.val
  omega

theorem put_miss {n : ℕ} {e : EltTy} (f : Vec F ⟨1, ![n]⟩ e) (p : ℕ) (w : Vec F S16 e) (q : Fin n) (h : q.val < p ∨ p + 16 ≤ q.val) :
    wd (put f p w) q = wd f q := by
  unfold wd put
  rw [if_neg]
  rintro ⟨h1, h2⟩
  have h1' : p ≤ q.val := h1
  have h2' : q.val < p + 16 := h2
  omega

theorem put_write {sp : CoreSpace} {n : ℕ} {e : EltTy} (v : View sig .scVector sp ⟨1, ![n]⟩ e) {off : Fin 1 → ℕ}
    (inb : ∀ a, off a + S16.size a ≤ (⟨1, ![n]⟩ : Shape).size a) (f : v.ty.Contents (Elt F)) (w : S16.Idx → Elt F e) :
    v.read (Elt F) ((v.slice (Rect.unit (s := ⟨1, ![n]⟩) off S16.size inb)).write (Elt F) f w Finset.univ)
      = put (F := F) (v.read (Elt F) f) (off 0) w := by
  funext y
  unfold put
  split
  · rename_i h
    refine View.read_writes_cons_hit_of_coords v f (Rect.unit (s := ⟨1, ![n]⟩) off S16.size inb) w [] _ y fun a => ?_
    obtain rfl : a = 0 := Subsingleton.elim _ _
    show (y 0).val = off 0 + 1 * (((y 0).val - off 0) % 16)
    omega
  · rename_i h
    refine View.read_writes_cons_miss_of_axis v f ⟨Rect.unit (s := ⟨1, ![n]⟩) off S16.size inb, w⟩ [] y 0 (off 0) 16 rfl rfl rfl ?_
    omega

variable [FloatOps F] {d : Dev nD} {i : grid0.Coords} {α β : Type} {c : Coords F} {s : Mem F}

theorem Runs.store_ob {bd : Vec F S224 .f32} {bi : Vec F S224 .i32} {ob : Vec F S8192 .i32} {tf : Vec F S16 .f32} {ti : Vec F S16 .i32}
    {Φ : α → Mem F → Prop} {off : Fin 1 → ℕ} {inb : ∀ a, off a + S16.size a ≤ S8192.size a} {w : S16.Idx → Elt F .i32}
    {hx : ((obV).access (Rect.unit (s := S8192) off S16.size inb)).Stores Finset.univ}
    {hm : (Finset.univ : Finset S16.Idx) = Finset.univ ∨ ∀ a, (Rect.unit (s := S8192) off S16.size inb).stride a = 1} {k : PUnit → Pg (F := F) i α}
    (h : Runs d i c ⟨bd, bi, put ob (off 0) w, tf, ti⟩ (k ⟨⟩) Φ) :
    Runs d i c ⟨bd, bi, ob, tf, ti⟩ (Prog.lift (.store obV (Rect.unit (s := S8192) off S16.size inb) w Finset.univ hx hm) >>= k) Φ :=
  store_step (f := ob) (f' := put ob (off 0) w) (put_write (F := F) (obV).view inb ob w) (own_ob _) h

/-! ## The seven arrays prepared -/

/-- From the coordinates `c` and the memory `s`, `p` runs to a value and coordinates satisfying `Φ`, `s` unchanged. -/
def Preps (d : Dev nD) (i : grid0.Coords) (s : Mem F) (c : Coords F) (p : Pg (F := F) i α) (Φ : α → Coords F → Prop) : Prop :=
  Own d i c s ⊢ wp (M := 𝕄) frame (wpE (defs₀ (F := F)) 𝒱₀ (thr d i) none) Set.univ p
    fun a => iprop(∃ c', ⌜Φ a c'⌝ ∗ Own d i c' s)

variable {Φ : α → Coords F → Prop}

theorem Preps.ret {a : α} (h : Φ a c) : Preps d i s c (pure a : Pg (F := F) i α) Φ := by
  unfold Preps
  refine BIBase.Entails.trans ?_ (le_wp_ret _ _ _ _ _)
  iintro H
  iexists c
  isplitr
  · ipureintro; exact h
  · iexact H

theorem Preps.load {cs : CoreSpace} {s' : Shape} {e : EltTy} {m : Memref sig .scVector cs s' e} {r : LoadRect s'}
    {hl : m.view.LoadsAt r} {k : (r.shape.Idx → Elt F e) → Pg (F := F) i α} {f : Buf (Elt F) (m.view.loc (thr d i))}
    (ho : Own d i c s ⊢ iprop((m.view.loc (thr d i) ↦{fullShare} f) ∗ ((m.view.loc (thr d i) ↦{fullShare} f) -∗ Own d i c s)))
    (h : Preps d i s c (k (m.view.readAt (Elt F) r f)) Φ) : Preps d i s c (Prog.lift (.load m r hl) >>= k) Φ := by
  refine BIBase.Entails.trans ho ?_
  iintro ⟨H, Hc⟩
  iapply (wp_load (defs := defs₀ (F := F)) 𝒱₀ (thr d i) none Set.univ (m := m) (r := r) (hl := hl) (k := k) (f := f) (q := fullShare)
    (S := Finset.univ) (Finset.subset_univ _)) $$ H
  iintro H
  ihave H := Hc $$ H
  iapply (show Own d i c _ ⊢ _ from h)
  iexact H

theorem Preps.store {sp : CoreSpace} {n : ℕ} {e : EltTy} {m : Memref sig .scVector sp ⟨1, ![n]⟩ e} {off : Fin 1 → ℕ}
    {inb : ∀ a, off a + S16.size a ≤ (⟨1, ![n]⟩ : Shape).size a} {w : S16.Idx → Elt F e}
    {hx : (m.access (Rect.unit (s := ⟨1, ![n]⟩) off S16.size inb)).Stores Finset.univ}
    {hm : (Finset.univ : Finset S16.Idx) = Finset.univ ∨ ∀ a, (Rect.unit (s := ⟨1, ![n]⟩) off S16.size inb).stride a = 1}
    {k : PUnit → Pg (F := F) i α} {f f' : Buf (Elt F) (m.view.loc (thr d i))} {c' : Coords F}
    (hw : (m.access (Rect.unit (s := ⟨1, ![n]⟩) off S16.size inb)).write (Elt F) f w Finset.univ = f')
    (ho : Own d i c s ⊢ iprop((m.view.loc (thr d i) ↦{fullShare} f) ∗ ((m.view.loc (thr d i) ↦{fullShare} f') -∗ Own d i c' s)))
    (h : Preps d i s c' (k ⟨⟩) Φ) :
    Preps d i s c (Prog.lift (.store m (Rect.unit (s := ⟨1, ![n]⟩) off S16.size inb) w Finset.univ hx hm) >>= k) Φ := by
  subst hw
  refine BIBase.Entails.trans ho ?_
  iintro ⟨H, Hc⟩
  iapply (wp_store (defs := defs₀ (F := F)) 𝒱₀ (thr d i) none Set.univ (m := m) (w := w) (hx := hx) (hm := hm) (k := k) (f := f)
    (S := Finset.univ) (Finset.subset_univ _)) $$ H
  iintro H
  ihave H := Hc $$ H
  iapply (show Own d i c' _ ⊢ _ from h)
  iexact H

theorem own_x2 {x y z x2 y2 z2 cs : Vec F S4096 .f32} (f' : Vec F S4096 .f32) : Own d i ⟨x, y, z, x2, y2, z2, cs⟩ s
    ⊢ iprop(pts d i (b := cc0_scratch3) x2 ∗ (pts d i (b := cc0_scratch3) f' -∗ Own d i ⟨x, y, z, f', y2, z2, cs⟩ s)) := by
  unfold Own
  dsimp only
  iterate 3 refine focus_tl ?_
  exact focus_hd

theorem own_y2 {x y z x2 y2 z2 cs : Vec F S4096 .f32} (f' : Vec F S4096 .f32) : Own d i ⟨x, y, z, x2, y2, z2, cs⟩ s
    ⊢ iprop(pts d i (b := cc0_scratch4) y2 ∗ (pts d i (b := cc0_scratch4) f' -∗ Own d i ⟨x, y, z, x2, f', z2, cs⟩ s)) := by
  unfold Own
  dsimp only
  iterate 4 refine focus_tl ?_
  exact focus_hd

theorem own_z2 {x y z x2 y2 z2 cs : Vec F S4096 .f32} (f' : Vec F S4096 .f32) : Own d i ⟨x, y, z, x2, y2, z2, cs⟩ s
    ⊢ iprop(pts d i (b := cc0_scratch5) z2 ∗ (pts d i (b := cc0_scratch5) f' -∗ Own d i ⟨x, y, z, x2, y2, f', cs⟩ s)) := by
  unfold Own
  dsimp only
  iterate 5 refine focus_tl ?_
  exact focus_hd

theorem own_cs {x y z x2 y2 z2 cs : Vec F S4096 .f32} (f' : Vec F S4096 .f32) : Own d i ⟨x, y, z, x2, y2, z2, cs⟩ s
    ⊢ iprop(pts d i (b := cc0_scratch6) cs ∗ (pts d i (b := cc0_scratch6) f' -∗ Own d i ⟨x, y, z, x2, y2, z2, f'⟩ s)) := by
  unfold Own
  dsimp only
  iterate 6 refine focus_tl ?_
  exact focus_hd

section Body

variable {arg2 : Memref sig .scVector .hbm S16384 .f32} {harg2 : arg2.IsWhole} {arg3 : Memref sig .scVector .hbm S16384 .f32} {harg3 : arg3.IsWhole}
  {arg4 : Memref sig .scVector .hbm S16384 .f32} {harg4 : arg4.IsWhole} {arg5 : Memref sig .scVector .hbm S262144 .i32} {harg5 : arg5.IsWhole}
  {hx : (xV).IsWhole} {hy : (yV).IsWhole} {hz : (zV).IsWhole} {hx2 : (x2V).IsWhole} {hy2 : (y2V).IsWhole} {hz2 : (z2V).IsWhole} {hcs : (csV).IsWhole}
  {hbd : (bdV).IsWhole} {hbi : (biV).IsWhole} {hob : (obV).IsWhole} {htf : (tfV).IsWhole} {hti : (tiV).IsWhole}
  {r0 r1 r2 r3 : DmaSems sig S_}

/-- The register of `f` at a trip's position. -/
abbrev at1 (n : Fin k0_t1_loop.trips) (f : Vec F S4096 .f32) : Vec F S16 .f32 :=
  rd (Rect.unit (s := S4096) (k0_off2 n) S16.size (k0_off2_inb n)).toLoadRect f

/-- One trip of the preparation. -/
def prepStep (n : Fin k0_t1_loop.trips) (c : Coords F) : Coords F :=
  ⟨c.x, c.y, c.z, put c.x2 (k0_off2 n 0) (k0_pay1 (at1 n c.x)), put c.y2 (k0_off2 n 0) (k0_pay2 (at1 n c.y)),
    put c.z2 (k0_off2 n 0) (k0_pay3 (at1 n c.z)), put c.cs (k0_off2 n 0) (k0_pay4 (at1 n c.x) (at1 n c.y) (at1 n c.z))⟩

theorem t1_run (n : Fin k0_t1_loop.trips) : Preps d i s c
    (k0_t1_body i arg2 harg2 arg3 harg3 arg4 harg4 arg5 harg5 xV hx yV hy zV hz x2V hx2 y2V hy2 z2V hz2 csV hcs bdV hbd biV hbi obV hob
      tfV htf tiV hti r0 r1 r2 r3 n ⟨⟩) (fun _ c' => c' = prepStep n c) := by
  obtain ⟨x, y, z, x2, y2, z2, cs⟩ := c
  unfold k0_t1_body
  refine Preps.load (f := x) focus_hd ?_
  refine Preps.load (f := y) (focus_tl focus_hd) ?_
  refine Preps.load (f := z) (focus_tl (focus_tl focus_hd)) ?_
  refine Preps.load (f := x2) (own_x2 _) ?_
  refine Preps.store (f := x2) (put_write (F := F) (x2V).view _ x2 _) (own_x2 _) ?_
  refine Preps.load (f := y2) (own_y2 _) ?_
  refine Preps.store (f := y2) (put_write (F := F) (y2V).view _ y2 _) (own_y2 _) ?_
  refine Preps.load (f := z2) (own_z2 _) ?_
  refine Preps.store (f := z2) (put_write (F := F) (z2V).view _ z2 _) (own_z2 _) ?_
  refine Preps.load (f := cs) (own_cs _) ?_
  refine Preps.store (f := cs) (put_write (F := F) (csV).view _ cs _) (own_cs _) ?_
  exact Preps.ret rfl

/-- A coordinate as the distances read it: rounded, and scaled by −2. -/
def scaled (a : F .f32) : F .f32 := k0_pay1 (fun _ => a) (ln 0)
/-- A point's squared norm. -/
def normSq (a b c : F .f32) : F .f32 := k0_pay4 (fun _ => a) (fun _ => b) (fun _ => c) (ln 0)

/-- The positions below `N` are prepared, from the coordinates `x`, `y`, `z`. -/
structure ReadyTo (x y z : Vec F S4096 .f32) (N : ℕ) (c : Coords F) : Prop where
  hx : c.x = x
  hy : c.y = y
  hz : c.z = z
  x2 : ∀ q : Fin 4096, q.val < N → wd c.x2 q = scaled (wd x q)
  y2 : ∀ q : Fin 4096, q.val < N → wd c.y2 q = scaled (wd y q)
  z2 : ∀ q : Fin 4096, q.val < N → wd c.z2 q = scaled (wd z q)
  cs : ∀ q : Fin 4096, q.val < N → wd c.cs q = normSq (wd x q) (wd y q) (wd z q)

theorem off2_eq (n : Fin k0_t1_loop.trips) : k0_off2 n 0 = 16 * n.val := by
  have hn : n.val < 256 := n.isLt
  show (Scf.iv 0#32 1#32 n.val * 16#32).toNat = _
  simp only [Scf.iv, BitVec.toNat_add, BitVec.toNat_mul, BitVec.toNat_ofNat]
  omega

theorem at1_ln (n : Fin k0_t1_loop.trips) (f : Vec F S4096 .f32) (k : Fin 16) (q : Fin 4096) (h : q.val = 16 * n.val + k.val) :
    at1 n f (ln k) = wd f q := by
  show f _ = f _
  congr 1
  funext a
  obtain rfl : a = 0 := Subsingleton.elim _ _
  apply Fin.ext
  show k0_off2 n 0 + 1 * k.val = q.val
  rw [off2_eq]; omega

theorem prep_word (n : Fin k0_t1_loop.trips) (f : Vec F S4096 .f32) (w : Vec F S16 .f32) (g : Fin 4096 → F .f32)
    (hf : ∀ q : Fin 4096, q.val < 16 * n.val → wd f q = g q) (hw : ∀ (k : Fin 16) (q : Fin 4096), q.val = 16 * n.val + k.val → w (ln k) = g q)
    (q : Fin 4096) (hq : q.val < 16 * (n.val + 1)) : wd (put f (k0_off2 n 0) w) q = g q := by
  rw [off2_eq]
  by_cases h : q.val < 16 * n.val
  · rw [put_miss _ _ _ _ (.inl h)]; exact hf q h
  · have e : q.val = 16 * n.val + (⟨q.val - 16 * n.val, by omega⟩ : Fin 16).val := by show _ = 16 * n.val + (q.val - 16 * n.val); omega
    rw [put_hit _ _ _ _ _ e]; exact hw _ _ e

theorem ReadyTo.step {x y z : Vec F S4096 .f32} (n : Fin k0_t1_loop.trips) (h : ReadyTo x y z (16 * n.val) c) :
    ReadyTo x y z (16 * (n.val + 1)) (prepStep n c) := by
  obtain ⟨rfl, rfl, rfl, h1, h2, h3, h4⟩ := h
  refine ⟨rfl, rfl, rfl, prep_word n _ _ _ h1 fun k q e => ?_, prep_word n _ _ _ h2 fun k q e => ?_, prep_word n _ _ _ h3 fun k q e => ?_,
    prep_word n _ _ (fun q => normSq (wd c.x q) (wd c.y q) (wd c.z q)) h4 fun k q e => ?_⟩
  · rw [← at1_ln n c.x k q e]; rfl
  · rw [← at1_ln n c.y k q e]; rfl
  · rw [← at1_ln n c.z k q e]; rfl
  · rw [← at1_ln n c.x k q e, ← at1_ln n c.y k q e, ← at1_ln n c.z k q e]; rfl

/-- The preparation, run. -/
theorem prep_run : Own d i c s ⊢ wp (M := 𝕄) frame (wpE (defs₀ (F := F)) 𝒱₀ (thr d i) none) Set.univ
    (Scf.Loop.for k0_t1_loop k0_t1_ok ⟨⟩
      (k0_t1_body i arg2 harg2 arg3 harg3 arg4 harg4 arg5 harg5 xV hx yV hy zV hz x2V hx2 y2V hy2 z2V hz2 csV hcs bdV hbd biV hbi obV hob
        tfV htf tiV hti r0 r1 r2 r3))
    fun _ => iprop(∃ c', ⌜ReadyTo c.x c.y c.z 4096 c'⌝ ∗ Own d i c' s) := by
  refine BIBase.Entails.trans ?_ (Scf.wp_for frame (wpE (defs₀ (F := F)) 𝒱₀ (thr d i) none) Set.univ k0_t1_loop.lb k0_t1_loop.ub k0_t1_loop.st k0_t1_ok PUnit.unit _
    (fun n _ => iprop(∃ c', ⌜ReadyTo c.x c.y c.z (16 * n) c'⌝ ∗ Own d i c' s)) ?_)
  · iintro H
    isplitl [H]
    · iexists c
      isplitr
      · ipureintro
        exact ⟨rfl, rfl, rfl, fun _ h => absurd h (by omega), fun _ h => absurd h (by omega), fun _ h => absurd h (by omega), fun _ h => absurd h (by omega)⟩
      · iexact H
    · iintro %a H
      iexact H
  · intro n a
    iintro ⟨%c', %h, H⟩
    iapply (BIBase.Entails.trans (show Own d i c' s ⊢ _ from t1_run n) (wp_mono _ _ _ fun _ => ?_))
    case _ =>
      iintro ⟨%c'', %h', H⟩
      iexists c''
      isplitr
      · ipureintro; rw [h']; exact h.step n
      · iexact H
    iexact H

end Body

end Cert.Proof.Knn
-- ==== Proof.Row.lean ====
/-
  A row, run: its chunks, the last flush, two neighbours of one key put in the order of their indices, and the row's sixteen
  indices stored; then the sixteen rows of a group and the thirty-two groups of a tile.
-/
module

public import proofs.«01_k».proof.Proof.Chunks
public import proofs.«01_k».proof.Proof.Put

@[expose] public section

noncomputable section

namespace Cert.Proof.Knn

open Cert.KernelIdeal Cert.KernelIdeal.Gen

open Idealize.ShloMosaic
open Idealize.SL.Sem

variable {F : FTy → Type} [FloatOps F]

variable {d : Idealize.ShloMosaic.Dev nD} {i : grid0.Coords}
  {arg2 : Memref sig .scVector .hbm S16384 .f32} {harg2 : arg2.IsWhole} {arg3 : Memref sig .scVector .hbm S16384 .f32} {harg3 : arg3.IsWhole}
  {arg4 : Memref sig .scVector .hbm S16384 .f32} {harg4 : arg4.IsWhole} {arg5 : Memref sig .scVector .hbm S262144 .i32} {harg5 : arg5.IsWhole}
  {hx : (xV).IsWhole} {hy : (yV).IsWhole} {hz : (zV).IsWhole} {hx2 : (x2V).IsWhole} {hy2 : (y2V).IsWhole} {hz2 : (z2V).IsWhole} {hcs : (csV).IsWhole}
  {hbd : (bdV).IsWhole} {hbi : (biV).IsWhole} {hob : (obV).IsWhole} {htf : (tfV).IsWhole} {hti : (tiV).IsWhole}
  {r0 r1 r2 r3 : DmaSems sig S_}

theorem last_lt : ∀ x, ((broadcast S16 15#32 : IVec S16 32) x).toNat < 16 := fun _ => by
  show (15#32 : BitVec 32).toNat < 16; decide

theorem up_lt : ∀ x, ((k0_pay465 lanes : IVec S16 32) x).toNat < 16 := by
  intro x
  obtain ⟨k, rfl⟩ : ∃ k : Fin 16, x = ln k := ⟨x 0, eq_ln x⟩
  revert k; decide

theorem dn_lt : ∀ x, ((k0_pay466 lanes : IVec S16 32) x).toNat < 16 := by
  intro x
  obtain ⟨k, rfl⟩ : ∃ k : Fin 16, x = ln k := ⟨x 0, eq_ln x⟩
  revert k; decide

attribute [local irreducible] Upd rankV gat rd put

set_option maxHeartbeats 4000000 in
/-- A row. -/
theorem t3_run {c : Coords F} {bd : Vec F S224 .f32} {bi : Vec F S224 .i32} {ob : Vec F S8192 .i32}
    {tf : Vec F S16 .f32} {ti : Vec F S16 .i32} (g : Fin k0_t2_loop.trips) (x y z : Vec F S16 .f32) (j : Fin k0_t3_loop.trips) :
    Runs d i c ⟨bd, bi, ob, tf, ti⟩
      (k0_t3_body i arg2 harg2 arg3 harg3 arg4 harg4 arg5 harg5 xV hx yV hy zV hz x2V hx2 y2V hy2 z2V hz2 csV hcs bdV hbd biV hbi obV hob
      tfV htf tiV hti r0 r1 r2 r3 lanes g x y z j ⟨⟩)
      (fun _ m => ∃ w, RowR (rowKeys c x y z j) w ∧ m.ob = put ob (k0_off5 g j 0) w) := by
  unfold k0_t3_body
  refine Runs.bind ((part38_run j).mono ?_)
  rintro r m ⟨s, b, s', tf', ti', hR, hA, rfl, rfl⟩
  obtain ⟨tv, tx, bound, pos, bd1, bi1⟩ := s'
  dsimp only
  rw [k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
  repeat first
    | with_reducible refine Runs.assoc ?_
    | with_reducible refine Runs.load_tf ?_
    | with_reducible refine Runs.load_ti ?_
    | with_reducible refine Runs.store_tf ?_
    | with_reducible refine Runs.store_ti ?_
    | with_reducible refine Runs.load_bd ?_
    | with_reducible refine Runs.load_bi ?_
    | (refine Runs.rank rfl rfl (fun n acc Ψ hn hΨ => ?_) ?_
       on_goal 1 =>
        refine Runs.assume ?_ ?_
        · exact inb_of_lt (iv_lt hn)
        with_reducible refine Runs.gather_tf ?_
        exact Runs.ret hΨ)
    | (with_reducible refine Runs.assume ?_ ?_
       · first
          | exact inb_of_lt rev_lt
          | exact inb_of_lt last_lt
          | exact ⟨inb_of_lt up_lt, inb_of_lt up_lt⟩
          | exact ⟨inb_of_lt dn_lt, inb_of_lt dn_lt⟩
          | exact ⟨inb_of_lt (rankV_lt (F := F) _), inb_of_lt (rankV_lt (F := F) _)⟩)
    | with_reducible refine Runs.scatter_tf fun tf' htf' => ?_
    | with_reducible refine Runs.scatter_ti fun ti' hti' => ?_
    | with_reducible refine Runs.gather_tf ?_
    | with_reducible refine Runs.gather_ti ?_
    | with_reducible refine Runs.load_ob ?_
    | with_reducible refine Runs.store_ob ?_
    | with_reducible refine Runs.pure_bind ?_
    | unfold k0_part39_skel
    | unfold k0_part40_skel
    | unfold k0_part41_skel
    | unfold k0_part42_skel
    | unfold k0_part43_skel
    | unfold k0_part44_skel
    | unfold k0_part45_skel
    | unfold k0_part46_skel
    | unfold k0_part47_skel
    | unfold k0_part48_skel
    | unfold k0_part49_skel
    | unfold k0_part50_skel
    | unfold k0_part51_skel
    | unfold k0_part52_skel
  refine Runs.ret ⟨_, ⟨bd, bi, s, b, _, _, _, hR, hA, ?_, rfl⟩, rfl⟩
  dsimp only
  apply FlushR.mk'
  iterate 2 assumption
  iterate 4 exact rfl
  iterate 2
    apply Tour.node'
    iterate 2 assumption
    iterate 4 exact rfl
  iterate 3
    apply Tour.node'
    iterate 2 assumption
    iterate 4 exact rfl
    iterate 2
      apply Tour.node'
      iterate 2 assumption
      iterate 4 exact rfl
      iterate 2
        apply Tour.leaf'
        iterate 2 assumption
        iterate 4 exact rfl

end Cert.Proof.Knn
-- ==== Proof.Rows.lean ====
/-
  The sixteen rows of a group and the thirty-two groups of a subcore, run.
-/
module

public import proofs.«01_k».proof.Proof.Row

@[expose] public section

noncomputable section

namespace Cert.Proof.Knn

open Cert.KernelIdeal Cert.KernelIdeal.Gen

open Idealize.ShloMosaic
open Idealize.SL.Sem

variable {F : FTy → Type} [FloatOps F]

variable {d : Idealize.ShloMosaic.Dev nD} {i : grid0.Coords}
  {arg2 : Memref sig .scVector .hbm S16384 .f32} {harg2 : arg2.IsWhole} {arg3 : Memref sig .scVector .hbm S16384 .f32} {harg3 : arg3.IsWhole}
  {arg4 : Memref sig .scVector .hbm S16384 .f32} {harg4 : arg4.IsWhole} {arg5 : Memref sig .scVector .hbm S262144 .i32} {harg5 : arg5.IsWhole}
  {hx : (xV).IsWhole} {hy : (yV).IsWhole} {hz : (zV).IsWhole} {hx2 : (x2V).IsWhole} {hy2 : (y2V).IsWhole} {hz2 : (z2V).IsWhole} {hcs : (csV).IsWhole}
  {hbd : (bdV).IsWhole} {hbi : (biV).IsWhole} {hob : (obV).IsWhole} {htf : (tfV).IsWhole} {hti : (tiV).IsWhole}
  {r0 r1 r2 r3 : DmaSems sig S_}

theorem off5_eq (g : Fin k0_t2_loop.trips) (j : Fin k0_t3_loop.trips) : k0_off5 g j 0 = 256 * g.val + 16 * j.val := by
  have hg : g.val < 32 := g.isLt
  have hj : j.val < 16 := j.isLt
  show ((Scf.iv 0#32 1#32 g.val * 16#32 + Scf.iv 0#32 1#32 j.val) * 16#32).toNat = _
  simp only [Scf.iv, BitVec.toNat_add, BitVec.toNat_mul, BitVec.toNat_ofNat]
  omega

/-- The keys of row `j` of group `g` of the subcore at `i`. -/
def keysAt (c : Coords F) (i : grid0.Coords) (g : Fin k0_t2_loop.trips) (j : ℕ) : ℕ → ℕ → Vec F S16 .f32 :=
  rowKeys c (blk c.x (by decide) (k0_off3 i g 0)) (blk c.y (by decide) (k0_off3 i g 0)) (blk c.z (by decide) (k0_off3 i g 0)) j

/-- The first `N` rows are stored. -/
def RowsTo (c : Coords F) (i : grid0.Coords) (N : ℕ) (ob : Vec F S8192 .i32) : Prop :=
  ∀ (g : Fin k0_t2_loop.trips) (j : Fin k0_t3_loop.trips), 16 * g.val + j.val < N → ∃ w, RowR (keysAt c i g j) w ∧
    ∀ (k : Fin 16) (q : Fin 8192), q.val = 256 * g.val + 16 * j.val + k.val → wd ob q = w (ln k)

theorem RowsTo.step {c : Coords F} {ob : Vec F S8192 .i32} {w : Vec F S16 .i32} {g : Fin k0_t2_loop.trips} {j : Fin k0_t3_loop.trips}
    (h : RowsTo c i (16 * g.val + j.val) ob) (hw : RowR (keysAt c i g j) w) :
    RowsTo c i (16 * g.val + (j.val + 1)) (put ob (k0_off5 g j 0) w) := by
  intro g' j' hlt
  have hj : j.val < 16 := j.isLt
  have hj' : j'.val < 16 := j'.isLt
  rw [off5_eq]
  by_cases e : 16 * g'.val + j'.val < 16 * g.val + j.val
  · obtain ⟨w', h1, h2⟩ := h g' j' e
    refine ⟨w', h1, fun k q hq => ?_⟩
    rw [put_miss _ _ _ _ (.inl (by omega))]
    exact h2 k q hq
  · obtain rfl : g' = g := Fin.ext (by omega)
    obtain rfl : j' = j := Fin.ext (by omega)
    exact ⟨w, hw, fun k q hq => put_hit _ _ _ _ _ hq⟩

/-- The groups, run. -/
theorem t2_run {c : Coords F} {s : Mem F} : Runs d i c s
    (Scf.Loop.for k0_t2_loop k0_t2_ok ⟨⟩
      (k0_t2_body i arg2 harg2 arg3 harg3 arg4 harg4 arg5 harg5 xV hx yV hy zV hz x2V hx2 y2V hy2 z2V hz2 csV hcs bdV hbd biV hbi obV hob
        tfV htf tiV hti r0 r1 r2 r3 lanes) >>= fun _ => pure ⟨⟩)
    (fun (_ : PUnit) m => RowsTo c i 512 m.ob) := by
  refine Runs.loop (fun n _ m => RowsTo c i (16 * n) m.ob) (fun g j h => absurd h (by omega)) ?_ (fun _ _ h => Runs.ret h)
  rintro g _ ⟨bd, bi, ob, tf, ti⟩ h
  unfold k0_t2_body
  refine Runs.load_x ?_
  refine Runs.load_y ?_
  refine Runs.load_z ?_
  rw [rd_unit c.x (by decide), rd_unit c.y (by decide), rd_unit c.z (by decide)]
  refine Runs.loop (fun n _ m => RowsTo c i (16 * g.val + n) m.ob) h ?_ (fun _ _ h => Runs.ret h)
  rintro j _ ⟨bd, bi, ob, tf, ti⟩ h
  refine (t3_run g _ _ _ j).mono ?_
  rintro _ m ⟨w, hw, e⟩
  rw [e]
  exact h.step hw

end Cert.Proof.Knn
-- ==== Proof.Tile.lean ====
/-
  A subcore's task: the three coordinate slices of its batch copied in, the arrays prepared, its five hundred and twelve rows
  computed, and the rows copied out.
-/
module

public import proofs.«01_k».proof.Proof.Rows

@[expose] public section

noncomputable section

namespace Cert.Proof.Knn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The arrays in HBM, as a subcore sees them -/

abbrev xH : Memref sig .scVector .hbm S16384 .f32 := Memref.whole main_v2_scv
abbrev yH : Memref sig .scVector .hbm S16384 .f32 := Memref.whole main_v5_scv
abbrev zH : Memref sig .scVector .hbm S16384 .f32 := Memref.whole main_v8_scv
abbrev oH : Memref sig .scVector .hbm S262144 .i32 := Memref.whole main_v9_scv

/-- The subcore's batch of one coordinate. -/
abbrev cutOf (a : Memref sig .scVector .hbm S16384 .f32) (i : grid0.Coords) : Memref sig .scVector .hbm S4096 .f32 :=
  a.slice (Rect.unit (s := S16384) (k0_off1 i) S4096.size (k0_off1_inb i)) (fun _ => rfl)
/-- The subcore's rows of the result. -/
abbrev oK (i : grid0.Coords) : Memref sig .scVector .hbm S8192 .i32 :=
  oH.slice (Rect.unit (s := S262144) (k0_off6 i) S8192.size (k0_off6_inb i)) (fun _ => rfl)

/-- What a subcore fetches of each coordinate. -/
def batchX (i : grid0.Coords) (X : Vec F S16384 .f32) : Vec F S4096 .f32 := (cutOf xH i).view.read (Elt F) X
def batchY (i : grid0.Coords) (Y : Vec F S16384 .f32) : Vec F S4096 .f32 := (cutOf yH i).view.read (Elt F) Y
def batchZ (i : grid0.Coords) (Z : Vec F S16384 .f32) : Vec F S4096 .f32 := (cutOf zH i).view.read (Elt F) Z
/-- The subcore's rows among all. -/
def rowsOf (i : grid0.Coords) (f : Vec F S262144 .i32) : Vec F S8192 .i32 := (oK i).view.read (Elt F) f

/-- The subcore's rows of `f` are the ones its computation leaves, from the coordinates `X`, `Y`, `Z`. -/
def TileOk (X Y Z : Vec F S16384 .f32) (i : grid0.Coords) (f : Vec F S262144 .i32) : Prop :=
  ∃ c : Coords F, ReadyTo (batchX i X) (batchY i Y) (batchZ i Z) 4096 c ∧ RowsTo c i 512 (rowsOf i f)

section Body

variable (d : Dev nD) (i : grid0.Coords)

abbrev inPts (q : PosShare TreeShare) (X Y Z : Vec F S16384 .f32) : sProp 𝕄 :=
  iprop(((cutOf xH i).view.loc (thr d i) ↦[(cutOf xH i).view.set]{q} X) ∗ ((cutOf yH i).view.loc (thr d i) ↦[(cutOf yH i).view.set]{q} Y)
    ∗ ((cutOf zH i).view.loc (thr d i) ↦[(cutOf zH i).view.set]{q} Z))

abbrev outPts (f : Vec F S262144 .i32) : sProp 𝕄 := (oK i).view.loc (thr d i) ↦[(oK i).view.set]{fullShare} f

/-- A local copy and its wait, one after the other. -/
theorem copy_wait {sp sp' sp'' : Space} {s s'' : Shape} {e e'' : EltTy} {α : Type} {src : Memref sig .scVector sp s e} {dst : Memref sig .scVector sp' s e}
    {srcw : Memref sig .scVector sp'' s'' e''} {sem : DmaSem sig} {hsrc : src.view.WordExact} {hdst : dst.view.WordExact} {hsem} {hsrcw : srcw.view.WordExact} {hdstw : dst.view.WordExact}
    {k : PUnit → Pg (F := F) i α} {q : PosShare TreeShare} {fs : Buf (Elt F) (src.view.loc (thr d i))} {Sd : Finset (Idx (dst.view.loc (thr d i)))}
    {fd : Buf (Elt F) (dst.view.loc (thr d i))} {O : CellTallies nD τ sig (HIx 1)} {W : Waits sig (HIx 1)} {Q : α → sProp 𝕄}
    (hn : 0 < dst.view.dmaCredit) (hSd : dst.view.set ⊆ Sd) (hO : ∀ g, O g none = 0) :
    iprop(levAts (K (F := F)).L (K (F := F)).lev ∗ (src.view.loc (thr d i) ↦[src.view.set]{q} fs) ∗ (dst.view.loc (thr d i) ↦[Sd]{fullShare} fd)
        ∗ semVal ((thr d i, SemLoc.dma sem) : GSem nD τ sig) 0 ∗ owes (thr d i) O W)
      ⊢ iprop((((dst.view.loc (thr d i) ↦[Sd]{fullShare} (dst.view.write (Elt F) fd (src.view.read (Elt F) fs) Finset.univ))
              ∗ (src.view.loc (thr d i) ↦[src.view.set]{q} fs) ∗ semVal ((thr d i, SemLoc.dma sem) : GSem nD τ sig) 0 ∗ owes (thr d i) O (insert (SemLoc.dma sem, none) W))
            -∗ wp frame (wpE (defs₀ (F := F)) 𝒱₀ (thr d i) none) Set.univ (k ⟨⟩) Q)
          -∗ wp frame (wpE (defs₀ (F := F)) 𝒱₀ (thr d i) none) Set.univ
              (.op (.enqueueDma src (.here dst) (.dma sem) hsrc hdst hsem) fun _ => .op (.waitDma2 sem srcw dst hsrcw hdstw) k) Q) := by
  iintro ⟨#Hlv, Hs, Hd, Hv, HO⟩ Hk
  iapply (Transfers.wp_dmaLocal countersEmb 𝒱₀ (thr d i) none (none : HIx 1) dst.view.dmaCredit rfl hn hSd) $$ [Hs Hd Hv]
  · isplitl [Hs]; · iexact Hs
    isplitl [Hd]; · iexact Hd
    iexact Hv
  iintro Hfl
  iapply (Transfers.wp_waitLocalO countersEmb 𝒱₀ (thr d i) none (none : HIx 1) (rfl : dst.view.dmaCredit = _)) $$ [Hfl HO]
  · isplitl [Hfl]; · iexact Hfl
    isplitl [HO]; · iexact HO
    iapply ((K (F := F)).mayWait_none (SemLoc.dma sem) hO); iexact Hlv
  iintro ⟨⟨Hd, Hs⟩, Hv, HO⟩
  iapply Hk
  isplitl [Hd]; · iexact Hd
  isplitl [Hs]; · iexact Hs
  isplitl [Hv] <;> iassumption

/-! ## The subcore's own buffers and semaphores -/

abbrev scratchRefs : Finset (Ref sig .scVector) :=
  {cc0_scratch0, cc0_scratch1, cc0_scratch2, cc0_scratch3, cc0_scratch4, cc0_scratch5, cc0_scratch6, cc0_scratch7, cc0_scratch8, cc0_scratch9, cc0_scratch10, cc0_scratch11}

abbrev semLocs : Finset (SemLoc sig) :=
  {SemLoc.dma cc0_scoped0.sem, SemLoc.dma cc0_scoped1.sem, SemLoc.dma cc0_scoped2.sem, SemLoc.dma cc0_scoped3.sem}

abbrev toDev : Ref sig .scVector ↪ DevRef τ sig :=
  ⟨(Proc.scVector ((i 0).castLE hcore0) ((i 1).castLE hsub0)).devRef, Proc.devRef_injective _⟩
abbrev toCell : SemLoc sig ↪ GSem nD τ sig := ⟨fun s => (thr d i, s), fun _ _ e => (Prod.mk.inj e).2⟩

omit [FloatOps F] in
theorem ownBufs_eq : (ownBufs (thr d i) : sProp 𝕄) = iprop(bigSep scratchRefs (fun b => iprop(∃ f, (thr d i).loc b ↦{fullShare} f))
    ∗ bigSep (ownRefs (thr d i).2 \ scratchRefs.map (toDev i)) fun b => iprop(∃ f, ((d, b) : Loc nD τ sig) ↦{fullShare} f)) := by
  unfold SparseCore.Cfg.ownBufs
  rw [SparseCore.bigSep_sdiff_split' (t := scratchRefs.map (toDev i)), BI.bigSep_map]
  · rfl
  · intro b hb
    obtain ⟨r, hr, rfl⟩ := Finset.mem_map.mp hb
    refine SparseCore.Cfg.mem_ownRefs_of_owner ?_
    fin_cases hr <;> rfl

omit [FloatOps F] in
theorem ownSems0_eq : (ownSems0 (thr d i) : sProp 𝕄) = iprop(bigSep semLocs (fun s => semVal ((thr d i, s) : GSem nD τ sig) 0)
    ∗ bigSep (ownCells (thr d i) \ semLocs.map (toCell d i)) fun g => semVal g 0) := by
  unfold SparseCore.Cfg.ownSems0
  rw [SparseCore.bigSep_sdiff_split' (t := semLocs.map (toCell d i)), BI.bigSep_map]
  · rfl
  · intro g hg
    obtain ⟨s, hs, rfl⟩ := Finset.mem_map.mp hg
    exact mem_ownCells.mpr ⟨rfl, (show ∀ s ∈ semLocs, s.isScoped .scVector = true by decide) s hs⟩

omit [FloatOps F] in
theorem semLocs_eq : (bigSep semLocs (fun s => semVal ((thr d i, s) : GSem nD τ sig) 0) : sProp 𝕄)
    = iprop(semVal ((thr d i, SemLoc.dma cc0_scoped0.sem) : GSem nD τ sig) 0 ∗ semVal ((thr d i, SemLoc.dma cc0_scoped1.sem) : GSem nD τ sig) 0
        ∗ semVal ((thr d i, SemLoc.dma cc0_scoped2.sem) : GSem nD τ sig) 0 ∗ semVal ((thr d i, SemLoc.dma cc0_scoped3.sem) : GSem nD τ sig) 0) := by
  rw [SparseCore.bigSep_insert' (by decide), SparseCore.bigSep_insert' (by decide), SparseCore.bigSep_insert' (by decide), bigSep_singleton]

omit [FloatOps F] in
/-- The twelve scratch buffers at some contents. -/
theorem scratch_eq : (bigSep scratchRefs (fun b => iprop(∃ f, (thr d i).loc b ↦{fullShare} f)) : sProp 𝕄)
    = iprop((∃ f, pts d i (b := cc0_scratch0) f) ∗ (∃ f, pts d i (b := cc0_scratch1) f) ∗ (∃ f, pts d i (b := cc0_scratch2) f)
    ∗ (∃ f, pts d i (b := cc0_scratch3) f) ∗ (∃ f, pts d i (b := cc0_scratch4) f) ∗ (∃ f, pts d i (b := cc0_scratch5) f)
    ∗ (∃ f, pts d i (b := cc0_scratch6) f) ∗ (∃ f, pts d i (b := cc0_scratch7) f) ∗ (∃ f, pts d i (b := cc0_scratch8) f)
    ∗ (∃ f, pts d i (b := cc0_scratch9) f) ∗ (∃ f, pts d i (b := cc0_scratch10) f) ∗ (∃ f, pts d i (b := cc0_scratch11) f)) := by
  iterate 11 rw [SparseCore.bigSep_insert' (by decide)]
  rw [bigSep_singleton]

variable {d i}

theorem t2_wp {c : Coords F} {s : Mem F} {arg2 : Memref sig .scVector .hbm S16384 .f32} {harg2 : arg2.IsWhole} {arg3 : Memref sig .scVector .hbm S16384 .f32} {harg3 : arg3.IsWhole}
    {arg4 : Memref sig .scVector .hbm S16384 .f32} {harg4 : arg4.IsWhole} {arg5 : Memref sig .scVector .hbm S262144 .i32} {harg5 : arg5.IsWhole}
    {hx : (xV).IsWhole} {hy : (yV).IsWhole} {hz : (zV).IsWhole} {hx2 : (x2V).IsWhole} {hy2 : (y2V).IsWhole} {hz2 : (z2V).IsWhole} {hcs : (csV).IsWhole}
    {hbd : (bdV).IsWhole} {hbi : (biV).IsWhole} {hob : (obV).IsWhole} {htf : (tfV).IsWhole} {hti : (tiV).IsWhole}
    {r0 r1 r2 r3 : DmaSems sig S_} : Own d i c s ⊢ wp (M := 𝕄) frame (wpE (defs₀ (F := F)) 𝒱₀ (thr d i) none) Set.univ
    (Scf.Loop.for k0_t2_loop k0_t2_ok ⟨⟩
      (k0_t2_body i arg2 harg2 arg3 harg3 arg4 harg4 arg5 harg5 xV hx yV hy zV hz x2V hx2 y2V hy2 z2V hz2 csV hcs bdV hbd biV hbi obV hob
        tfV htf tiV hti r0 r1 r2 r3 lanes))
    fun _ => iprop(∃ m, ⌜RowsTo c i 512 m.ob⌝ ∗ Own d i c m) := by
  have h : Runs d i c s _ _ := t2_run (d := d) (i := i) (arg2 := arg2) (harg2 := harg2) (arg3 := arg3) (harg3 := harg3) (arg4 := arg4) (harg4 := harg4) (arg5 := arg5) (harg5 := harg5)
    (hx := hx) (hy := hy) (hz := hz) (hx2 := hx2) (hy2 := hy2) (hz2 := hz2) (hcs := hcs) (hbd := hbd) (hbi := hbi) (hob := hob) (htf := htf) (hti := hti)
    (r0 := r0) (r1 := r1) (r2 := r2) (r3 := r3) (c := c) (s := s)
  unfold Runs at h
  rw [show ∀ p : Pg (F := F) i PUnit, (p >>= fun _ => pure ⟨⟩) = p from fun p => bind_pure p] at h
  exact h

variable (d i) in
omit [FloatOps F] in
theorem pts_ob (f : Vec F S8192 .i32) : (pts d i (b := cc0_scratch9) f : sProp 𝕄) = (obV).view.loc (thr d i) ↦[(obV).view.set]{fullShare} f := by
  simp only [Memref.view_whole, View.set_whole]

/-- What the copy out leaves of the subcore's rows. -/
theorem rowsOf_write (f : Vec F S262144 .i32) (ob : Vec F S8192 .i32) :
    rowsOf i ((oK i).view.write (Elt F) f ((obV).view.read (Elt F) ob) Finset.univ) = ob := by
  unfold rowsOf
  rw [View.read_write_univ]
  exact View.read_whole _ _

/-- The task. -/
theorem tile_body (hF : (K (F := F)).Facts) (q : PosShare TreeShare) (X Y Z : Vec F S16384 .f32) (O : CellTallies nD τ sig (HIx 1)) (W : Waits sig (HIx 1)) (hO : ∀ g, O g none = 0) :
    iprop(levAts (K (F := F)).L (K (F := F)).lev ∗ (inPts d i q X Y Z ∗ ∃ f, outPts d i f)
        ∗ scopedBufs (thr d i) ∗ scopedSems0 (thr d i) ∗ owes (thr d i) O W)
      ⊢ wp frame (wpE (defs₀ (F := F)) 𝒱₀ (thr d i) none) Set.univ
          (cc0_sc_knn i xH (Memref.isWhole_whole _) yH (Memref.isWhole_whole _) zH (Memref.isWhole_whole _) oH (Memref.isWhole_whole _)
            xV (Memref.isWhole_whole _) yV (Memref.isWhole_whole _) zV (Memref.isWhole_whole _) x2V (Memref.isWhole_whole _) y2V (Memref.isWhole_whole _)
            z2V (Memref.isWhole_whole _) csV (Memref.isWhole_whole _) bdV (Memref.isWhole_whole _) biV (Memref.isWhole_whole _) obV (Memref.isWhole_whole _)
            tfV (Memref.isWhole_whole _) tiV (Memref.isWhole_whole _) cc0_scoped0 cc0_scoped1 cc0_scoped2 cc0_scoped3)
          fun _ => iprop((∃ f, ⌜TileOk X Y Z i f⌝ ∗ outPts d i f) ∗ scopedBufs (thr d i) ∗ scopedSems0 (thr d i)
            ∗ ∃ W', ⌜∀ p ∈ W', p ∈ W ∨ p.2 = none⌝ ∗ owes (thr d i) O W') := by
  simp only [cc0_sc_knn_eq_skeleton]; unfold cc0_sc_knn_skel
  simp only [k0_part53_eq_skeleton]; unfold k0_part53_skel
  simp only [Prog.lift, Prog.bind_op, Prog.bind_ret, Prog.pure_eq_ret]
  rw [(K (F := F)).scopedBufs_V hF d ((i 0).castLE hcore0) ((i 1).castLE hsub0), SparseCore.Cfg.scopedSems0_V (Val := Elt F) d ((i 0).castLE hcore0) ((i 1).castLE hsub0),
    ownSems0_eq, ownBufs_eq, semLocs_eq, scratch_eq]
  iintro ⟨#Hlv, ⟨⟨Hx, Hy, Hz⟩, %fo, Ho⟩,
    ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩, Hbufs⟩,
    ⟨⟨S0, S1, S2, S3⟩, Hsems⟩, HO⟩
  iapply (copy_wait d i (src := cutOf xH i) (dst := xV) (Sd := Finset.univ) (View.dmaCredit_pos _ (by decide)) (Finset.subset_univ _) hO) $$ [Hx H0 S0 HO]
  · isplitr; · iexact Hlv
    isplitl [Hx]; · iexact Hx
    isplitl [H0]; · iexact H0
    isplitl [S0] <;> iassumption
  iintro ⟨H0, -, S0, HO⟩
  iapply (copy_wait d i (src := cutOf yH i) (dst := yV) (Sd := Finset.univ) (View.dmaCredit_pos _ (by decide)) (Finset.subset_univ _) hO) $$ [Hy H1 S1 HO]
  · isplitr; · iexact Hlv
    isplitl [Hy]; · iexact Hy
    isplitl [H1]; · iexact H1
    isplitl [S1] <;> iassumption
  iintro ⟨H1, -, S1, HO⟩
  iapply (copy_wait d i (src := cutOf zH i) (dst := zV) (Sd := Finset.univ) (View.dmaCredit_pos _ (by decide)) (Finset.subset_univ _) hO) $$ [Hz H2 S2 HO]
  · isplitr; · iexact Hlv
    isplitl [Hz]; · iexact Hz
    isplitl [H2]; · iexact H2
    isplitl [S2] <;> iassumption
  iintro ⟨H2, -, S2, HO⟩
  rw [View.write_whole_univ, View.write_whole_univ, View.write_whole_univ, wp_bind]
  ihave Hp := (prep_run (d := d) (i := i) (c := ⟨batchX i X, batchY i Y, batchZ i Z, f3, f4, f5, f6⟩) (s := ⟨f7, f8, f9, f10, f11⟩)) $$ [H0 H1 H2 H3 H4 H5 H6 H7 H8 H9 H10 H11]
  · unfold Own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iapply (wp_wand frame (wpE (defs₀ (F := F)) 𝒱₀ (thr d i) none) Set.univ) $$ Hp
  iintro %a ⟨%c, %hc, HOwn⟩
  rw [wp_bind]
  iapply (wp_wand frame (wpE (defs₀ (F := F)) 𝒱₀ (thr d i) none) Set.univ) $$ [HOwn]
  · iapply t2_wp; iexact HOwn
  iintro %a ⟨%s, %hs, HOwn⟩
  unfold Own
  icases HOwn with ⟨H0, H1, H2, H3, H4, H5, H6, H7, H8, H9, H10, H11⟩
  iapply (copy_wait d i (src := obV) (dst := oK i) (View.dmaCredit_pos _ (by decide +kernel)) (subset_refl _) hO) $$ [H9 Ho S3 HO]
  · isplitr; · iexact Hlv
    isplitl [H9]; · iapply (Entails.of_eq (pts_ob d i _)); iexact H9
    isplitl [Ho]; · iexact Ho
    isplitl [S3] <;> iassumption
  iintro ⟨Ho, H9, S3, HO⟩
  rw [wp_ret]; imodintro
  isplitl [Ho]
  · iexists _
    isplitr
    swap
    · iexact Ho
    · ipureintro
      exact ⟨c, hc, by rw [rowsOf_write]; exact hs⟩
  ihave H9 := (Entails.of_eq (pts_ob d i _).symm) $$ H9
  isplitl [H0 H1 H2 H3 H4 H5 H6 H7 H8 H9 H10 H11 Hbufs]
  · isplitr [Hbufs]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      iexists _; iexact H11
    · iexact Hbufs
  isplitl [S0 S1 S2 S3 Hsems]
  · isplitr [Hsems]
    · isplitl [S0]; · iexact S0
      isplitl [S1]; · iexact S1
      isplitl [S2] <;> iassumption
    · iexact Hsems
  iexists _; isplitr
  swap
  · iexact HO
  · ipureintro; intro p hp
    simp only [Finset.mem_insert] at hp
    rcases hp with rfl | rfl | rfl | rfl | hp
    iterate 4 exact .inr rfl
    exact .inl hp

end Body

end Cert.Proof.Knn
-- ==== Proof.Launch.lean ====
/-
  The program's run: what the call hands each subcore and takes back (the coordinates at read shares, its rows of the
  result), @main around the call, and what every execution ends with — the rows each subcore's computation leaves, the
  result assembled from them, the argument unchanged.
-/
module

public import proofs.«01_k».proof.Proof.Tile
public import Idealize.ShloMosaic.Lib.Pipeline.Kit

@[expose] public section

noncomputable section

namespace Cert.Proof.Knn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr after seq seqK wp_seq)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## @main's operations before and after the call -/

variable [FloatOps F]

abbrev opsPre : List (HloOp τ sig (Elt F)) :=
  [ StableHlo.unary main_arg0 main_v0 ((extractStridedSlice S4x4096x1 ![0, 0, 0] · slices_S4x4096x3_S4x4096x1_0_0_0) : (⟨S4x4096x3, .f32⟩ : BufTy).Contents (Elt F) → (⟨S4x4096x1, .f32⟩ : BufTy).Contents (Elt F)),
    StableHlo.reshape main_v0 main_v1 (rfl : (.f32 : EltTy) = .f32) shapeCasts_S4x4096x1_S4x4096,
    StableHlo.reshape main_v1 main_v2 (rfl : (.f32 : EltTy) = .f32) shapeCasts_S4x4096_S16384,
    StableHlo.unary main_arg0 main_v3 ((extractStridedSlice S4x4096x1 ![0, 0, 1] · slices_S4x4096x3_S4x4096x1_0_0_1) : (⟨S4x4096x3, .f32⟩ : BufTy).Contents (Elt F) → (⟨S4x4096x1, .f32⟩ : BufTy).Contents (Elt F)),
    StableHlo.reshape main_v3 main_v4 (rfl : (.f32 : EltTy) = .f32) shapeCasts_S4x4096x1_S4x4096,
    StableHlo.reshape main_v4 main_v5 (rfl : (.f32 : EltTy) = .f32) shapeCasts_S4x4096_S16384,
    StableHlo.unary main_arg0 main_v6 ((extractStridedSlice S4x4096x1 ![0, 0, 2] · slices_S4x4096x3_S4x4096x1_0_0_2) : (⟨S4x4096x3, .f32⟩ : BufTy).Contents (Elt F) → (⟨S4x4096x1, .f32⟩ : BufTy).Contents (Elt F)),
    StableHlo.reshape main_v6 main_v7 (rfl : (.f32 : EltTy) = .f32) shapeCasts_S4x4096x1_S4x4096,
    StableHlo.reshape main_v7 main_v8 (rfl : (.f32 : EltTy) = .f32) shapeCasts_S4x4096_S16384 ]

abbrev opsPost : List (HloOp τ sig (Elt F)) :=
  [ StableHlo.reshape main_v9 main_v10 (rfl : (.i32 : EltTy) = .i32) shapeCasts_S262144_S4x4096x16,
    StableHlo.nullary main_v11 (iotaInDim S4096 32 0),
    StableHlo.unary main_v11 main_v12 (broadcastInDim S1x4096x1 ![1] bcast_S4096_S1x4096x1_1 : (⟨S4096, .i32⟩ : BufTy).Contents (Elt F) → (⟨S1x4096x1, .i32⟩ : BufTy).Contents (Elt F)),
    StableHlo.unary main_v12 main_v13 (broadcastInDim S4x4096x16 ![0, 1, 2] bcast_S1x4096x1_S4x4096x16_0_1_2 : (⟨S1x4096x1, .i32⟩ : BufTy).Contents (Elt F) → (⟨S4x4096x16, .i32⟩ : BufTy).Contents (Elt F)),
    StableHlo.unary main_v10 main_v14 (broadcastInDim S1x4x4096x16 ![1, 2, 3] bcast_S4x4096x16_S1x4x4096x16_1_2_3 : (⟨S4x4096x16, .i32⟩ : BufTy).Contents (Elt F) → (⟨S1x4x4096x16, .i32⟩ : BufTy).Contents (Elt F)),
    StableHlo.unary main_v13 main_v15 (broadcastInDim S1x4x4096x16 ![1, 2, 3] bcast_S4x4096x16_S1x4x4096x16_1_2_3 : (⟨S4x4096x16, .i32⟩ : BufTy).Contents (Elt F) → (⟨S1x4x4096x16, .i32⟩ : BufTy).Contents (Elt F)),
    StableHlo.binary main_v14 main_v15 main_v16 ((fun a b => concatenate S2x4x4096x16 0 [⟨S1x4x4096x16, a⟩, ⟨S1x4x4096x16, b⟩] concatenates_S1x4x4096x16_S1x4x4096x16_S2x4x4096x16_d0) : (⟨S1x4x4096x16, .i32⟩ : BufTy).Contents (Elt F) → (⟨S1x4x4096x16, .i32⟩ : BufTy).Contents (Elt F) → (⟨S2x4x4096x16, .i32⟩ : BufTy).Contents (Elt F)) ]

theorem main_eq (d : Dev nD) : main (F := F) d = seqK opsPre ((sc (F := F)).run d 0 >>= fun _ => (seq opsPost >>= fun _ => pure ⟨⟩)) := rfl

/-! ## The values -/

/-- One coordinate of every point of every batch, in a row. -/
def flat (A : Vec F S4x4096x1 .f32) : Vec F S16384 .f32 :=
  shapeCast S16384 (shapeCast S4x4096 A shapeCasts_S4x4096x1_S4x4096) shapeCasts_S4x4096_S16384
def flatX (A : Vec F S4x4096x3 .f32) : Vec F S16384 .f32 := flat (extractStridedSlice S4x4096x1 ![0, 0, 0] A slices_S4x4096x3_S4x4096x1_0_0_0)
def flatY (A : Vec F S4x4096x3 .f32) : Vec F S16384 .f32 := flat (extractStridedSlice S4x4096x1 ![0, 0, 1] A slices_S4x4096x3_S4x4096x1_0_0_1)
def flatZ (A : Vec F S4x4096x3 .f32) : Vec F S16384 .f32 := flat (extractStridedSlice S4x4096x1 ![0, 0, 2] A slices_S4x4096x3_S4x4096x1_0_0_2)

/-- The result assembled from the neighbours' indices: those, and each point's own. -/
def assembled (f : Vec F S4x4096x16 .i32) : Vec F S2x4x4096x16 .i32 :=
  concatenate S2x4x4096x16 0
    [⟨S1x4x4096x16, broadcastInDim S1x4x4096x16 ![1, 2, 3] bcast_S4x4096x16_S1x4x4096x16_1_2_3 f⟩,
     ⟨S1x4x4096x16, broadcastInDim S1x4x4096x16 ![1, 2, 3] bcast_S4x4096x16_S1x4x4096x16_1_2_3
        (broadcastInDim S4x4096x16 ![0, 1, 2] bcast_S1x4096x1_S4x4096x16_0_1_2 (broadcastInDim S1x4096x1 ![1] bcast_S4096_S1x4096x1_1 (iotaInDim S4096 32 0)))⟩]
    concatenates_S1x4x4096x16_S1x4x4096x16_S2x4x4096x16_d0

abbrev dr (b : Ref sig .tc) : DevRef τ sig := Proc.devRef .tc b

theorem pre_x (V : Valuation τ sig (Elt F)) : after opsPre V (dr main_v2) = flatX (V (dr main_arg0)) := by
  unfold flatX flat; after_results; rfl
theorem pre_y (V : Valuation τ sig (Elt F)) : after opsPre V (dr main_v5) = flatY (V (dr main_arg0)) := by
  unfold flatY flat; after_results; rfl
theorem pre_z (V : Valuation τ sig (Elt F)) : after opsPre V (dr main_v8) = flatZ (V (dr main_arg0)) := by
  unfold flatZ flat; after_results; rfl
theorem pre_a (V : Valuation τ sig (Elt F)) : after opsPre V (dr main_arg0) = V (dr main_arg0) := by
  after_results
theorem post_a (V : Valuation τ sig (Elt F)) : after opsPost V (dr main_arg0) = V (dr main_arg0) := by
  after_results
theorem post_o (V : Valuation τ sig (Elt F)) :
    after opsPost V (dr main_v16) = assembled (shapeCast S4x4096x16 (V (dr main_v9)) shapeCasts_S262144_S4x4096x16) := by
  unfold assembled; after_results; rfl

/-! ## The grid and the pieces -/

def coordsV (c : Fin (grid0.bound 0)) (s : Fin (grid0.bound 1)) : grid0.Coords :=
  fun | 0 => c | 1 => s | ⟨_ + 2, h⟩ => absurd h (Nat.not_lt.2 (Nat.le_add_left _ _))

abbrev at_ (p : Fin 2 × Fin 16) : grid0.Coords := coordsV p.1 p.2

theorem hdiv : 32 ∣ S262144.size 0 := ⟨8192, rfl⟩
def wid (p : Fin 2 × Fin 16) : Fin 32 := ⟨2 * p.2.val + p.1.val, by omega⟩

theorem wid_inj : Function.Injective wid := by
  rintro ⟨a, b⟩ ⟨a', b'⟩ h
  have := congrArg Fin.val h
  simp only [wid] at this
  ext <;> simp <;> omega
theorem wid_surj (w : Fin 32) : ∃ p, wid p = w :=
  ⟨(⟨w.val % 2, by omega⟩, ⟨w.val / 2, by omega⟩), Fin.ext (by simp only [wid]; omega)⟩

theorem off6_at : ∀ p : Fin 2 × Fin 16, k0_off6 (at_ p) 0 = 8192 * (wid p).val := by decide +kernel
theorem off1_at : ∀ p : Fin 2 × Fin 16, k0_off1 (at_ p) 0 = 4096 * ((wid p).val / 8) := by decide +kernel
theorem off3_at : ∀ (p : Fin 2 × Fin 16) (g : Fin k0_t2_loop.trips), k0_off3 (at_ p) g 0 = 512 * ((wid p).val % 8) + 16 * g.val := by decide +kernel

theorem rect_eq (p : Fin 2 × Fin 16) : Rect.unit (s := S262144) (k0_off6 (at_ p)) S8192.size (k0_off6_inb (at_ p)) = Rect.part (s := S262144) (a₀ := 0) hdiv (wid p) := by
  unfold Rect.part Rect.block
  congr 1 <;> funext a
  · obtain rfl : a = 0 := Subsingleton.elim _ _
    rw [off6_at]
    simp [Shape.partIx, Shape.partSize, mul_comm]
  · obtain rfl : a = 0 := Subsingleton.elim _ _
    simp [Shape.partSize]

abbrev outSet (p : Fin 2 × Fin 16) : Finset S262144.Idx := (oK (at_ p)).view.set

theorem outSet_eq (p : Fin 2 × Fin 16) : outSet p = (Rect.part (s := S262144) (a₀ := 0) hdiv (wid p)).set := by
  rw [← rect_eq]
  show ((View.whole (main_v9_scv : Ref sig .scVector)).slice _).set = _
  rw [View.set_slice]; exact Finset.map_refl
theorem outSet_disjoint : ∀ p ∈ (Finset.univ : Finset (Fin 2 × Fin 16)), ∀ p' ∈ (Finset.univ : Finset (Fin 2 × Fin 16)), p ≠ p' → Disjoint (outSet p) (outSet p') :=
  fun p _ p' _ h => by rw [outSet_eq, outSet_eq]; exact Rect.part_disjoint hdiv fun e => h (wid_inj e)
theorem outSet_cover : (Finset.univ : Finset (Fin 2 × Fin 16)).biUnion outSet = Finset.univ := by
  ext x
  simp only [Finset.mem_biUnion, Finset.mem_univ, true_and, iff_true]
  have hx : x ∈ (Finset.univ : Finset (Fin 32)).biUnion fun w => (Rect.part (s := S262144) (a₀ := 0) hdiv w).set := by
    rw [Rect.biUnion_part hdiv]; exact Finset.mem_univ x
  obtain ⟨w, -, hw⟩ := Finset.mem_biUnion.mp hx
  obtain ⟨p, rfl⟩ := wid_surj w
  exact ⟨p, by rw [outSet_eq]; exact hw⟩

/-! ## What the handshakes carry -/

abbrev xLoc (d : Dev nD) : Loc nD τ sig := (SparseCore.T d).loc main_v2
abbrev yLoc (d : Dev nD) : Loc nD τ sig := (SparseCore.T d).loc main_v5
abbrev zLoc (d : Dev nD) : Loc nD τ sig := (SparseCore.T d).loc main_v8
abbrev oLoc (d : Dev nD) : Loc nD τ sig := (SparseCore.T d).loc main_v9
abbrev aLoc (d : Dev nD) : Loc nD τ sig := (SparseCore.T d).loc main_arg0
abbrev rLoc (d : Dev nD) : Loc nD τ sig := (SparseCore.T d).loc main_v16

/-- A subcore's read share. -/
abbrev rd_ (p : Fin 2 × Fin 16) : PosShare TreeShare := Transfers.shareTok (Transfers.shareTok fullShare 2 p.1) 16 p.2

section Pay

variable (m : (ℓ : Loc nD τ sig) → Buf (Elt F) ℓ) (ρ : Dev nD → PrngReg)

def goP (d : Dev nD) (p : Fin 2 × Fin 16) : sProp 𝕄 :=
  iprop(inPts d (at_ p) (rd_ p) (flatX (m (aLoc d))) (flatY (m (aLoc d))) (flatZ (m (aLoc d))) ∗ ∃ f, outPts d (at_ p) f)
def tdP (d : Dev nD) (p : Fin 2 × Fin 16) : sProp 𝕄 :=
  iprop(∃ f, ⌜TileOk (flatX (m (aLoc d))) (flatY (m (aLoc d))) (flatZ (m (aLoc d))) (at_ p) f⌝ ∗ outPts d (at_ p) f)

instance goP_storable (d : Dev nD) (p : Fin 2 × Fin 16) : BI.Storable (upEmb : UEmb _ 𝕄) (goP m d p) := by unfold goP; infer_instance
instance tdP_storable (d : Dev nD) (p : Fin 2 × Fin 16) : BI.Storable (upEmb : UEmb _ 𝕄) (tdP m d p) := by unfold tdP; infer_instance

def P : (K (F := F)).Pay (nD := nD) (Val := Elt F) (Name := ℕ) (U := UU) where
  st := fun q d c => match q with | 0 => bigSep Finset.univ fun s : Fin 16 => goP m d (⟨c.val, c.isLt⟩, s)
  dn := fun q d c => match q with | 0 => bigSep Finset.univ fun s : Fin 16 => tdP m d (⟨c.val, c.isLt⟩, s)
  go := fun q d c s => match q with | 0 => goP m d (⟨c.val, c.isLt⟩, ⟨s.val, s.isLt⟩)
  td := fun q d c s => match q with | 0 => tdP m d (⟨c.val, c.isLt⟩, ⟨s.val, s.isLt⟩)
  x := fun _ _ => iprop(emp)

instance P_storable : (P (F := F) m).IsStorable where
  st q d c := match q with
    | 0 => (inferInstance : BI.Storable (upEmb : UEmb _ 𝕄) (bigSep Finset.univ fun s : Fin 16 => goP m d (⟨c.val, c.isLt⟩, s)))
  dn q d c := match q with
    | 0 => (inferInstance : BI.Storable (upEmb : UEmb _ 𝕄) (bigSep Finset.univ fun s : Fin 16 => tdP m d (⟨c.val, c.isLt⟩, s)))
  go q d c s := match q with | 0 => goP_storable m d (⟨c.val, c.isLt⟩, ⟨s.val, s.isLt⟩)
  td q d c s := match q with | 0 => tdP_storable m d (⟨c.val, c.isLt⟩, ⟨s.val, s.isLt⟩)

theorem vecSplit : (K (F := F)).VecSplit' (P m) 0 := by
  intro d c
  show (bigSep Finset.univ fun s : Fin 16 => goP m d (⟨c.val, c.isLt⟩, s)) ⊢ |={Set.univ}=> iprop(
      (bigSep Finset.univ fun s : Fin 16 => goP m d (⟨c.val, c.isLt⟩, s))
      ∗ ((bigSep Finset.univ fun s : Fin 16 => tdP m d (⟨c.val, c.isLt⟩, s)) -∗ bigSep Finset.univ fun s : Fin 16 => tdP m d (⟨c.val, c.isLt⟩, s)))
  iintro H; imodintro
  isplitl [H]; · iexact H
  iintro H; iexact H

/-! ## A subcore's task, at the launch -/

theorem defs₀_vector (c : Fin τ.nSC) (s : Fin τ.nSub) :
    defs₀ (F := F) (.scVector c s) 0 ()
      = SparseCore.onTile hcore0 hsub0 (fun c s => cc0_sc_knn (coordsV c s) xH (Memref.isWhole_whole _) yH (Memref.isWhole_whole _) zH (Memref.isWhole_whole _) oH (Memref.isWhole_whole _)
            xV (Memref.isWhole_whole _) yV (Memref.isWhole_whole _) zV (Memref.isWhole_whole _) x2V (Memref.isWhole_whole _) y2V (Memref.isWhole_whole _)
            z2V (Memref.isWhole_whole _) csV (Memref.isWhole_whole _) bdV (Memref.isWhole_whole _) biV (Memref.isWhole_whole _) obV (Memref.isWhole_whole _)
            tfV (Memref.isWhole_whole _) tiV (Memref.isWhole_whole _) cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono_right (sep_mono_right (sep_mono_right (exists_elim fun W' => by
    iintro ⟨%h, HO⟩
    iexists W'
    isplitr; · ipureintro; exact fun p hp => (h p hp).imp_right Or.inl
    iexact HO)))

theorem tile_at (d : Dev nD) (p : Fin 2 × Fin 16) (O : CellTallies nD τ sig (HIx 1)) (W : Waits sig (HIx 1)) (hO : ∀ g, O g none = 0) :
    iprop(levAts (K (F := F)).L (K (F := F)).lev ∗ emp ∗ goP m d p ∗ scopedBufs (thr d (at_ p)) ∗ scopedSems0 (thr d (at_ p)) ∗ owes (thr d (at_ p)) O W)
      ⊢ wp frame (wpE (defs₀ (F := F)) 𝒱₀ (thr d (at_ p)) none) Set.univ
          (cc0_sc_knn (at_ p) xH (Memref.isWhole_whole _) yH (Memref.isWhole_whole _) zH (Memref.isWhole_whole _) oH (Memref.isWhole_whole _)
            xV (Memref.isWhole_whole _) yV (Memref.isWhole_whole _) zV (Memref.isWhole_whole _) x2V (Memref.isWhole_whole _) y2V (Memref.isWhole_whole _)
            z2V (Memref.isWhole_whole _) csV (Memref.isWhole_whole _) bdV (Memref.isWhole_whole _) biV (Memref.isWhole_whole _) obV (Memref.isWhole_whole _)
            tfV (Memref.isWhole_whole _) tiV (Memref.isWhole_whole _) cc0_scoped0 cc0_scoped1 cc0_scoped2 cc0_scoped3)
          fun _ => iprop(tdP m d p ∗ scopedBufs (thr d (at_ p)) ∗ scopedSems0 (thr d (at_ p))
            ∗ ∃ W', ⌜∀ p ∈ W', p ∈ W ∨ p.2 = none ∨ p.2 = some (0 : Fin 1)⌝ ∗ owes (thr d (at_ p)) O W') :=
  (sep_mono_right sep_elim_right).trans ((tile_body (d := d) (i := at_ p) facts (rd_ p) _ _ _ O W hO).trans (wp_mono frame _ _ fun _ => obl_post))

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_at m d (⟨c.val, c.isLt⟩, ⟨i.val, i.isLt⟩) O W hO

/-! ## Dealing the arrays out, and the result's rows back together -/

omit [FloatOps F] in
theorem deal_read {ℓ : Loc nD τ sig} (I : Fin 2 × Fin 16 → Finset (Idx ℓ)) (f : Buf (Elt F) ℓ) :
    (ℓ ↦{fullShare} f : sProp 𝕄) ⊢ bigSep Finset.univ fun p : Fin 2 × Fin 16 => ℓ ↦[I p]{rd_ p} f := by
  rw [bigSep_univ_prod]
  refine (Transfers.pointsTo_toks_split fullShare 2).trans (sep_elim_right.trans (bigSep_mono fun c _ => ?_))
  refine (Transfers.pointsTo_toks_split _ 16).trans (sep_elim_right.trans (bigSep_mono fun s _ => ?_))
  exact (pointsTo_split_subset (Finset.subset_univ (I (c, s)))).1.trans sep_elim_left

omit [FloatOps F] in
theorem deal_out (d : Dev nD) (f : Buf (Elt F) (oLoc d)) :
    (oLoc d ↦{fullShare} f : sProp 𝕄) ⊢ bigSep Finset.univ fun p : Fin 2 × Fin 16 => iprop(∃ f, outPts d (at_ p) f) := by
  have e : (oLoc d ↦{fullShare} f : sProp 𝕄) = bigSep Finset.univ fun p : Fin 2 × Fin 16 => oLoc d ↦[outSet p]{fullShare} f := by
    rw [← pointsTo_biUnion Finset.univ (ℓ := oLoc d) outSet outSet_disjoint, outSet_cover]; try rfl
  rw [e]
  refine bigSep_mono fun p _ => ?_
  show (oLoc d ↦[outSet p]{fullShare} f : sProp 𝕄) ⊢ iprop(∃ f, outPts d (at_ p) f)
  iintro H; iexists f; iexact H

theorem tileOk_congr {X Y Z : Vec F S16384 .f32} {p : Fin 2 × Fin 16} {f g : Vec F S262144 .i32} (h : TileOk X Y Z (at_ p) f)
    (hg : ∀ i ∈ outSet p, g i = f i) : TileOk X Y Z (at_ p) g := by
  obtain ⟨c, h1, h2⟩ := h
  refine ⟨c, h1, ?_⟩
  rw [show rowsOf (at_ p) g = rowsOf (at_ p) f from View.read_congr hg]
  exact h2

theorem join_out (d : Dev nD) :
    (bigSep Finset.univ fun p : Fin 2 × Fin 16 => tdP m d p)
      ⊢ iprop(∃ f, ⌜∀ p, TileOk (flatX (m (aLoc d))) (flatY (m (aLoc d))) (flatZ (m (aLoc d))) (at_ p) f⌝ ∗ oLoc d ↦{fullShare} f) := by
  unfold tdP
  refine (bigSep_exists_pi Finset.univ _).trans ?_
  iintro ⟨%fs, H⟩
  ihave H1 := (bigSep_pure_sep Finset.univ _ _) $$ H
  icases H1 with ⟨%hok, H1⟩
  ihave H2 := (pointsTo_biUnion_join (ℓ := oLoc d) Finset.univ outSet fs (fs (0, 0)) outSet_disjoint) $$ H1
  icases H2 with ⟨%g, %hg, Hg⟩
  rw [outSet_cover]
  iexists g
  isplitr
  · ipureintro
    exact fun p => tileOk_congr (hok p (Finset.mem_univ _)) (hg p (Finset.mem_univ _))
  · iexact Hg

theorem st0_eq (d : Dev nD) : (bigSep Finset.univ fun c : Fin ((K (F := F)).nCore 0) => (P m).st 0 d c) = bigSep Finset.univ fun p : Fin 2 × Fin 16 => goP m d p :=
  (bigSep_univ_prod (fun p : Fin 2 × Fin 16 => goP m d p)).symm
theorem dn0_eq (d : Dev nD) : (bigSep Finset.univ fun c : Fin ((K (F := F)).nCore 0) => (P m).dn 0 d c) = bigSep Finset.univ fun p : Fin 2 × Fin 16 => tdP m d p :=
  (bigSep_univ_prod (fun p : Fin 2 × Fin 16 => tdP m d p)).symm

theorem deal_go (d : Dev nD) (f : Buf (Elt F) (oLoc d)) :
    iprop((xLoc d ↦{fullShare} flatX (m (aLoc d))) ∗ (yLoc d ↦{fullShare} flatY (m (aLoc d))) ∗ (zLoc d ↦{fullShare} flatZ (m (aLoc d))) ∗ oLoc d ↦{fullShare} f)
      ⊢ bigSep Finset.univ fun p : Fin 2 × Fin 16 => goP m d p := by
  unfold goP inPts
  rw [bigSep_sep', bigSep_sep', bigSep_sep']
  iintro ⟨Hx, Hy, Hz, Ho⟩
  isplitr [Ho]
  · isplitl [Hx]
    · iapply (deal_read (ℓ := xLoc d) (fun p => (cutOf xH (at_ p)).view.set) (flatX (m (aLoc d)))); iexact Hx
    isplitl [Hy]
    · iapply (deal_read (ℓ := yLoc d) (fun p => (cutOf yH (at_ p)).view.set) (flatY (m (aLoc d)))); iexact Hy
    · iapply (deal_read (ℓ := zLoc d) (fun p => (cutOf zH (at_ p)).view.set) (flatZ (m (aLoc d)))); iexact Hz
  · iapply (deal_out d f); iexact Ho

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = iprop(emp) := by
    show (bigSep Finset.univ fun _ : Thread nD τ => bigSep Finset.univ fun _ : Fin 1 => (iprop(emp) : sProp 𝕄)) = iprop(emp)
    rw [bigSep_congr fun _ _ => bigSep_emp' _, bigSep_emp']
  unfold u₀
  rw [hx, bigSep_emp']
  iintro Hu
  ihave H := (ownU_pair _ _) $$ Hu
  icases H with ⟨HH, -⟩
  imodintro
  isplitl [HH]; · iexact HH
  isplitr <;> iempintro

/-! ## @main on the TensorCore -/

abbrev Dx : DevRef τ sig := dr main_v2
abbrev Dy : DevRef τ sig := dr main_v5
abbrev Dz : DevRef τ sig := dr main_v8
abbrev Do : DevRef τ sig := dr main_v9
abbrev Da : DevRef τ sig := dr main_arg0
abbrev Dr : DevRef τ sig := dr main_v16

abbrev S0 : Finset (DevRef τ sig) := StableHlo.tcRefs τ sig
/-- The call's arrays. -/
abbrev S4 : Finset (DevRef τ sig) := {Dx, Dy, Dz, Do}
/-- What the operations after the call run over. -/
abbrev S1 : Finset (DevRef τ sig) := insert Do (S0 \ S4)
/-- What is read at the end. -/
abbrev S2 : Finset (DevRef τ sig) := {Da, Dr}

theorem sub4 : S4 ⊆ S0 := by decide
theorem sub2 : S2 ⊆ S1 := by decide
theorem pre_sub : ∀ op ∈ (opsPre : List (HloOp τ sig (Elt F))), op.bufs ⊆ S0 := by
  refine List.forall_iff_forall_mem.mp ?_
  refine ⟨show ({_, _} : Finset _) ⊆ _ by decide,
    show ({_, _} : Finset _) ⊆ _ by decide, show ({_, _} : Finset _) ⊆ _ by decide,
    show ({_, _} : Finset _) ⊆ _ by decide, show ({_, _} : Finset _) ⊆ _ by decide,
    show ({_, _} : Finset _) ⊆ _ by decide, show ({_, _} : Finset _) ⊆ _ by decide,
    show ({_, _} : Finset _) ⊆ _ by decide, show ({_, _} : Finset _) ⊆ _ by decide⟩
theorem pre_fresh : ∀ op ∈ (opsPre : List (HloOp τ sig (Elt F))), op.fresh = ∅ := by
  refine List.forall_iff_forall_mem.mp ?_
  exact ⟨rfl, rfl, rfl, rfl, rfl, rfl, rfl, rfl, rfl⟩
theorem post_sub : ∀ op ∈ (opsPost : List (HloOp τ sig (Elt F))), op.bufs ⊆ S1 := by
  refine List.forall_iff_forall_mem.mp ?_
  refine ⟨show ({_, _} : Finset _) ⊆ _ by decide, show ({_} : Finset _) ⊆ _ by decide, show ({_, _} : Finset _) ⊆ _ by decide,
    show ({_, _} : Finset _) ⊆ _ by decide, show ({_, _} : Finset _) ⊆ _ by decide, show ({_, _} : Finset _) ⊆ _ by decide, show ({_, _, _} : Finset _) ⊆ _ by decide⟩
theorem post_fresh : ∀ op ∈ (opsPost : List (HloOp τ sig (Elt F))), op.fresh = ∅ := by
  refine List.forall_iff_forall_mem.mp ?_
  exact ⟨rfl, rfl, rfl, rfl, rfl, rfl, rfl⟩

def V0 (d : Dev nD) : Valuation τ sig (Elt F) := fun b => m (d, b)
/-- The arrays' contents when the call returns, the result's at `f`. -/
def V1 (d : Dev nD) (f : Vec F S262144 .i32) : Valuation τ sig (Elt F) := Function.update (after opsPre (V0 m d)) Do f

omit [FloatOps F] in
theorem unscoped_held (d : Dev nD) : (unscopedBufs d (fun b => m ((SparseCore.T d).loc b)) : sProp 𝕄) = held (T d) S0 (V0 m d) := by
  unfold unscopedBufs held S0 StableHlo.tcRefs
  rw [show (Finset.univ.filter fun b : Ref sig .tc => ¬ b.isScoped) = Finset.univ by decide, BI.bigSep_map]
  rfl

omit [FloatOps F] in
theorem held_S4 (d : Dev nD) (W : Valuation τ sig (Elt F)) :
    (held (T d) S4 W : sProp 𝕄) = iprop((xLoc d ↦{fullShare} W Dx) ∗ (yLoc d ↦{fullShare} W Dy) ∗ (zLoc d ↦{fullShare} W Dz) ∗ oLoc d ↦{fullShare} W Do) := by
  unfold held S4
  rw [SparseCore.bigSep_insert' (by decide), SparseCore.bigSep_insert' (by decide), SparseCore.bigSep_insert' (by decide), bigSep_singleton]

theorem held_S1 (d : Dev nD) (f : Vec F S262144 .i32) :
    (held (T d) S1 (V1 m d f) : sProp 𝕄) = iprop((oLoc d ↦{fullShare} f) ∗ held (T d) (S0 \ S4) (after opsPre (V0 m d))) := by
  rw [held_congr (T d) (S := S0 \ S4) (V := after opsPre (V0 m d)) (V' := V1 m d f) fun b hb => (Function.update_of_ne (by rintro rfl; revert hb; decide) _ _).symm]
  unfold held S1
  rw [SparseCore.bigSep_insert' (by decide), show V1 m d f Do = f from Function.update_self _ _ _]

theorem held_pre (d : Dev nD) : (held (T d) S0 (after opsPre (V0 m d)) : sProp 𝕄)
    = iprop(((xLoc d ↦{fullShare} flatX (m (aLoc d))) ∗ (yLoc d ↦{fullShare} flatY (m (aLoc d))) ∗ (zLoc d ↦{fullShare} flatZ (m (aLoc d)))
        ∗ oLoc d ↦{fullShare} after opsPre (V0 m d) Do) ∗ held (T d) (S0 \ S4) (after opsPre (V0 m d))) := by
  rw [held_sub_split (T d) sub4, held_S4, pre_x, pre_y, pre_z]; rfl

/-- The result from the rows' array and the argument. -/
theorem final_o (d : Dev nD) (f : Vec F S262144 .i32) : after opsPost (V1 m d f) Dr = assembled (shapeCast S4x4096x16 f shapeCasts_S262144_S4x4096x16) := by
  rw [post_o, show V1 m d f Do = f from Function.update_self _ _ _]
theorem final_a (d : Dev nD) (f : Vec F S262144 .i32) : after opsPost (V1 m d f) Da = m (aLoc d) := by
  rw [post_a, show V1 m d f Da = after opsPre (V0 m d) Da from Function.update_of_ne (by decide) _ _, pre_a]; rfl

abbrev AllOk (d : Dev nD) (f : Vec F S262144 .i32) : Prop :=
  ∀ p, TileOk (flatX (m (aLoc d))) (flatY (m (aLoc d))) (flatZ (m (aLoc d))) (at_ p) f

abbrev FIN (d : Dev nD) : sProp 𝕄 := iprop(∃ f, ⌜AllOk m d f⌝ ∗ held (T d) S2 (after opsPost (V1 m d f)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq, ← StableHlo.seq_bind_seqK]
  iintro ⟨#Hctx, Hst, ⟨Hb, Hheld, Hts, -⟩, -⟩
  iapply (wp_seq 𝒱 none Set.univ d S0 _ opsPre pre_sub pre_fresh (V0 m d)) $$ [Hb Hheld]
  · isplitl [Hb] <;> iassumption
  iintro ⟨Hb, Hheld⟩
  ihave Hheld := (Entails.of_eq (held_pre m d)) $$ Hheld
  icases Hheld with ⟨⟨Hx, Hy, Hz, Ho⟩, Hrest⟩
  iapply (Entails.of_eq (wp_bind ..).symm)
  iapply ((K (F := F)).wp_run (D (F := F)) 𝒱 (EH := EH) (P := P m) κ d 0) $$ [Hst Hx Hy Hz Ho Hb Hrest Hts]
  isplitr; · iexact Hctx
  isplitl [Hst]; · iexact Hst
  isplitl [Hx Hy Hz Ho]
  · rw [st0_eq]
    iapply (deal_go m d _)
    isplitl [Hx]; · iexact Hx
    isplitl [Hy]; · iexact Hy
    isplitl [Hz]; · iexact Hz
    iexact Ho
  iintro ⟨Hst, Hdn⟩
  ihave Hdn' := ((Entails.of_eq (dn0_eq m d)).trans (join_out m d)) $$ Hdn
  icases Hdn' with ⟨%f, %hok, Ho⟩
  iapply (wp_seq 𝒱 none Set.univ d S1 _ opsPost post_sub post_fresh (V1 m d f)) $$ [Hb Ho Hrest]
  · isplitl [Hb]; · iexact Hb
    rw [held_S1]
    isplitl [Ho] <;> iassumption
  iintro ⟨Hb, Hheld⟩
  ihave Hheld := (Entails.of_eq (held_sub_split (T d) sub2 _)) $$ Hheld
  icases Hheld with ⟨Hh, -⟩
  rw [wp_pure]; imodintro
  isplitl [Hst]; · iexact Hst
  isplitl [Hh]
  · iexists f
    isplitr; · ipureintro; exact hok
    iexact Hh
  isplitl [Hb] <;> iassumption

def fq (d : Dev nD) (s' : Phys nD τ sig (Elt F)) : Prop :=
  (∃ f, AllOk m d f ∧ s'.mem.mem (rLoc d) = assembled (shapeCast S4x4096x16 f shapeCasts_S262144_S4x4096x16)) ∧ s'.mem.mem (aLoc d) = m (aLoc d)

theorem hfin (d : Dev nD) (s' : Phys nD τ sig (Elt F)) : iprop(FIN m d ∗ SI s') ⊢ (⌜fq m d s'⌝ : sProp 𝕄) := by
  unfold FIN held
  iintro ⟨⟨%f, %hok, Hh⟩, HSI⟩
  ihave H := (SI_pointsTo_bufs_agree (st := s') (c := d) (qs := fun _ => fullShare) (F := after opsPost (V1 m d f)) S2) $$ [HSI Hh]
  · isplitl [HSI]; · iexact HSI
    iexact Hh
  icases H with %h
  ipureintro
  exact ⟨⟨f, hok, (h Dr (by decide)).trans (final_o m d f)⟩, (h Da (by decide)).trans (final_a m d f)⟩

/-! ## The run -/

/-- How every execution ends. -/
def QC : PUnit × MemSt nD τ sig (Elt F) → Prop := fun r =>
  (∀ d : Dev nD, (∃ f, AllOk m d f ∧ r.2.mem (rLoc d) = assembled (shapeCast S4x4096x16 f shapeCasts_S262144_S4x4096x16)) ∧ r.2.mem (aLoc d) = m (aLoc d))
    ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Pay

end Cert.Proof.Knn
-- ==== Proof.Frames.lean ====
/-
  The frames: each program's run read at its argument and its counters.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_kernel : Cert.quiescent_Kernel := fun m ρ _ =>
  (θ_run Cert.KernelIdeal.defs _ _).mono (fun _ h => ⟨fun c => (h.1 c).2, h.2⟩) (Knn.run_main (F := Bits) m ρ)

theorem frame_kernelIdeal : Cert.quiescent_KernelIdeal := fun m ρ _ =>
  (θ_run Cert.KernelIdeal.defs _ _).mono (fun _ h => ⟨fun c => (h.1 c).2, h.2⟩) (Knn.run_main (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section Pre

variable [Cert.Pre_separated.Facts]

theorem frame_kernelIdeal_pre : Cert.quiescent_KernelIdeal_pre_separated := fun m ρ _ => frame_kernelIdeal m ρ trivial

theorem frame_referenceIdeal_pre : Cert.quiescent_ReferenceIdeal_pre_separated := fun m ρ _ => frame_referenceIdeal m ρ trivial

end Pre

end Cert.Proof

end
-- ==== Proof.Plumb.lean ====
/-
  Where the words the program moves lie: a subcore's batch of each coordinate within the argument, and its rows within the
  result.
-/
module

public import proofs.«01_k».proof.Proof.Launch
public import Idealize.ShloMosaic.Lib.Pointwise
public import Idealize.ShloMosaic.Lib.Pipeline.Value

@[expose] public section

noncomputable section

namespace Cert.Proof.Knn

open Cert.KernelIdeal Cert.KernelIdeal.Gen

open Idealize.ShloMosaic

variable {F : FTy → Type} [FloatOps F]

/-- The batch a subcore works on. -/
def bat (p : Fin 2 × Fin 16) : Fin 4 := ⟨(wid p).val / 8, by omega⟩

theorem batch_apply (p : Fin 2 × Fin 16) (X : Vec F S16384 .f32) (q : Fin 4096) :
    wd (n := 4096) (batchX (at_ p) X) q = wd (n := 16384) X ⟨4096 * (bat p).val + q.val, by have := (bat p).isLt; omega⟩ := by
  refine (wd_eq (n := 16384) X _ _ ?_).symm
  show _ = k0_off1 (at_ p) 0 + 1 * q.val
  rw [off1_at, one_mul]
  rfl

theorem rows_apply (p : Fin 2 × Fin 16) (f : Vec F S262144 .i32) (q : Fin 8192) :
    wd (n := 8192) (rowsOf (at_ p) f) q = wd (n := 262144) f ⟨8192 * (wid p).val + q.val, by have := (wid p).isLt; omega⟩ := by
  refine (wd_eq (n := 262144) f _ _ ?_).symm
  show _ = k0_off6 (at_ p) 0 + 1 * q.val
  rw [off6_at, one_mul]

theorem flat_at {α : Type} {A B M : ℕ} (o : ℕ) (ho : o < 3) (a : (⟨3, ![A, B, 3]⟩ : Shape).Idx → α)
    (hs : (⟨3, ![A, B, 3]⟩ : Shape).Slices ![0, 0, o] ⟨3, ![A, B, 1]⟩) (h : (⟨3, ![A, B, 1]⟩ : Shape).ShapeCasts ⟨2, ![A, B]⟩)
    (h' : (⟨2, ![A, B]⟩ : Shape).ShapeCasts ⟨1, ![M]⟩) (b : Fin A) (q : Fin B) (n : Fin M) (hn : n.val = b.val * B + q.val) :
    shapeCast ⟨1, ![M]⟩ (shapeCast ⟨2, ![A, B]⟩ (extractStridedSlice ⟨3, ![A, B, 1]⟩ ![0, 0, o] a hs) h) h' (ix1 n) = a (ix3 b q ⟨o, ho⟩) := by
  rw [shapeCast_apply _ h' _ (ix2 b q) (by rw [Shape.rowMajor_val_two, Shape.rowMajor_val_one]; exact hn.symm),
    shapeCast_apply _ h _ (ix3 b q 0) (by
      rw [Shape.rowMajor_val_two, Shape.rowMajor_val_three]
      show (b.val * B + q.val) * 1 + 0 = b.val * B + q.val
      omega)]
  refine extractStridedSlice_apply _ _ _ _ _ fun c => ?_
  fin_cases c
  · exact (Nat.zero_add _).symm
  · exact (Nat.zero_add _).symm
  · rfl

theorem wd_ix1 {n : ℕ} {e : EltTy} (f : Vec F ⟨1, ![n]⟩ e) (p : Fin n) : wd f p = f (ix1 p) := wd_eq f p _ rfl

theorem batchX_at (p : Fin 2 × Fin 16) (A : Vec F S4x4096x3 .f32) (q : Fin 4096) : wd (n := 4096) (batchX (at_ p) (flatX A)) q = A (ix3 (bat p) q 0) := by
  rw [batch_apply, wd_ix1]
  exact flat_at 0 (by decide) A _ _ _ _ _ _ (congrArg (· + _) (Nat.mul_comm _ _))
theorem batchY_at (p : Fin 2 × Fin 16) (A : Vec F S4x4096x3 .f32) (q : Fin 4096) : wd (n := 4096) (batchY (at_ p) (flatY A)) q = A (ix3 (bat p) q 1) := by
  refine (batch_apply p (flatY A) q).trans ?_
  rw [wd_ix1]
  exact flat_at 1 (by decide) A _ _ _ _ _ _ (congrArg (· + _) (Nat.mul_comm _ _))
theorem batchZ_at (p : Fin 2 × Fin 16) (A : Vec F S4x4096x3 .f32) (q : Fin 4096) : wd (n := 4096) (batchZ (at_ p) (flatZ A)) q = A (ix3 (bat p) q 2) := by
  refine (batch_apply p (flatZ A) q).trans ?_
  rw [wd_ix1]
  exact flat_at 2 (by decide) A _ _ _ _ _ _ (congrArg (· + _) (Nat.mul_comm _ _))

theorem unflat_at {α : Type} {A B C M : ℕ} (f : (⟨1, ![M]⟩ : Shape).Idx → α) (h : (⟨1, ![M]⟩ : Shape).ShapeCasts ⟨3, ![A, B, C]⟩)
    (b : Fin A) (i : Fin B) (k : Fin C) (n : Fin M) (hn : n.val = (b.val * B + i.val) * C + k.val) :
    shapeCast ⟨3, ![A, B, C]⟩ f h (ix3 b i k) = f (ix1 n) :=
  shapeCast_apply _ h _ _ (by rw [Shape.rowMajor_val_three, Shape.rowMajor_val_one]; exact hn)

end Cert.Proof.Knn
-- ==== Proof.Low.lean ====
/-
  Sorting, merging and flushing over the extended reals: the pairs of a key at most `A` and its index, kept through each.
-/
module

public import proofs.«01_k».proof.Proof.Append
public import proofs.«01_k».proof.Proof.Chunk

@[expose] public section

noncomputable section

namespace Cert.Proof.Knn

open Cert.KernelIdeal Cert.KernelIdeal.Gen

open Idealize.ShloMosaic

/-- A key and its index, if the key is at most `A`. -/
def low (A : EReal) (x : EReal) (v : BitVec 32) : Multiset (EReal × BitVec 32) := if x ≤ A then {(x, v)} else 0

/-- The low pairs of a register. -/
def lowR (A : EReal) (k : Vec Ideal S16 .f32) (v : Vec Ideal S16 .i32) : Multiset (EReal × BitVec 32) :=
  ∑ l : Fin 16, low A (k (ln l)) (v (ln l))

/-- A register's keys ascend. -/
def Asc (k : Vec Ideal S16 .f32) : Prop := ∀ a b : Fin 16, a ≤ b → (k (ln a) : EReal) ≤ k (ln b)

theorem low_card_le (A x : EReal) (v : BitVec 32) : (low A x v).card ≤ 1 := by
  unfold low; split <;> simp

theorem low_of_lt {A x : EReal} {v : BitVec 32} (h : A < x) : low A x v = 0 := if_neg (not_le.mpr h)

theorem low_of_le {A x : EReal} {v : BitVec 32} (h : x ≤ A) : low A x v = {(x, v)} := if_pos h

theorem ideal_olt (x y : EReal) : FloatOps.cmpf (F := Ideal) (φ := .f32) .olt x y = 1#1 ↔ x < y := by
  show BitVec.ofBool (decide (x < y)) = 1#1 ↔ _
  by_cases h : x < y <;> simp [h]

theorem ideal_ole (x y : EReal) : FloatOps.cmpf (F := Ideal) (φ := .f32) .ole x y = 1#1 ↔ x ≤ y := by
  show BitVec.ofBool (decide (x ≤ y)) = 1#1 ↔ _
  by_cases h : x ≤ y <;> simp [h]

theorem ideal_oeq (x y : EReal) : FloatOps.cmpf (F := Ideal) (φ := .f32) .oeq x y = 1#1 ↔ x = y := by
  show BitVec.ofBool (decide (x = y)) = 1#1 ↔ _
  by_cases h : x = y <;> simp [h]

theorem ideal_ogt (x y : EReal) : FloatOps.cmpf (F := Ideal) (φ := .f32) .ogt x y = 1#1 ↔ y < x := by
  show BitVec.ofBool (decide (y < x)) = 1#1 ↔ _
  by_cases h : y < x <;> simp [h]

attribute [local irreducible] Upd rankV gat

/-! ## Sorting -/

theorem before_iff (k : Vec Ideal S16 .f32) (n l : Fin 16) :
    Before (F := Ideal) k n l ↔ (k (ln n) : EReal) < k (ln l) ∨ (k (ln n) : EReal) = k (ln l) ∧ n < l := by
  unfold Before
  rw [ideal_ole, ideal_olt]
  constructor
  · rintro (⟨h, h'⟩ | ⟨h, h'⟩)
    · rcases lt_or_eq_of_le h' with h' | h'
      · exact .inl h'
      · exact .inr ⟨h', h⟩
    · exact .inl h'
  · rintro (h | ⟨h, h'⟩)
    · rcases lt_trichotomy n l with h' | rfl | h'
      · exact .inl ⟨h', h.le⟩
      · exact (lt_irrefl _ h).elim
      · exact .inr ⟨h', h⟩
    · exact .inl ⟨h', h.le⟩

/-- A lane's rank. -/
def rk (k : Vec Ideal S16 .f32) (l : Fin 16) : Fin 16 := ⟨(rankV (F := Ideal) k (ln l)).toNat, rankV_lt (F := Ideal) k (ln l)⟩

theorem rk_lt {k : Vec Ideal S16 .f32} {n l : Fin 16} (h : Before (F := Ideal) k n l) : rk k n < rk k l := by
  show (rankV (F := Ideal) k (ln n)).toNat < (rankV (F := Ideal) k (ln l)).toNat
  rw [rankV_toNat, rankV_toNat]
  apply Finset.card_lt_card
  rw [Finset.ssubset_iff_of_subset]
  · refine ⟨n, by simpa using h, ?_⟩
    simp only [Finset.mem_filter, Finset.mem_univ, true_and, before_iff]
    rintro (h | h)
    · exact lt_irrefl _ h
    · exact lt_irrefl _ h
  · intro m
    simp only [Finset.mem_filter, Finset.mem_univ, true_and]
    rw [before_iff] at h ⊢
    rw [before_iff]
    rintro (h1 | ⟨h1, h1'⟩) <;> rcases h with h2 | ⟨h2, h2'⟩
    · exact .inl (h1.trans h2)
    · exact .inl (h2 ▸ h1)
    · exact .inl (h1 ▸ h2)
    · exact .inr ⟨h1.trans h2, h1'.trans h2'⟩

theorem before_total (k : Vec Ideal S16 .f32) {n l : Fin 16} (h : n ≠ l) : Before (F := Ideal) k n l ∨ Before (F := Ideal) k l n := by
  rw [before_iff, before_iff]
  rcases lt_trichotomy (k (ln n) : EReal) (k (ln l)) with h1 | h1 | h1
  · exact .inl (.inl h1)
  · rcases lt_or_gt_of_ne h with h | h
    · exact .inl (.inr ⟨h1, h⟩)
    · exact .inr (.inr ⟨h1.symm, h⟩)
  · exact .inr (.inl h1)

theorem rk_inj (k : Vec Ideal S16 .f32) : Function.Injective (rk k) := by
  intro n l h
  by_contra hne
  rcases before_total k hne with h' | h'
  · exact absurd h (rk_lt h').ne
  · exact absurd h (rk_lt h').ne'

theorem rk_bij (k : Vec Ideal S16 .f32) : Function.Bijective (rk k) := Finite.injective_iff_bijective.mp (rk_inj k)

theorem upd_rank {e : EltTy} {k : Vec Ideal S16 .f32} {f v f' : Vec Ideal S16 e} (h : Upd (s := S16) f ![rankV (F := Ideal) k] v ones f') (l : Fin 16) :
    f' (ln (rk k l)) = v (ln l) := by
  refine (wd_S16 f' (rk k l)).symm.trans (h.hit l rfl (fun k' _ he => rk_inj k (Fin.ext he)) (rk k l) rfl)

theorem SortR.lanes {k k' : Vec Ideal S16 .f32} {v v' : Vec Ideal S16 .i32} (h : SortR k v k' v') (l : Fin 16) :
    k' (ln (rk k l)) = k (ln l) ∧ v' (ln (rk k l)) = v (ln l) := by
  obtain ⟨⟨tf, h1⟩, ti, h2⟩ := h
  exact ⟨upd_rank h1 l, upd_rank h2 l⟩

theorem SortR.low {A : EReal} {k k' : Vec Ideal S16 .f32} {v v' : Vec Ideal S16 .i32} (h : SortR k v k' v') :
    lowR A k' v' = lowR A k v := by
  unfold lowR
  rw [← (rk_bij k).sum_comp (fun l => Knn.low A (k' (ln l)) (v' (ln l)))]
  refine Finset.sum_congr rfl fun l _ => ?_
  rw [(h.lanes l).1, (h.lanes l).2]

theorem SortR.asc {k k' : Vec Ideal S16 .f32} {v v' : Vec Ideal S16 .i32} (h : SortR k v k' v') : Asc k' := by
  intro a b hab
  obtain ⟨n, rfl⟩ := (rk_bij k).2 a
  obtain ⟨l, rfl⟩ := (rk_bij k).2 b
  rw [(h.lanes n).1, (h.lanes l).1]
  by_contra hlt
  have := rk_lt ((before_iff k l n).mpr (.inl (not_le.mp hlt)))
  exact absurd hab (not_le.mpr this)

/-! ## Merging -/

theorem Asc.card {A : EReal} {a : Vec Ideal S16 .f32} {v : Vec Ideal S16 .i32} (h : Asc a) {l : Fin 16} (hl : (a (ln l) : EReal) ≤ A) :
    l.val + 1 ≤ (lowR A a v).card := by
  unfold lowR
  rw [Multiset.card_sum]
  calc l.val + 1 = ∑ n ∈ Finset.Iic l, 1 := by simp
    _ ≤ ∑ n ∈ Finset.Iic l, (low A (a (ln n)) (v (ln n))).card := Finset.sum_le_sum fun n hn => by
        rw [low_of_le ((h n l (Finset.mem_Iic.mp hn)).trans hl)]; simp
    _ ≤ _ := Finset.sum_le_sum_of_subset (Finset.subset_univ _)

theorem MergeR.low {A : EReal} {a b k' : Vec Ideal S16 .f32} {ai bi v' : Vec Ideal S16 .i32} (h : MergeR a ai b bi k' v')
    (ha : Asc a) (hb : Asc b) (hc : (lowR A a ai).card + (lowR A b bi).card ≤ 16) : lowR A k' v' = lowR A a ai + lowR A b bi := by
  rw [SortR.low h]
  have hr : lowR A b bi = ∑ l : Fin 16, Knn.low A (b (ln l.rev)) (bi (ln l.rev)) :=
    (Equiv.sum_comp Fin.revPerm (fun l => Knn.low A (b (ln l)) (bi (ln l)))).symm
  rw [hr]
  unfold lowR
  rw [← Finset.sum_add_distrib]
  refine Finset.sum_congr rfl fun l _ => ?_
  have e1 : mergeKey a (gat (F := Ideal) (e := .f32) b rev) (ln l) = if (b (ln l.rev) : EReal) < a (ln l) then b (ln l.rev) else a (ln l) := by
    show (if FloatOps.cmpf (F := Ideal) (φ := .f32) .olt (gat (F := Ideal) (e := .f32) b rev (ln l)) (a (ln l)) = 1#1 then _ else _) = _
    rw [gat_rev (F := Ideal) (e := .f32), if_congr (ideal_olt _ _) rfl rfl]
  have e2 : mergeIdx a (gat (F := Ideal) (e := .f32) b rev) ai (gat (F := Ideal) (e := .i32) bi rev) (ln l)
      = if (b (ln l.rev) : EReal) < a (ln l) then bi (ln l.rev) else ai (ln l) := by
    show (if FloatOps.cmpf (F := Ideal) (φ := .f32) .olt (gat (F := Ideal) (e := .f32) b rev (ln l)) (a (ln l)) = 1#1 then _ else _) = _
    rw [gat_rev (F := Ideal) (e := .f32), gat_rev (F := Ideal) (e := .i32), if_congr (ideal_olt _ _) rfl rfl]
  rw [e1, e2]
  have hn : ¬ ((a (ln l) : EReal) ≤ A ∧ (b (ln l.rev) : EReal) ≤ A) := by
    rintro ⟨h1, h2⟩
    have := ha.card (v := ai) h1
    have := hb.card (v := bi) h2
    rw [Fin.val_rev] at this
    omega
  split
  next hlt =>
    rw [low_of_lt (x := a (ln l)), zero_add]
    by_contra hle
    exact hn ⟨not_lt.mp hle, hlt.le.trans (not_lt.mp hle)⟩
  next hlt =>
    rw [low_of_lt (x := b (ln l.rev)), add_zero]
    by_contra hle
    exact hn ⟨(not_lt.mp hlt).trans (not_lt.mp hle), not_lt.mp hle⟩

/-! ## The candidate buffer -/

/-- The word at position `p` of a candidate buffer. -/
def wb {e : EltTy} (f : Vec Ideal S224 e) (p : ℕ) : Elt Ideal e := wd (n := 224) f ⟨p % 224, Nat.mod_lt _ (by decide)⟩

/-- The low pairs of the candidates at positions `lo` to `hi`, of `pos` candidates. -/
def lowB (A : EReal) (bd : Vec Ideal S224 .f32) (bi : Vec Ideal S224 .i32) (pos lo hi : ℕ) : Multiset (EReal × BitVec 32) :=
  ∑ p ∈ Finset.Ico lo hi, if p < pos then low A (wb bd p) (wb bi p) else 0

theorem lowB_add (A : EReal) (bd : Vec Ideal S224 .f32) (bi : Vec Ideal S224 .i32) (pos : ℕ) {lo mid hi : ℕ} (h1 : lo ≤ mid) (h2 : mid ≤ hi) :
    lowB A bd bi pos lo mid + lowB A bd bi pos mid hi = lowB A bd bi pos lo hi :=
  Finset.sum_Ico_consecutive _ h1 h2

theorem lowB_all (A : EReal) (bd : Vec Ideal S224 .f32) (bi : Vec Ideal S224 .i32) {pos hi : ℕ} (h : pos ≤ hi) :
    lowB A bd bi pos 0 hi = ∑ p ∈ Finset.range pos, low A (wb bd p) (wb bi p) := by
  unfold lowB
  rw [← Finset.range_eq_Ico, ← Finset.sum_filter]
  refine Finset.sum_congr ?_ fun _ _ => rfl
  ext p
  simp only [Finset.mem_filter, Finset.mem_range]
  omega

theorem inf_top : (Scalar.ofBits (F := Ideal) .f32 0x7F800000#32 : EReal) = ⊤ := by
  show Ideal.ofBits .f32 0x7F800000#32 = ⊤
  simp [Ideal.ofBits, Ideal.ieee]

theorem slt_small {x y : BitVec 32} (hx : x.toNat < 1000) (hy : y.toNat < 1000) : IntOp.cmpi .slt x y = 1#1 ↔ x.toNat < y.toNat := by
  have e1 : x.toInt = x.toNat := BitVec.toInt_eq_toNat_of_lt (by omega)
  have e2 : y.toInt = y.toNat := BitVec.toInt_eq_toNat_of_lt (by omega)
  simp only [IntOp.cmpi, BitVec.slt, e1, e2]
  by_cases h : x.toNat < y.toNat
  · simp [h]
  · simp [h]

theorem leaf_low {A : EReal} (hA : A < ⊤) (bd : Vec Ideal S224 .f32) (bi : Vec Ideal S224 .i32) {pos : BitVec 32} (hp : pos.toNat < 1000) {n : ℕ}
    (hn : n ≤ 208) :
    lowR A (maskB (BitVec.ofNat 32 n) pos (blk (n := 224) bd (by decide) n)) (blk (n := 224) bi (by decide) n) = lowB A bd bi pos.toNat n (n + 16) := by
  unfold lowR lowB
  rw [Finset.sum_Ico_eq_sum_range, Nat.add_sub_cancel_left, Finset.sum_range]
  refine Finset.sum_congr rfl fun l _ => ?_
  have hl := l.isLt
  have ev : (lanes (ln l) + BitVec.ofNat 32 n).toNat = n + l.val := by
    rw [BitVec.toNat_add, lanes_toNat, BitVec.toNat_ofNat]; omega
  have hc := slt_small (x := lanes (ln l) + BitVec.ofNat 32 n) (y := pos) (by omega) hp
  rw [ev] at hc
  have e : maskB (F := Ideal) (BitVec.ofNat 32 n) pos (blk (n := 224) bd (by decide) n) (ln l)
      = if n + l.val < pos.toNat then wb bd (n + l.val) else (⊤ : EReal) := by
    rw [← if_congr hc rfl rfl, ← inf_top]; rfl
  rw [e]
  split
  · rfl
  · exact low_of_lt hA

/-- The blocks of a buffer holding at most sixteen low candidates, merged: their low candidates, ascending. -/
theorem Tour.low {A : EReal} (hA : A < ⊤) {bd : Vec Ideal S224 .f32} {bi : Vec Ideal S224 .i32} {pos : BitVec 32} (hp : pos.toNat < 1000)
    {lo hi : ℕ} {k : Vec Ideal S16 .f32} {v : Vec Ideal S16 .i32} (h : Tour bd bi pos lo hi k v) :
    lo ≤ hi ∧ Asc k ∧ ((lowB A bd bi pos.toNat lo hi).card ≤ 16 → lowR A k v = lowB A bd bi pos.toNat lo hi) := by
  induction h with
  | @leaf n inb _ _ h =>
    refine ⟨by omega, h.asc, fun _ => ?_⟩
    have hn : n + 16 ≤ 224 := inb 0
    rw [h.low]
    have e1 := rd_unit (F := Ideal) (e := .f32) (n := 224) bd (by decide) inb
    have e2 := rd_unit (F := Ideal) (e := .i32) (n := 224) bi (by decide) inb
    rw [← leaf_low hA bd bi hp (by omega : n ≤ 208)]
    exact congrArg₂ (fun a b => lowR A (maskB (BitVec.ofNat 32 n) pos a) b) e1 e2
  | @node lo mid hi _ _ _ _ _ _ h ha hb iha ihb =>
    obtain ⟨h1, a1, c1⟩ := iha
    obtain ⟨h2, a2, c2⟩ := ihb
    refine ⟨h1.trans h2, SortR.asc h, fun hc => ?_⟩
    rw [← lowB_add A bd bi _ h1 h2, Multiset.card_add] at hc
    rw [h.low a1 a2 (by rw [c1 (by omega), c2 (by omega)]; exact hc), c1 (by omega), c2 (by omega), lowB_add A bd bi _ h1 h2]

theorem FlushR.low {A : EReal} (hA : A < ⊤) {bd : Vec Ideal S224 .f32} {bi : Vec Ideal S224 .i32} {pos : BitVec 32} (hp : pos.toNat ≤ 192)
    {tv tv' : Vec Ideal S16 .f32} {tx tx' : Vec Ideal S16 .i32} (h : FlushR bd bi pos tv tx tv' tx') (ha : Asc tv)
    (hc : (lowR A tv tx + lowB A bd bi pos.toNat 0 192).card ≤ 16) :
    Asc tv' ∧ lowR A tv' tx' = lowR A tv tx + lowB A bd bi pos.toNat 0 192 := by
  obtain ⟨k, v, hm, ht⟩ := h
  rw [Multiset.card_add] at hc
  obtain ⟨-, a, e⟩ := ht.low hA (by omega)
  have e := e (by omega)
  refine ⟨SortR.asc hm, ?_⟩
  rw [hm.low ha a (by rw [e]; exact hc), e]

end Cert.Proof.Knn
-- ==== Proof.Best.lean ====
/-
  One row over the extended reals: if exactly sixteen keys are at most the sixteenth smallest, and they are distinct, the
  row stores their indices in the order of the keys.
-/
module

public import proofs.«01_k».proof.Proof.Low

@[expose] public section

noncomputable section

namespace Cert.Proof.Knn

open Cert.KernelIdeal Cert.KernelIdeal.Gen

open Idealize.ShloMosaic

attribute [local irreducible] Upd rankV gat rd blk

/-! ## Appending -/

theorem wb_lt {e : EltTy} (f : Vec Ideal S224 e) {p : ℕ} (h : p < 224) : wb f p = wd (n := 224) f ⟨p, h⟩ := by
  unfold wb
  congr 1
  exact Fin.ext (Nat.mod_eq_of_lt h)

/-- The low candidates of a buffer of `n`. -/
def lowP (A : EReal) (bd : Vec Ideal S224 .f32) (bi : Vec Ideal S224 .i32) (n : ℕ) : Multiset (EReal × BitVec 32) :=
  ∑ p ∈ Finset.range n, low A (wb bd p) (wb bi p)

section App

variable {e : EltTy} {f f' : Vec Ideal S224 e} {pos : BitVec 32} {m : IVec S16 1} {v : Vec Ideal S16 e}

theorem upd_old (h : Upd (s := S224) f ![slot pos m] v m f') (hp : pos.toNat ≤ 208) {p : ℕ} (hlt : p < pos.toNat) : wb f' p = wb f p := by
  rw [wb_lt f' (by omega), wb_lt f (by omega)]
  refine h.miss ⟨p, _⟩ fun k _ => ?_
  rw [slot_toNat m k (by omega)]
  show p ≠ _
  omega

theorem upd_new (h : Upd (s := S224) f ![slot pos m] v m f') (hp : pos.toNat ≤ 208) {k : Fin 16} (hk : m (ln k) = 1) :
    wb f' (pos.toNat + cntLt m k) = v (ln k) := by
  have := cntLt_le m k
  have := k.isLt
  rw [wb_lt f' (by omega)]
  refine h.hit k hk (fun k' hk' he => ?_) _ (slot_toNat m k (by omega)).symm
  rw [slot_toNat m k (by omega), slot_toNat m k' (by omega)] at he
  exact cntLt_inj hk' hk (by omega)

end App

theorem App1.low {A : EReal} {ix : IVec S16 32} {de : Vec Ideal S16 .f32} {m : IVec S16 1} {bd bd' : Vec Ideal S224 .f32}
    {bi bi' : Vec Ideal S224 .i32} {pos pos' : BitVec 32} (h : App1 ix de m bd bi pos bd' bi' pos') (hp : pos.toNat ≤ 208) :
    lowP A bd' bi' pos'.toNat = lowP A bd bi pos.toNat + ∑ l : Fin 16, if m (ln l) = 1 then Knn.low A (de (ln l)) (ix (ln l)) else 0 := by
  rw [h.len, addi_cnt m (by omega)]
  unfold lowP
  rw [Finset.sum_range_add]
  congr 1
  · refine Finset.sum_congr rfl fun p hp' => ?_
    rw [upd_old h.keys hp (Finset.mem_range.mp hp'), upd_old h.idxs hp (Finset.mem_range.mp hp')]
  · rw [← Finset.sum_filter]
    symm
    refine Finset.sum_nbij (cntLt m) ?_ ?_ ?_ ?_
    · intro l hl
      exact Finset.mem_range.mpr (cntLt_lt_all (Finset.mem_filter.mp hl).2)
    · intro a ha b hb he
      exact cntLt_inj (Finset.mem_filter.mp (Finset.mem_coe.mp ha)).2 (Finset.mem_filter.mp (Finset.mem_coe.mp hb)).2 he
    · intro r hr
      obtain ⟨k, hk, rfl⟩ := cntLt_surj (Finset.mem_range.mp (Finset.mem_coe.mp hr))
      exact ⟨k, Finset.mem_coe.mpr (Finset.mem_filter.mpr ⟨Finset.mem_univ _, hk⟩), rfl⟩
    · intro l hl
      rw [upd_new h.keys hp (Finset.mem_filter.mp hl).2, upd_new h.idxs hp (Finset.mem_filter.mp hl).2]

theorem AppR.low {A : EReal} {de : ℕ → Vec Ideal S16 .f32} {ms : ℕ → IVec S16 1} {base pos : BitVec 32} {bd : Vec Ideal S224 .f32}
    {bi : Vec Ideal S224 .i32} {u : ℕ} {bd' : Vec Ideal S224 .f32} {bi' : Vec Ideal S224 .i32} {pos' : BitVec 32} (hp : pos.toNat ≤ 63)
    (hu : u ≤ 8) (h : AppR de ms base bd bi pos u bd' bi' pos') :
    lowP A bd' bi' pos'.toNat = lowP A bd bi pos.toNat
      + ∑ n ∈ Finset.range u, ∑ l : Fin 16, if ms n (ln l) = 1 then Knn.low A (de n (ln l)) (idxV base (BitVec.ofNat 32 (16 * n)) (ln l)) else 0 := by
  induction h with
  | zero => simp
  | succ h ha ih =>
    have := h.len hp (by omega)
    rw [ha.low (by omega), ih (by omega), Finset.sum_range_succ, add_assoc]

/-! ## The points taken in -/

variable (D : ℕ → EReal) (A : EReal)

/-- The low points before `n`. -/
def lowD (n : ℕ) : Multiset (EReal × BitVec 32) := ∑ j ∈ Finset.range n, low A (D j) (BitVec.ofNat 32 j)

/-- The keys are the points' distances. -/
def Keys (de : ℕ → ℕ → Vec Ideal S16 .f32) : Prop := ∀ n < 32, ∀ u < 8, ∀ l : Fin 16, (de n u (ln l) : EReal) = D (128 * n + 16 * u + l.val)

/-- Every low point from `T` on is nearer than the bound. -/
def Bnd (b : Vec Ideal S16 .f32) (T : ℕ) : Prop := ∀ l : Fin 16, ∀ j, T ≤ j → j < 4096 → D j ≤ A → D j < b (ln l)

variable {D A}

theorem Bnd.mono {b : Vec Ideal S16 .f32} {T T' : ℕ} (h : Bnd D A b T) (hT : T ≤ T') : Bnd D A b T' :=
  fun l j hj => h l j (hT.trans hj)

theorem lowD_add (n m : ℕ) : lowD D A (n + m) = lowD D A n + ∑ j ∈ Finset.range m, low A (D (n + j)) (BitVec.ofNat 32 (n + j)) :=
  Finset.sum_range_add _ _ _

theorem lowD_card {n m : ℕ} (h : n ≤ m) : (lowD D A n).card ≤ (lowD D A m).card := by
  obtain ⟨k, rfl⟩ := Nat.exists_eq_add_of_le h
  rw [lowD_add, Multiset.card_add]
  omega

theorem lowD_card_lt {n m j : ℕ} (h : n ≤ j) (hj : j < m) (hl : D j ≤ A) : (lowD D A n).card < (lowD D A m).card := by
  have h1 := lowD_card (D := D) (A := A) h
  have h2 := lowD_card (D := D) (A := A) (show j + 1 ≤ m from hj)
  have h3 : (lowD D A (j + 1)).card = (lowD D A j).card + 1 := by
    unfold lowD
    rw [Finset.sum_range_succ, Multiset.card_add, low_of_le hl, Multiset.card_singleton]
  omega

theorem sum_blocks {M : Type} [AddCommMonoid M] (g : ℕ → M) (m : ℕ) :
    ∑ u ∈ Finset.range m, ∑ l : Fin 16, g (16 * u + l.val) = ∑ j ∈ Finset.range (16 * m), g j := by
  induction m with
  | zero => simp
  | succ m ih =>
    rw [Finset.sum_range_succ, ih, Nat.mul_succ, Finset.sum_range_add, ← Finset.sum_range (fun l => g (16 * m + l))]

theorem idxV_ln {n u : ℕ} (hn : n < 32) (hu : u < 8) (l : Fin 16) :
    idxV (BitVec.ofNat 32 (128 * n)) (BitVec.ofNat 32 (16 * u)) (ln l) = BitVec.ofNat 32 (128 * n + 16 * u + l.val) := by
  have hl := l.isLt
  apply BitVec.eq_of_toNat_eq
  show (lanes (ln l) + (BitVec.ofNat 32 (128 * n) + BitVec.ofNat 32 (16 * u))).toNat = _
  rw [BitVec.toNat_add, lanes_toNat]
  simp only [BitVec.toNat_add, BitVec.toNat_ofNat]
  omega

/-- A chunk's masked lanes hold all its low points. -/
theorem chunk_low {de : ℕ → ℕ → Vec Ideal S16 .f32} (hk : Keys D de) {n : ℕ} (hn : n < 32) {b : Vec Ideal S16 .f32} (hb : Bnd D A b (128 * n)) :
    ∑ u ∈ Finset.range 8, ∑ l : Fin 16, (if maskOf de n b u (ln l) = 1 then low A (de n u (ln l)) (idxV (BitVec.ofNat 32 (128 * n)) (BitVec.ofNat 32 (16 * u)) (ln l)) else 0)
      = ∑ j ∈ Finset.range 128, low A (D (128 * n + j)) (BitVec.ofNat 32 (128 * n + j)) := by
  rw [show (128 : ℕ) = 16 * 8 from rfl, ← sum_blocks (fun j => low A (D (16 * 8 * n + j)) (BitVec.ofNat 32 (16 * 8 * n + j)))]
  refine Finset.sum_congr rfl fun u hu => Finset.sum_congr rfl fun l _ => ?_
  have hu := Finset.mem_range.mp hu
  have hl := l.isLt
  rw [show 16 * 8 * n = 128 * n from rfl, idxV_ln hn hu, hk n hn u hu l, ← Nat.add_assoc]
  split
  next => rfl
  next hm =>
    refine (low_of_lt ?_).symm
    by_contra hle
    refine hm ((ideal_olt _ _).mpr ?_)
    rw [hk n hn u hu l]
    exact hb l _ (by omega) (by omega) (not_lt.mp hle)

/-- What holds after `n` chunks. -/
structure Inv (D : ℕ → EReal) (A : EReal) (n : ℕ) (s : St Ideal) : Prop where
  asc : Asc s.tv
  pos : s.pos.toNat ≤ 63
  low : lowR A s.tv s.tx + lowP A s.bd s.bi s.pos.toNat = lowD D A (128 * n)
  bound : Bnd D A s.bound (128 * n)

theorem Absorb.inv (hA : A < ⊤) (hc : (lowD D A 4096).card ≤ 16) {de : ℕ → ℕ → Vec Ideal S16 .f32} (hk : Keys D de) {n : ℕ} (hn : n < 32)
    {b : Vec Ideal S16 .f32} (hb : Bnd D A b (128 * n)) {s s' : St Ideal}
    (h : Absorb (de n) (maskOf de n b) (BitVec.ofNat 32 (128 * n)) s s') (hi : Inv D A n s) : Inv D A (n + 1) s' := by
  have hch := chunk_low hk hn hb
  have hmono : 128 * n ≤ 128 * (n + 1) := by omega
  have hD : lowD D A (128 * (n + 1)) = lowD D A (128 * n) + ∑ j ∈ Finset.range 128, Knn.low A (D (128 * n + j)) (BitVec.ofNat 32 (128 * n + j)) := by
    rw [Nat.mul_succ, lowD_add]
  cases h with
  | none h =>
    refine ⟨hi.asc, hi.pos, ?_, hi.bound.mono hmono⟩
    rw [hi.low, hD, ← hch]
    refine (add_eq_left.mpr ?_).symm
    refine Finset.sum_eq_zero fun u hu => Finset.sum_eq_zero fun l _ => if_neg (h u (Finset.mem_range.mp hu) l)
  | keep h hp =>
    refine ⟨hi.asc, hp, ?_, hi.bound.mono hmono⟩
    show lowR A s.tv s.tx + lowP A _ _ _ = _
    rw [h.low hi.pos le_rfl, ← add_assoc, hi.low, hD, ← hch]
  | @flush bd bi pos tv tx h hf =>
    have hlen := h.len hi.pos le_rfl
    have hl : lowR A s.tv s.tx + lowP A bd bi pos.toNat = lowD D A (128 * (n + 1)) := by
      rw [h.low hi.pos le_rfl, ← add_assoc, hi.low, hD, ← hch]
    have hB : lowB A bd bi pos.toNat 0 192 = lowP A bd bi pos.toNat := lowB_all A bd bi (by omega)
    have hcard : (lowD D A (128 * (n + 1))).card ≤ 16 := (lowD_card (by omega)).trans hc
    obtain ⟨ha, hlow⟩ := hf.low hA (by omega) hi.asc (by rw [hB, hl]; exact hcard)
    rw [hB, hl] at hlow
    refine ⟨ha, Nat.zero_le _, ?_, ?_⟩
    · show lowR A tv tx + lowP A bd bi 0 = _
      rw [hlow]
      exact add_zero _
    · intro l j hj hj' hjA
      show D j < gat (F := Ideal) (e := .f32) tv (broadcast S16 15#32) (ln l)
      rw [gat_ln (F := Ideal) (e := .f32) tv _ l 15 rfl]
      by_contra hle
      have h16 := ha.card (A := A) (v := tx) (l := 15) ((not_lt.mp hle).trans hjA)
      rw [hlow] at h16
      have := lowD_card_lt hj hj' hjA
      have : ((15 : Fin 16) : ℕ) = 15 := rfl
      omega

theorem Reach.inv (hA : A < ⊤) (hc : (lowD D A 4096).card ≤ 16) {de : ℕ → ℕ → Vec Ideal S16 .f32} (hk : Keys D de)
    {bd : Vec Ideal S224 .f32} {bi : Vec Ideal S224 .i32} {n : ℕ} {s : St Ideal} {b : Vec Ideal S16 .f32} (h : Reach de bd bi n s b)
    (hn : n ≤ 31) : Inv D A n s ∧ Bnd D A b (128 * n) := by
  have htop : ∀ l : Fin 16, (infV (F := Ideal) (ln l) : EReal) = ⊤ := fun _ => inf_top
  induction h with
  | zero =>
    have hb : Bnd D A (infV (F := Ideal)) (128 * 0) := fun l j _ _ h => by rw [htop]; exact lt_of_le_of_lt h hA
    refine ⟨⟨fun a b _ => le_rfl, Nat.zero_le _, ?_, hb⟩, hb⟩
    have : lowR A (infV (F := Ideal)) lanes = 0 := Finset.sum_eq_zero fun l _ => low_of_lt (by rw [htop]; exact hA)
    show lowR A (infV (F := Ideal)) lanes + lowP A bd bi 0 = lowD D A 0
    rw [this]
    rfl
  | succ h ha ih =>
    obtain ⟨i, b⟩ := ih (by omega)
    exact ⟨ha.inv hA hc hk (by omega) b i, i.bound.mono (by omega)⟩

/-! ## What the row stores -/

theorem strictMono_fin_eq {n : ℕ} (f : Fin n → Fin n) (h : StrictMono f) (l : Fin n) : f l = l := by
  have hb : Function.Bijective f := Finite.injective_iff_bijective.mp h.injective
  exact congrArg (fun e : Fin n ≃o Fin n => e l) (Subsingleton.elim (StrictMono.orderIsoOfSurjective f h hb.2) (OrderIso.refl _))

theorem sum_single {n : ℕ} {β : Type} (f : Fin n → β) : (∑ l : Fin n, ({f l} : Multiset β)) = Finset.univ.val.map f := by
  have := Multiset.sum_map_singleton (Finset.univ.val.map f)
  rw [Multiset.map_map] at this
  exact this

/-- Ascending keys with the sixteen points' pairs are those points' pairs, in order. -/
theorem lanes_of_low {J : Fin 16 → ℕ} (hJ : StrictMono fun l => D (J l)) {k : Vec Ideal S16 .f32} {v : Vec Ideal S16 .i32} (ha : Asc k)
    (h : lowR A k v = ∑ l : Fin 16, {(D (J l), BitVec.ofNat 32 (J l))}) (l : Fin 16) :
    (k (ln l) : EReal) = D (J l) ∧ v (ln l) = BitVec.ofNat 32 (J l) := by
  have hcard : (lowR A k v).card = 16 := by rw [h, Multiset.card_sum]; simp
  have hle : ∀ l : Fin 16, (k (ln l) : EReal) ≤ A := by
    by_contra hne
    push Not at hne
    obtain ⟨n, hn⟩ := hne
    have : (lowR A k v).card ≤ 15 := by
      unfold lowR
      rw [Multiset.card_sum, ← Finset.add_sum_erase _ _ (Finset.mem_univ n), low_of_lt hn, Multiset.card_zero, zero_add]
      refine (Finset.sum_le_card_nsmul _ _ 1 fun l _ => low_card_le _ _ _).trans ?_
      simp
    omega
  have e : lowR A k v = ∑ l : Fin 16, {((k (ln l) : EReal), (v (ln l) : BitVec 32))} :=
    Finset.sum_congr rfl fun l _ => low_of_le (hle l)
  rw [e, sum_single, sum_single] at h
  have hg : Function.Injective fun l : Fin 16 => (D (J l), BitVec.ofNat 32 (J l)) := fun a b hab => hJ.injective (congrArg Prod.fst hab)
  have hnd : (Finset.univ.val.map fun l : Fin 16 => ((k (ln l) : EReal), (v (ln l) : BitVec 32))).Nodup := by
    rw [h]
    exact Finset.univ.nodup.map hg
  have hf : Function.Injective fun l : Fin 16 => ((k (ln l) : EReal), (v (ln l) : BitVec 32)) := fun a b hab =>
    Multiset.inj_on_of_nodup_map hnd a (Finset.mem_univ a) b (Finset.mem_univ b) hab
  have hex : ∀ l : Fin 16, ∃ n : Fin 16, ((k (ln l) : EReal), (v (ln l) : BitVec 32)) = (D (J n), BitVec.ofNat 32 (J n)) := by
    intro l
    have : ((k (ln l) : EReal), (v (ln l) : BitVec 32)) ∈ Finset.univ.val.map fun l : Fin 16 => (D (J l), BitVec.ofNat 32 (J l)) := by
      rw [← h]
      exact Multiset.mem_map_of_mem (fun l : Fin 16 => ((k (ln l) : EReal), (v (ln l) : BitVec 32))) (Finset.mem_univ l)
    obtain ⟨n, -, hn⟩ := Multiset.mem_map.mp this
    exact ⟨n, hn.symm⟩
  choose σ hσ using hex
  have hinj : Function.Injective σ := fun a b hab => hf ((hσ a).trans ((congrArg (fun n => (D (J n), BitVec.ofNat 32 (J n))) hab).trans (hσ b).symm))
  have hmono : StrictMono σ := by
    intro a b hab
    refine lt_of_le_of_ne (hJ.le_iff_le.mp ?_) fun he => hab.ne (hinj he)
    have h1 : (k (ln a) : EReal) = D (J (σ a)) := congrArg Prod.fst (hσ a)
    have h2 : (k (ln b) : EReal) = D (J (σ b)) := congrArg Prod.fst (hσ b)
    show D (J (σ a)) ≤ D (J (σ b))
    rw [← h1, ← h2]
    exact ha a b hab.le
  have := hσ l
  rw [strictMono_fin_eq σ hmono l] at this
  exact ⟨congrArg Prod.fst this, congrArg Prod.snd this⟩

theorem gat_any {e : EltTy} (f : Vec Ideal S16 e) (idx : IVec S16 32) (l : Fin 16) :
    gat f idx (ln l) = f (ln ⟨(idx (ln l)).toNat % 16, Nat.mod_lt _ (by decide)⟩) := by
  unfold gat
  congr 1

/-- Distinct keys leave the indices as they are. -/
theorem fixup_ln {k : Vec Ideal S16 .f32} {v : Vec Ideal S16 .i32} (h : ∀ a b : Fin 16, (k (ln a) : EReal) = k (ln b) → a = b) (l : Fin 16) :
    fixup k v (ln l) = v (ln l) := by
  have key : ∀ (idx : IVec S16 32), (FloatOps.cmpf (F := Ideal) (φ := .f32) .oeq (k (ln l)) (gat (F := Ideal) (e := .f32) k idx (ln l)) = 1#1 →
      gat (F := Ideal) (e := .i32) v idx (ln l) = v (ln l)) := by
    intro idx he
    rw [ideal_oeq, gat_any] at he
    rw [gat_any, ← h _ _ he]
  have hand : ∀ a b : BitVec 1, a &&& b = 1#1 → a = 1#1 := by decide
  unfold fixup
  show (if _ &&& _ = 1#1 then _ else if _ &&& _ = 1#1 then _ else _) = _
  split
  next h1 => exact key _ (hand _ _ h1)
  next =>
    split
    next h2 => exact key _ (hand _ _ h2)
    next => rfl

/-- A row whose sixteen nearest points are `J`, in order, all other points farther, stores `J`. -/
theorem RowR.best {de : ℕ → ℕ → Vec Ideal S16 .f32} {w : Vec Ideal S16 .i32} (h : RowR de w) (hk : Keys D de) {J : Fin 16 → ℕ}
    (hJ : StrictMono fun l => D (J l)) (hlt : D (J 15) < ⊤) (hr : ∀ l, J l < 4096) (hall : ∀ j < 4096, D j ≤ D (J 15) → ∃ l, J l = j) (l : Fin 16) :
    w (ln l) = BitVec.ofNat 32 (J l) := by
  obtain ⟨bd, bi, s, b, s', tv, tx, hR, hA, hF, rfl⟩ := h
  have hinj : Function.Injective J := fun a b hab => hJ.injective (congrArg D hab)
  have hle : ∀ l, D (J l) ≤ D (J 15) := fun l => hJ.monotone (Fin.le_last l)
  have hG : lowD D (D (J 15)) 4096 = ∑ l : Fin 16, {(D (J l), BitVec.ofNat 32 (J l))} := by
    unfold lowD
    have : ∀ l : Fin 16, low (D (J 15)) (D (J l)) (BitVec.ofNat 32 (J l)) = {(D (J l), BitVec.ofNat 32 (J l))} := fun l => low_of_le (hle l)
    rw [← Finset.sum_congr rfl fun l _ => this l, ← Finset.sum_image (g := J) (s := Finset.univ) (f := fun j => low (D (J 15)) (D j) (BitVec.ofNat 32 j)) fun a _ b _ hab => hinj hab]
    symm
    refine Finset.sum_subset (fun j hj => ?_) fun j hj hn => low_of_lt ?_
    · obtain ⟨l, -, rfl⟩ := Finset.mem_image.mp hj
      exact Finset.mem_range.mpr (hr l)
    · by_contra hle'
      obtain ⟨l, rfl⟩ := hall j (Finset.mem_range.mp hj) (not_lt.mp hle')
      exact hn (Finset.mem_image_of_mem J (Finset.mem_univ l))
  have hc : (lowD D (D (J 15)) 4096).card = 16 := by rw [hG, Multiset.card_sum]; simp
  obtain ⟨i, hb⟩ := hR.inv hlt hc.le hk le_rfl
  have i' := hA.inv hlt hc.le hk (by omega) hb i
  have hpos := i'.pos
  have hB := lowB_all (D (J 15)) s'.bd s'.bi (hi := 192) (by omega : s'.pos.toNat ≤ 192)
  have hl := i'.low
  have hB' : lowB (D (J 15)) s'.bd s'.bi s'.pos.toNat 0 192 = lowP (D (J 15)) s'.bd s'.bi s'.pos.toNat := hB
  rw [← hB', show 128 * (31 + 1) = 4096 from rfl] at hl
  obtain ⟨ha, e⟩ := hF.low hlt (by omega) i'.asc (by rw [hl, hc])
  rw [hl, hG] at e
  have hw := lanes_of_low hJ ha e
  rw [fixup_ln (fun a b hab => hJ.injective (by show D (J a) = D (J b); rw [← (hw a).1, ← (hw b).1]; exact hab)), (hw l).2]

end Cert.Proof.Knn
-- ==== Proof.Near.lean ====
/-
  The reference's result over the extended reals: of each point, the indices of its sixteen nearest.
-/
module

public import proofs.«01_k».proof.Proof.Gen.ReferenceIdeal
public import Idealize.ShloMosaic.Lib.Pointwise
public import Idealize.ShloMosaic.Lib.SortFacts
public import Idealize.ShloMosaic.Lib.ReduceAll
public import proofs.«01_k».proof.Pre_separated

@[expose] public section

noncomputable section

namespace Cert.Proof.Near

open Cert.ReferenceIdeal Cert.ReferenceIdeal.Gen

open Idealize.ShloMosaic

/-! ## A top-k at an index -/

/-- The order in which a top-k takes the positions of one fiber. -/
def order {α : Type} {N : ℕ} (gt : α → α → BitVec 1) (P : Fin N → α) (r : Fin N) : Fin N :=
  sortedFrom (fun k k' => gt (P k) (P k') == 1#1) r

theorem topK_apply {α : Type} {A B N K : ℕ} (gt : α → α → BitVec 1) (x : (⟨3, ![A, B, N]⟩ : Shape).Idx → α) (hK : K ≤ N)
    (h : (⟨3, ![A, B, N]⟩ : Shape).Slices (fun _ => 0) ⟨3, ![A, B, K]⟩) (b : Fin A) (i : Fin B) (r : Fin K) :
    (Host.topK ⟨3, ![A, B, K]⟩ 2 gt x h).1 (ix3 b i r) = x (ix3 b i (order gt (fun k => x (ix3 b i k)) (r.castLE hK)))
      ∧ (Host.topK ⟨3, ![A, B, K]⟩ 2 gt x h).2 (ix3 b i r) = BitVec.ofNat 32 (order gt (fun k => x (ix3 b i k)) (r.castLE hK)).val := by
  have hd : 2 < (⟨3, ![A, B, N]⟩ : Shape).rank := Nat.lt_succ_self 2
  have ej : (fun a : Fin 3 => (⟨0 + (ix3 b i r a).val, Nat.lt_of_lt_of_le (Nat.add_lt_add_left (ix3 b i r a).isLt _) (h.2 a)⟩ : Fin ((⟨3, ![A, B, N]⟩ : Shape).size a)))
      = ix3 b i (r.castLE hK) := by
    funext a
    apply Fin.ext
    show 0 + (ix3 b i r a).val = _
    rw [Nat.zero_add]
    fin_cases a <;> rfl
  have ea : ∀ k : Fin N, Shape.Idx.along (s := ⟨3, ![A, B, N]⟩) (ix3 b i (r.castLE hK)) ⟨2, hd⟩ k = ix3 b i k := by
    intro k
    funext a
    fin_cases a <;> rfl
  unfold Host.topK extractStridedSlice Host.sort2
  simp only [dif_pos hd]
  have e : ∀ (j : (⟨3, ![A, B, N]⟩ : Shape).Idx), j = ix3 b i (r.castLE hK) →
      (x (j.along ⟨2, hd⟩ (sortedFrom (fun k k' => gt (x (j.along ⟨2, hd⟩ k)) (x (j.along ⟨2, hd⟩ k')) == 1#1) (j ⟨2, hd⟩)))
        = x (ix3 b i (order gt (fun k => x (ix3 b i k)) (r.castLE hK))))
      ∧ BitVec.ofNat 32 ((j.along ⟨2, hd⟩ (sortedFrom (fun k k' => gt (x (j.along ⟨2, hd⟩ k)) (x (j.along ⟨2, hd⟩ k')) == 1#1) (j ⟨2, hd⟩))) ⟨2, hd⟩).val
        = BitVec.ofNat 32 (order gt (fun k => x (ix3 b i k)) (r.castLE hK)).val := by
    rintro j rfl
    have : (sortedFrom (fun k k' => gt (x ((ix3 b i (r.castLE hK)).along ⟨2, hd⟩ k)) (x ((ix3 b i (r.castLE hK)).along ⟨2, hd⟩ k')) == 1#1) ((ix3 b i (r.castLE hK)) ⟨2, hd⟩) : Fin N)
        = order gt (fun k => x (ix3 b i k)) (r.castLE hK) := by
      unfold order
      exact congrArg (fun f => sortedFrom f (r.castLE hK)) (funext fun k => funext fun k' => by rw [ea, ea])
    exact ⟨(congrArg (fun n => x ((ix3 b i (r.castLE hK)).along ⟨2, hd⟩ n)) this).trans (congrArg x (ea _)),
      congrArg (fun n => BitVec.ofNat 32 (Fin.val n)) ((congrFun (ea _) ⟨2, hd⟩).trans this)⟩
  exact ⟨(e _ ej).1, (e _ ej).2⟩

/-! ## The distances -/

section Terms

variable {F : FTy → Type} [FloatOps F]

/-- The reference's squared distances. -/
def distR (a : FVec F S4x4096x3 .f32) : FVec F S4x4096x4096 .f32 :=
  addf (addf (broadcastInDim S4x4096x4096 ![0, 1, 2] bcast_S4x4096x1_S4x4096x4096_0_1_2 (broadcastInDim S4x4096x1 ![0, 1] bcast_S4x4096_S4x4096x1_0_1 (Host.reduceAdd (mulf a a) (constant S_ .f32 0x00000000#32) reducesTo_S4x4096x3_S4x4096_d2 h_S_))) (mulf (broadcastInDim S4x4096x4096 ![] bcast_S_S4x4096x4096 (constant S_ .f32 0xC0000000#32)) (Host.dotGeneral dot_S4x4096x3_S4x3x4096_S4x4096x4096_2_1_1_2_0_0 none a (transpose S4x3x4096 [0, 2, 1] a transposes_S4x4096x3_S4x3x4096_0_2_1)))) (broadcastInDim S4x4096x4096 ![0, 1, 2] bcast_S4x1x4096_S4x4096x4096_0_1_2 (transpose S4x1x4096 [0, 2, 1] (broadcastInDim S4x4096x1 ![0, 1] bcast_S4x4096_S4x4096x1_0_1 (Host.reduceAdd (mulf a a) (constant S_ .f32 0x00000000#32) reducesTo_S4x4096x3_S4x4096_d2 h_S_)) transposes_S4x4096x1_S4x1x4096_0_2_1))

/-- The reference's distances as its top-k takes them: negated, those above a half replaced by infinity. -/
def nearR (a : FVec F S4x4096x3 .f32) : FVec F S4x4096x4096 .f32 :=
  Host.negf (select (cmpf .ogt (distR a) (broadcastInDim S4x4096x4096 ![] bcast_S_S4x4096x4096 (constant S_ .f32 0x3F000000#32))) (broadcastInDim S4x4096x4096 ![] bcast_S_S4x4096x4096 (id (constant S_ .f32 0x7F800000#32))) (distR a))

end Terms

/-- The square of a point's norm. -/
def sqE (a : FVec Ideal S4x4096x3 .f32) (b : Fin 4) (i : Fin 4096) : EReal := ∑ k : Fin 3, (a (ix3 b i k) : EReal) * a (ix3 b i k)

/-- A pair's squared distance. -/
def distE (a : FVec Ideal S4x4096x3 .f32) (b : Fin 4) (i j : Fin 4096) : EReal :=
  (sqE a b i + (-2 : ℝ) * ∑ k : Fin 3, (a (ix3 b i k) : EReal) * a (ix3 b j k)) + sqE a b j

/-- The same, above a half replaced by infinity. -/
def maskE (a : FVec Ideal S4x4096x3 .f32) (b : Fin 4) (i j : Fin 4096) : EReal :=
  if ((1 / 2 : ℝ) : EReal) < distE a b i j then ⊤ else distE a b i j

theorem cmp_ogt (x y : EReal) : FloatOps.cmpf (F := Ideal) (φ := .f32) .ogt x y = 1#1 ↔ y < x := by
  show BitVec.ofBool (decide (y < x)) = 1#1 ↔ _
  by_cases h : y < x <;> simp [h]

theorem half_eq : Ideal.ofBits .f32 0x3F000000#32 = ((1 / 2 : ℝ) : EReal) := by
  simp [Ideal.ofBits, Ideal.ieee]
  rw [← EReal.coe_mul]
  norm_num

theorem two_eq : Ideal.ofBits .f32 0xC0000000#32 = ((-2 : ℝ) : EReal) := by
  simp [Ideal.ofBits, Ideal.ieee]
  rw [← EReal.coe_mul]
  norm_num

theorem top_eq : Ideal.ofBits .f32 0x7F800000#32 = ⊤ := by simp [Ideal.ofBits, Ideal.ieee]

set_option maxRecDepth 16384 in
theorem distR_apply (a : FVec Ideal S4x4096x3 .f32) (b : Fin 4) (i j : Fin 4096) : distR a (ix3 b i j) = distE a b i j := by
  pointwise [distR]
  rw [two_eq]
  rfl

set_option maxRecDepth 16384 in
theorem nearR_apply (a : FVec Ideal S4x4096x3 .f32) (b : Fin 4) (i j : Fin 4096) : nearR a (ix3 b i j) = -maskE a b i j := by
  unfold nearR maskE
  pointwise
  rw [half_eq, distR_apply]
  show (-if _ then Ideal.ofBits .f32 0x7F800000#32 else _) = _
  rw [top_eq]

theorem slice_apply {α : Type} {A B : ℕ} (o : ℕ) (ho : o ≤ 1) (T : (⟨3, ![A, B, 17]⟩ : Shape).Idx → α)
    (h : (⟨3, ![A, B, 17]⟩ : Shape).Slices ![0, 0, o] ⟨3, ![A, B, 16]⟩) (b : Fin A) (i : Fin B) (r : Fin 16) :
    extractStridedSlice ⟨3, ![A, B, 16]⟩ ![0, 0, o] T h (ix3 b i r) = T (ix3 b i ⟨o + r.val, by omega⟩) := by
  unfold extractStridedSlice
  congr 1
  funext a
  apply Fin.ext
  fin_cases a
  · exact Nat.zero_add _
  · exact Nat.zero_add _
  · rfl

set_option maxRecDepth 16384 in
/-- Under the precondition the seventeen nearest of a point are in strict order. -/
theorem pre_lt [Cert.Pre_separated.Facts] {a : FVec Ideal S4x4096x3 .f32} (h : Cert.Pre_separated.fn (F := Ideal) a = fun _ => 1#1) (b : Fin 4)
    (i : Fin 4096) (r : Fin 16) :
    maskE a b i (order (FloatOps.cmpfTotal (F := Ideal) (φ := .f32) .gt) (fun k => nearR a (ix3 b i k)) ⟨r.val, by omega⟩)
      < maskE a b i (order (FloatOps.cmpfTotal (F := Ideal) (φ := .f32) .gt) (fun k => nearR a (ix3 b i k)) ⟨r.val + 1, by omega⟩) := by
  have h0 := Host.reduce_andi_all _ _ _ _ _ (congrFun h ix0) (ix3 b i r)
  have h1 : cmpf .ogt
      (extractStridedSlice S4x4096x16 ![0, 0, 0] (Host.topK ⟨3, ![4, 4096, 17]⟩ 2 (FloatOps.cmpfTotal .gt) (nearR a) Cert.Pre_separated.Facts.sliceFits_S4x4096x4096_S4x4096x17).1 Cert.Pre_separated.Facts.slices_S4x4096x17_S4x4096x16_0_0_0)
      (extractStridedSlice S4x4096x16 ![0, 0, 1] (Host.topK ⟨3, ![4, 4096, 17]⟩ 2 (FloatOps.cmpfTotal .gt) (nearR a) Cert.Pre_separated.Facts.sliceFits_S4x4096x4096_S4x4096x17).1 Cert.Pre_separated.Facts.slices_S4x4096x17_S4x4096x16_0_0_1)
      (ix3 b i r) = 1#1 := h0
  have h2 := (cmp_ogt _ _).mp h1
  rw [slice_apply 0 (by omega), slice_apply 1 (by omega), (topK_apply _ _ (by omega : 17 ≤ 4096) _ b i _).1, (topK_apply _ _ (by omega : 17 ≤ 4096) _ b i _).1,
    nearR_apply, nearR_apply, EReal.neg_lt_neg_iff] at h2
  convert h2 using 4
  all_goals first | exact (Nat.zero_add _).symm | exact Nat.add_comm _ _

end Cert.Proof.Near
-- ==== Proof.Order.lean ====
/-
  The order of a point's neighbours under the precondition: the sixteen nearest at strictly increasing distances, below
  every other, all coordinates finite.
-/
module

public import proofs.«01_k».proof.Proof.Near

@[expose] public section

noncomputable section

namespace Cert.Proof.Near

open Cert.ReferenceIdeal Cert.ReferenceIdeal.Gen

open Idealize.ShloMosaic

variable (a : FVec Ideal S4x4096x3 .f32) (b : Fin 4) (i : Fin 4096)

/-- The points of batch `b`, in the order the reference's top-k takes them for point `i`. -/
def ordE : Fin 4096 → Fin 4096 := order (FloatOps.cmpfTotal (F := Ideal) (φ := .f32) .gt) (fun k => nearR a (ix3 b i k))

theorem cmp_neg (x y : EReal) : (FloatOps.cmpfTotal (F := Ideal) (φ := .f32) .gt (-x) (-y) == 1#1) = decide (x < y) := by
  show (BitVec.ofBool (decide (-y < -x)) == 1#1) = _
  have : (-y < -x) = (x < y) := propext EReal.neg_lt_neg_iff
  simp only [this]
  by_cases h : x < y <;> simp [h]

theorem ordE_eq : ordE a b i = fun r => sortedFrom (fun k k' => decide (maskE a b i k < maskE a b i k')) r := by
  funext r
  unfold ordE order
  exact congrArg (fun f => sortedFrom f r) (funext fun k => funext fun k' => by beta_reduce; rw [nearR_apply, nearR_apply, cmp_neg])

theorem ordE_surj : Function.Surjective (ordE a b i) := by rw [ordE_eq]; exact sortedFrom_surjective _

theorem ordE_le {r r' : Fin 4096} (h : r ≤ r') : maskE a b i (ordE a b i r) ≤ maskE a b i (ordE a b i r') := by
  rcases h.eq_or_lt with rfl | h
  · exact le_rfl
  rw [ordE_eq]
  have := sortedFrom_noInversion (fun k k' => decide (maskE a b i k < maskE a b i k')) (fun k k' => decide (maskE a b i k < maskE a b i k'))
    (fun x y h => by simp only [decide_eq_true_eq, decide_eq_false_iff_not, not_lt] at h ⊢; exact h.le)
    (fun x y h => h)
    (fun x y z h h' => by simp only [decide_eq_false_iff_not, not_lt] at h h' ⊢; exact h'.trans h) r r' h
  simpa only [decide_eq_false_iff_not, not_lt] using this

/-- The `l`-th nearest of point `i`. -/
def nearest (l : Fin 16) : ℕ := (ordE a b i ⟨l.val, by omega⟩).val

/-- A distance by a position's number. -/
def distN (j : ℕ) : EReal := maskE a b i ⟨j % 4096, Nat.mod_lt _ (by decide)⟩

theorem distN_of (j : Fin 4096) : distN a b i j.val = maskE a b i j := by
  unfold distN
  congr 1
  exact Fin.ext (Nat.mod_eq_of_lt j.isLt)

section Pre

variable [Cert.Pre_separated.Facts] {a} (h : Cert.Pre_separated.fn (F := Ideal) a = fun _ => 1#1)

include h

theorem step_lt (r : Fin 16) : maskE a b i (ordE a b i ⟨r.val, by omega⟩) < maskE a b i (ordE a b i ⟨r.val + 1, by omega⟩) := pre_lt h b i r

theorem nearest_mono : StrictMono fun l => distN a b i (nearest a b i l) := by
  rw [Fin.strictMono_iff_lt_succ (n := 15)]
  intro l
  show distN a b i (ordE a b i _).val < distN a b i (ordE a b i _).val
  rw [distN_of, distN_of]
  exact step_lt b i h ⟨l.val, by omega⟩

theorem nearest_top : distN a b i (nearest a b i 15) < ⊤ := by
  show distN a b i (ordE a b i _).val < _
  rw [distN_of]
  exact (step_lt b i h 15).trans_le le_top

omit [Cert.Pre_separated.Facts] h in
theorem nearest_lt (l : Fin 16) : nearest a b i l < 4096 := (ordE a b i _).isLt

theorem nearest_all (j : ℕ) (hj : j < 4096) (hl : distN a b i j ≤ distN a b i (nearest a b i 15)) : ∃ l, nearest a b i l = j := by
  obtain ⟨r, hr⟩ := ordE_surj a b i ⟨j, hj⟩
  have e : j = (ordE a b i r).val := by rw [hr]
  by_cases h16 : r.val < 16
  · exact ⟨⟨r.val, h16⟩, e.symm⟩
  · exfalso
    have hl' : maskE a b i (ordE a b i r) ≤ maskE a b i (ordE a b i ⟨15, by omega⟩) := by
      rw [← distN_of, ← distN_of, ← e]; exact hl
    exact absurd (hl'.trans_lt (step_lt b i h 15)) (not_lt.mpr (ordE_le a b i (Fin.mk_le_of_le_val (by show 16 ≤ _; omega))))

/-! ## The coordinates are finite -/

omit [Cert.Pre_separated.Facts] h in
theorem sq_nonneg' (x : EReal) : 0 ≤ x * x := by
  rcases le_total 0 x with hx | hx
  · exact mul_nonneg hx hx
  · rw [← neg_mul_neg]; exact mul_nonneg (EReal.neg_nonneg.mpr hx) (EReal.neg_nonneg.mpr hx)

omit [Cert.Pre_separated.Facts] h in
theorem sqE_nonneg (b : Fin 4) (i : Fin 4096) : 0 ≤ sqE a b i := Finset.sum_nonneg fun _ _ => sq_nonneg' _

omit [Cert.Pre_separated.Facts] h in
theorem sqE_top {k : Fin 3} (hk : a (ix3 b i k) = (⊤ : EReal) ∨ a (ix3 b i k) = (⊥ : EReal)) : sqE a b i = ⊤ := by
  have h1 : (a (ix3 b i k) : EReal) * a (ix3 b i k) = ⊤ := by rcases hk with hk | hk <;> rw [hk] <;> rfl
  refine top_unique (h1 ▸ ?_)
  exact Finset.single_le_sum (f := fun k : Fin 3 => (a (ix3 b i k) : EReal) * a (ix3 b i k)) (fun _ _ => sq_nonneg' _) (Finset.mem_univ k)

omit [Cert.Pre_separated.Facts] h in
theorem mask_inf (hs : sqE a b i = ⊤) (j : Fin 4096) : maskE a b i j = ⊤ ∨ maskE a b i j = ⊥ := by
  have hd : distE a b i j = ⊤ ∨ distE a b i j = ⊥ := by
    unfold distE
    rw [hs]
    by_cases hx : ((-2 : ℝ) : EReal) * ∑ k : Fin 3, (a (ix3 b i k) : EReal) * a (ix3 b j k) = ⊥
    · right; rw [hx]; rfl
    · left
      rw [EReal.top_add_of_ne_bot hx]
      exact EReal.top_add_of_ne_bot (ne_of_gt (lt_of_lt_of_le (by exact EReal.bot_lt_zero) (sqE_nonneg b j)))
  unfold maskE
  split
  · exact Or.inl rfl
  · exact hd

omit [Cert.Pre_separated.Facts] h in
theorem between {x y z : EReal} (h0 : x < y) (h1 : y < z) (e : y = ⊤ ∨ y = ⊥) : False := by
  rcases e with rfl | rfl
  · exact not_top_lt h1
  · exact not_lt_bot h0

theorem finite (k : Fin 3) : (a (ix3 b i k) : EReal) ≠ ⊤ ∧ (a (ix3 b i k) : EReal) ≠ ⊥ := by
  by_contra hn
  have hk : a (ix3 b i k) = (⊤ : EReal) ∨ a (ix3 b i k) = (⊥ : EReal) := by
    by_contra hc; exact hn (not_or.mp hc)
  have hs := sqE_top b i hk
  exact between (step_lt b i h ⟨0, by omega⟩) (step_lt b i h ⟨1, by omega⟩) (mask_inf b i hs _)

end Pre

end Cert.Proof.Near
-- ==== Proof.Dist.lean ====
/-
  The keys the program compares over the extended reals: at finite coordinates, the reference's distances.
-/
module

public import proofs.«01_k».proof.Proof.Plumb
public import proofs.«01_k».proof.Proof.Best
public import proofs.«01_k».proof.Proof.Order

@[expose] public section

noncomputable section

namespace Cert.Proof.Knn

open Cert.KernelIdeal Cert.KernelIdeal.Gen

open Idealize.ShloMosaic

/-! ## One lane -/

theorem scaled_eq (a : EReal) : (scaled (F := Ideal) a : EReal) = a * ((-2 : ℝ) : EReal) := by
  rw [← Near.two_eq]; rfl

theorem normSq_eq (a b c : EReal) : (normSq (F := Ideal) a b c : EReal) = (a * a + b * b) + c * c := rfl

theorem sel_eq (t d m : EReal) : Scalar.select (BitVec.ofBool (decide (t < d))) m d = if t < d then m else d := by
  split <;> rename_i h
  · rw [decide_eq_true h]; rfl
  · rw [decide_eq_false h]; rfl

theorem dist_eq (bx bY bz sq x2 y2 z2 cs : Vec Ideal S16 .f32) (x : S16.Idx) (d : EReal)
    (hd : ((sq x : EReal) + ((bx x * x2 x + bY x * y2 x) + bz x * z2 x)) + cs x = d) :
    (dist bx bY bz sq x2 y2 z2 cs x : EReal) = if ((1 / 2 : ℝ) : EReal) < d then ⊤ else d := by
  subst hd
  rw [← Near.half_eq, ← Near.top_eq]
  exact sel_eq _ _ _

theorem lift_dist {x y z u v w : EReal} (hx : x ≠ ⊤ ∧ x ≠ ⊥) (hy : y ≠ ⊤ ∧ y ≠ ⊥) (hz : z ≠ ⊤ ∧ z ≠ ⊥) (hu : u ≠ ⊤ ∧ u ≠ ⊥)
    (hv : v ≠ ⊤ ∧ v ≠ ⊥) (hw : w ≠ ⊤ ∧ w ≠ ⊥) :
    (((x * x + y * y) + z * z) + ((x * (u * ((-2 : ℝ) : EReal)) + y * (v * ((-2 : ℝ) : EReal))) + z * (w * ((-2 : ℝ) : EReal)))) + ((u * u + v * v) + w * w)
      = (((x * x + y * y) + z * z) + ((-2 : ℝ) : EReal) * ((x * u + y * v) + z * w)) + ((u * u + v * v) + w * w) := by
  lift x to ℝ using hx
  lift y to ℝ using hy
  lift z to ℝ using hz
  lift u to ℝ using hu
  lift v to ℝ using hv
  lift w to ℝ using hw
  norm_cast
  ring_nf

theorem splat_at (v : Vec Ideal S16 .f32) (j : Fin k0_t3_loop.trips) (l : Fin 16) : splat v j.val (ln l) = v (ln ⟨j.val, j.isLt⟩) := by
  refine gat_ln v _ l ⟨j.val, j.isLt⟩ ?_
  have hj : j.val < 16 := j.isLt
  show (Scf.iv 0#32 1#32 j.val).toNat = _
  simp only [Scf.iv, BitVec.toNat_add, BitVec.toNat_mul, BitVec.toNat_ofNat]
  omega

theorem blk_at {n : ℕ} (f : Vec Ideal ⟨1, ![n]⟩ .f32) (hn : 0 < n) (p : ℕ) (l : Fin 16) (q : Fin n) (h : q.val = p + l.val) : blk f hn p (ln l) = wd f q := by
  show wd f _ = _
  congr 1
  apply Fin.ext
  show (p + l.val) % n = _
  rw [← h, Nat.mod_eq_of_lt q.isLt]

/-! ## A row's keys -/

variable (A : Vec Ideal S4x4096x3 .f32)

/-- The row of its batch that the `j`-th of group `g` of a subcore is. -/
def rowAt (p : Fin 2 × Fin 16) (g : Fin k0_t2_loop.trips) (j : Fin k0_t3_loop.trips) : Fin 4096 :=
  ⟨512 * ((wid p).val % 8) + 16 * g.val + j.val, by have hg : g.val < 32 := g.isLt; have hj : j.val < 16 := j.isLt; omega⟩

theorem keys_at {p : Fin 2 × Fin 16} (hf : ∀ i k, (A (ix3 (bat p) i k) : EReal) ≠ ⊤ ∧ (A (ix3 (bat p) i k) : EReal) ≠ ⊥) {c : Coords Ideal}
    (hc : ReadyTo (batchX (at_ p) (flatX A)) (batchY (at_ p) (flatY A)) (batchZ (at_ p) (flatZ A)) 4096 c) (g : Fin k0_t2_loop.trips) (j : Fin k0_t3_loop.trips) :
    Keys (Near.distN A (bat p) (rowAt p g j)) (keysAt c (at_ p) g j.val) := by
  obtain ⟨x, y, z, x2, y2, z2, cs⟩ := c
  obtain ⟨hx, hy, hz, h2x, h2y, h2z, hcs⟩ := hc
  dsimp only at hx hy hz h2x h2y h2z hcs
  subst hx hy hz
  intro n hn u hu l
  have hq : 128 * n + 16 * u + l.val < 4096 := by omega
  set q : Fin 4096 := ⟨128 * n + 16 * u + l.val, hq⟩ with hqd
  rw [show 128 * n + 16 * u + l.val = q.val from rfl, Near.distN_of]
  unfold Near.maskE
  refine dist_eq _ _ _ _ _ _ _ _ (ln l) _ ?_
  have e0 : ∀ f : Vec Ideal S4096 .f32, blk (n := 4096) f (by decide) (128 * n + 16 * u) (ln l) = wd (n := 4096) f q := fun f => blk_at f _ _ l q rfl
  have e1 : ∀ f : Vec Ideal S4096 .f32, blk (n := 4096) f (by decide) (k0_off3 (at_ p) g 0) (ln ⟨j.val, j.isLt⟩) = wd (n := 4096) f (rowAt p g j) :=
    fun f => blk_at f _ _ ⟨j.val, j.isLt⟩ _ (by rw [off3_at]; rfl)
  rw [e0, e0, e0, e0, splat_at, splat_at, splat_at, splat_at, h2x q hq, h2y q hq, h2z q hq, hcs q hq, batchX_at, batchY_at, batchZ_at]
  have p5 : ∀ v : Vec Ideal S16 .f32, k0_pay5 v (ln ⟨j.val, j.isLt⟩) = v (ln ⟨j.val, j.isLt⟩) := fun _ => rfl
  have p6 : ∀ v : Vec Ideal S16 .f32, k0_pay6 v (ln ⟨j.val, j.isLt⟩) = v (ln ⟨j.val, j.isLt⟩) := fun _ => rfl
  have p7 : ∀ v : Vec Ideal S16 .f32, k0_pay7 v (ln ⟨j.val, j.isLt⟩) = v (ln ⟨j.val, j.isLt⟩) := fun _ => rfl
  have p8 : ∀ u v w : Vec Ideal S16 .f32, k0_pay8 u v w (ln ⟨j.val, j.isLt⟩) = normSq (u (ln ⟨j.val, j.isLt⟩)) (v (ln ⟨j.val, j.isLt⟩)) (w (ln ⟨j.val, j.isLt⟩)) := fun _ _ _ => rfl
  rw [p5, p6, p7, p8, e1, e1, e1, batchX_at, batchY_at, batchZ_at, scaled_eq, scaled_eq, scaled_eq, normSq_eq, normSq_eq]
  refine (lift_dist (hf _ 0) (hf _ 1) (hf _ 2) (hf _ 0) (hf _ 1) (hf _ 2)).trans ?_
  unfold Near.distE Near.sqE
  rw [Fin.sum_univ_three, Fin.sum_univ_three, Fin.sum_univ_three]

end Cert.Proof.Knn
-- ==== Proof.Value.lean ====
/-
  The result over the extended reals, under the precondition: the two programs' arrays are equal.
-/
module

public import proofs.«01_k».proof.Defs
public import proofs.«01_k».proof.Proof.Dist
public import proofs.«01_k».proof.Proof.Gen.ReferenceIdeal.Run

@[expose] public section

noncomputable section

namespace Cert.Proof.Knn

open Cert.KernelIdeal Cert.KernelIdeal.Gen

open Idealize.ShloMosaic Idealize.SL.Sem

/-- The reference's indices. -/
def indices (A : Vec Ideal S4x4096x3 .f32) : Vec Ideal S4x4096x16 .i32 :=
  (Host.topK S4x4096x16 2 (FloatOps.cmpfTotal (F := Ideal) (φ := .f32) .gt) (Near.nearR A) Cert.ReferenceIdeal.Gen.sliceFits_S4x4096x4096_S4x4096x16).2

theorem indices_at (A : Vec Ideal S4x4096x3 .f32) (b : Fin 4) (i : Fin 4096) (k : Fin 16) :
    indices A (ix3 b i k) = BitVec.ofNat 32 (Near.nearest A b i k) :=
  (Near.topK_apply _ _ (by omega : 16 ≤ 4096) _ b i k).2

variable [Cert.Pre_separated.Facts]

theorem rows_eq {A : Vec Ideal S4x4096x3 .f32} (h : Cert.Pre_separated.fn (F := Ideal) A = fun _ => 1#1) {f : Vec Ideal S262144 .i32}
    (hf : ∀ p, TileOk (flatX A) (flatY A) (flatZ A) (at_ p) f) : shapeCast S4x4096x16 f shapeCasts_S262144_S4x4096x16 = indices A := by
  funext x
  obtain ⟨b, i, k, rfl⟩ : ∃ (b : Fin 4) (i : Fin 4096) (k : Fin 16), x = ix3 b i k := ⟨x 0, x 1, x 2, (ix3_eta x).symm⟩
  have hb := b.isLt
  have hi := i.isLt
  have hk := k.isLt
  rw [indices_at]
  refine (unflat_at f _ b i k ⟨(b.val * 4096 + i.val) * 16 + k.val, by omega⟩ rfl).trans ?_
  obtain ⟨p, hp⟩ := wid_surj ⟨8 * b.val + i.val / 512, by omega⟩
  have hp' : (wid p).val = 8 * b.val + i.val / 512 := congrArg Fin.val hp
  obtain ⟨c, hc, hr⟩ := hf p
  let g : Fin k0_t2_loop.trips := ⟨i.val % 512 / 16, by show _ < 32; omega⟩
  let j : Fin k0_t3_loop.trips := ⟨i.val % 16, by show _ < 16; omega⟩
  have hg : g.val = i.val % 512 / 16 := rfl
  have hj : j.val = i.val % 16 := rfl
  obtain ⟨w, hw, hs⟩ := hr g j (by omega)
  have eb : bat p = b := Fin.ext (by show (wid p).val / 8 = _; omega)
  have ei : rowAt p g j = i := Fin.ext (by show 512 * ((wid p).val % 8) + 16 * g.val + j.val = _; omega)
  have hkeys := keys_at A (p := p) (fun i k => Near.finite (bat p) i h k) hc g j
  rw [eb, ei] at hkeys
  have hbest := RowR.best hw hkeys (Near.nearest_mono b i h) (Near.nearest_top b i h) (Near.nearest_lt b i) (Near.nearest_all b i h) k
  rw [← hbest, ← hs k ⟨256 * g.val + 16 * j.val + k.val, by omega⟩ rfl, rows_apply, wd_ix1]
  have en : (b.val * 4096 + i.val) * 16 + k.val = 8192 * (wid p).val + (256 * g.val + 16 * j.val + k.val) := by rw [hp', hg, hj]; omega
  exact congrArg (fun n => f (ix1 n)) (Fin.ext en)

end Cert.Proof.Knn

namespace Cert.Proof

open Idealize.ShloMosaic Idealize.SL.Sem

variable [Cert.Pre_separated.Facts]

theorem algebraic : Cert.algebraic_KernelIdeal_ReferenceIdeal_pre_separated := fun m g m' g' hpre heq => by
  refine ⟨fun c => Knn.assembled (Knn.indices (m ((c.tc : Thread Cert.KernelIdeal.nD Cert.KernelIdeal.τ).loc Cert.KernelIdeal.main_arg0))), ?_, ?_⟩
  · refine (θ_run Cert.KernelIdeal.defs _ _).mono (fun r hr c => ?_) (Knn.run_main (F := Ideal) m g)
    obtain ⟨⟨f, hf, e⟩, ea⟩ := hr.1 c
    exact ⟨e.trans (congrArg Knn.assembled (Knn.rows_eq (hpre c) hf)), ea⟩
  · refine (θ_run Cert.ReferenceIdeal.defs _ _).mono (fun r hr c => ?_) (Cert.ReferenceIdeal.Value.run (F := Ideal) m' g')
    obtain ⟨e, ea⟩ := hr c
    refine ⟨e.trans ?_, ea⟩
    rw [heq c]
    rfl

end Cert.Proof

end
-- ==== Proof.lean ====
/-
  The claims: the three frames, that the idealised program is the printed one read at the ideal instance, and that its
  result is the reference's.
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

/-- The precondition's side conditions. -/
theorem facts_separated : Cert.Pre_separated.Facts where
  transposes_S4x4096x3_S4x3x4096_0_2_1 := Cert.ReferenceIdeal.Gen.transposes_S4x4096x3_S4x3x4096_0_2_1
  bcast_S_S4x4096x4096 := Cert.ReferenceIdeal.Gen.bcast_S_S4x4096x4096
  reducesTo_S4x4096x3_S4x4096_d2 := Cert.ReferenceIdeal.Gen.reducesTo_S4x4096x3_S4x4096_d2
  h_S_ := Cert.ReferenceIdeal.Gen.h_S_
  bcast_S4x4096_S4x4096x1_0_1 := Cert.ReferenceIdeal.Gen.bcast_S4x4096_S4x4096x1_0_1
  bcast_S4x4096x1_S4x4096x4096_0_1_2 := Cert.ReferenceIdeal.Gen.bcast_S4x4096x1_S4x4096x4096_0_1_2
  transposes_S4x4096x1_S4x1x4096_0_2_1 := Cert.ReferenceIdeal.Gen.transposes_S4x4096x1_S4x1x4096_0_2_1
  bcast_S4x1x4096_S4x4096x4096_0_1_2 := Cert.ReferenceIdeal.Gen.bcast_S4x1x4096_S4x4096x4096_0_1_2
  sliceFits_S4x4096x4096_S4x4096x17 := by decide
  slices_S4x4096x17_S4x4096x16_0_0_0 := by decide
  slices_S4x4096x17_S4x4096x16_0_0_1 := by decide
  reducesTo_S4x4096x16_S_d0_1_2 := by decide
  dot_S4x4096x3_S4x3x4096_S4x4096x4096_2_1_1_2_0_0_wf := Cert.ReferenceIdeal.Gen.dot_S4x4096x3_S4x3x4096_S4x4096x4096_2_1_1_2_0_0_wf

theorem claim : Cert.Claim :=
  ⟨Cert.Kernel.Gen.facts, Cert.KernelIdeal.Gen.facts, Cert.ReferenceIdeal.Gen.facts, facts_separated, frame_kernel, frame_kernelIdeal,
    letI := facts_separated; frame_kernelIdeal_pre, frame_referenceIdeal, letI := facts_separated; frame_referenceIdeal_pre, trivial,
    letI := facts_separated; algebraic⟩

end Cert.Proof

end
